-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "scale_log2e" .f32 0x3E0293EE#32 (((Real.sqrt 128)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)) (v4 : (c : Dev Cert.Kernel3Ideal.nD) → Buf (Elt Ideal) ((c.tc : Thread Cert.Kernel3Ideal.nD Cert.Kernel3Ideal.τ).loc Cert.Kernel3Ideal.main_v19_4)) (v5 : (c : Dev Cert.Kernel3Ideal.nD) → Buf (Elt Ideal) ((c.tc : Thread Cert.Kernel3Ideal.nD Cert.Kernel3Ideal.τ).loc Cert.Kernel3Ideal.main_v19_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_v19_4) = v4 c
          ∧ r.2.mem ((c.tc : Thread Cert.Kernel3Ideal.nD Cert.Kernel3Ideal.τ).loc Cert.Kernel3Ideal.main_v19_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v178) = v0 c
          ∧ r.2.mem ((c.tc : Thread Cert.Reference3Ideal.nD Cert.Reference3Ideal.τ).loc Cert.Reference3Ideal.main_v179) = v1 c
          ∧ r.2.mem ((c.tc : Thread Cert.Reference3Ideal.nD Cert.Reference3Ideal.τ).loc Cert.Reference3Ideal.main_v180) = v2 c
          ∧ r.2.mem ((c.tc : Thread Cert.Reference3Ideal.nD Cert.Reference3Ideal.τ).loc Cert.Reference3Ideal.main_v181) = v3 c
          ∧ r.2.mem ((c.tc : Thread Cert.Reference3Ideal.nD Cert.Reference3Ideal.τ).loc Cert.Reference3Ideal.main_v182) = v4 c
          ∧ r.2.mem ((c.tc : Thread Cert.Reference3Ideal.nD Cert.Reference3Ideal.τ).loc Cert.Reference3Ideal.main_v183) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "scale_log2e" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v120) = v0 c
          ∧ r.2.mem ((c.tc : Thread Cert.Reference5Ideal.nD Cert.Reference5Ideal.τ).loc Cert.Reference5Ideal.main_v121) = v1 c
          ∧ r.2.mem ((c.tc : Thread Cert.Reference5Ideal.nD Cert.Reference5Ideal.τ).loc Cert.Reference5Ideal.main_v122) = v2 c
          ∧ r.2.mem ((c.tc : Thread Cert.Reference5Ideal.nD Cert.Reference5Ideal.τ).loc Cert.Reference5Ideal.main_v123) = v3 c
          ∧ r.2.mem ((c.tc : Thread Cert.Reference5Ideal.nD Cert.Reference5Ideal.τ).loc Cert.Reference5Ideal.main_v124) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "scale_log2e" .f32 0x3E0293EE#32 (((Real.sqrt 128)⁻¹ * (Real.log 2)⁻¹ : ℝ) : EReal)
  ∧ IdealRules.named_const.Statement Cert.Kernel6Ideal.κ "log2e" .f32 0x3FB8AA3B#32 (((Real.log 2)⁻¹ : ℝ) : EReal)

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v44)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v44) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S2x8448x1024 : Shape := ⟨3, ![2, 8448, 1024]⟩
abbrev S2x8448x256 : Shape := ⟨3, ![2, 8448, 256]⟩
abbrev S_ : Shape := ⟨0, ![]⟩

class Facts : Prop where
  bcast_S_S2x8448x1024 : S_.BroadcastsInDim S2x8448x1024 (![] : Fin 0 → Fin S2x8448x1024.rank)
  reducesTo_S2x8448x1024_S_d0_1_2 : S2x8448x1024.ReducesTo [0, 1, 2] S_
  h_S_ : 0 < S_.numel
  bcast_S_S2x8448x256 : S_.BroadcastsInDim S2x8448x256 (![] : Fin 0 → Fin S2x8448x256.rank)
  reducesTo_S2x8448x256_S_d0_1_2 : S2x8448x256.ReducesTo [0, 1, 2] S_

variable [Facts]

def fn {F : FTy → Type} [FloatOps F] (main_arg0 : FVec F S2x8448x1024 .f32) (main_arg1 : FVec F S2x8448x256 .f32) (main_arg2 : FVec F S2x8448x256 .f32) : IVec S_ 1 :=
  let main_v0 : FVec F S2x8448x1024 .f32 := Host.absf main_arg0
  let main_cst : FVec F S_ .f32 := constant S_ .f32 0x7F800000#32
  let main_v1 : FVec F S2x8448x1024 .f32 := broadcastInDim S2x8448x1024 ![] bcast_S_S2x8448x1024 main_cst
  let main_v2 : IVec S2x8448x1024 1 := cmpf .olt main_v0 main_v1
  let main_c : IVec S_ 1 := constantI S_ 1 1#1
  let main_v3 : IVec S_ 1 := (fun x v => Host.reduce IntOp.andi x v reducesTo_S2x8448x1024_S_d0_1_2 h_S_) main_v2 main_c
  let main_v4 : FVec F S2x8448x256 .f32 := Host.absf main_arg1
  let main_cst_0 : FVec F S_ .f32 := constant S_ .f32 0x7F800000#32
  let main_v5 : FVec F S2x8448x256 .f32 := broadcastInDim S2x8448x256 ![] bcast_S_S2x8448x256 main_cst_0
  let main_v6 : IVec S2x8448x256 1 := cmpf .olt main_v4 main_v5
  let main_c_1 : IVec S_ 1 := constantI S_ 1 1#1
  let main_v7 : IVec S_ 1 := (fun x v => Host.reduce IntOp.andi x v reducesTo_S2x8448x256_S_d0_1_2 h_S_) main_v6 main_c_1
  let main_v8 : IVec S_ 1 := andi main_v3 main_v7
  main_v8
-- ==== Pre_finite6.lean ====
abbrev S2x8448x1024 : Shape := ⟨3, ![2, 8448, 1024]⟩
abbrev S2x8448x256 : Shape := ⟨3, ![2, 8448, 256]⟩
abbrev S8 : Shape := ⟨1, ![8]⟩
abbrev S_ : Shape := ⟨0, ![]⟩

class Facts : Prop where
  bcast_S_S2x8448x1024 : S_.BroadcastsInDim S2x8448x1024 (![] : Fin 0 → Fin S2x8448x1024.rank)
  reducesTo_S2x8448x1024_S_d0_1_2 : S2x8448x1024.ReducesTo [0, 1, 2] S_
  h_S_ : 0 < S_.numel
  bcast_S_S2x8448x256 : S_.BroadcastsInDim S2x8448x256 (![] : Fin 0 → Fin S2x8448x256.rank)
  reducesTo_S2x8448x256_S_d0_1_2 : S2x8448x256.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2x8448x1024 .f32) (main_arg1 : FVec F S2x8448x256 .f32) (main_arg2 : FVec F S2x8448x256 .f32) (main_arg3 : FVec F S8 .f32) : IVec S_ 1 :=
  let main_v0 : FVec F S2x8448x1024 .f32 := Host.absf main_arg0
  let main_cst : FVec F S_ .f32 := constant S_ .f32 0x7F800000#32
  let main_v1 : FVec F S2x8448x1024 .f32 := broadcastInDim S2x8448x1024 ![] bcast_S_S2x8448x1024 main_cst
  let main_v2 : IVec S2x8448x1024 1 := cmpf .olt main_v0 main_v1
  let main_c : IVec S_ 1 := constantI S_ 1 1#1
  let main_v3 : IVec S_ 1 := (fun x v => Host.reduce IntOp.andi x v reducesTo_S2x8448x1024_S_d0_1_2 h_S_) main_v2 main_c
  let main_v4 : FVec F S2x8448x256 .f32 := Host.absf main_arg1
  let main_cst_0 : FVec F S_ .f32 := constant S_ .f32 0x7F800000#32
  let main_v5 : FVec F S2x8448x256 .f32 := broadcastInDim S2x8448x256 ![] bcast_S_S2x8448x256 main_cst_0
  let main_v6 : IVec S2x8448x256 1 := cmpf .olt main_v4 main_v5
  let main_c_1 : IVec S_ 1 := constantI S_ 1 1#1
  let main_v7 : IVec S_ 1 := (fun x v => Host.reduce IntOp.andi x v reducesTo_S2x8448x256_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S2x8448x1024 : Shape := ⟨3, ![2, 8448, 1024]⟩
abbrev S2x8448x256 : Shape := ⟨3, ![2, 8448, 256]⟩
abbrev S1x256x1024 : Shape := ⟨3, ![1, 256, 1024]⟩
abbrev S1x8448x256 : Shape := ⟨3, ![1, 8448, 256]⟩
abbrev S2x1024x128 : Shape := ⟨3, ![2, 1024, 128]⟩
abbrev S1x256x512 : Shape := ⟨3, ![1, 256, 512]⟩
abbrev S256x512 : Shape := ⟨2, ![256, 512]⟩
abbrev S256x128 : Shape := ⟨2, ![256, 128]⟩
abbrev S1024x128 : Shape := ⟨2, ![1024, 128]⟩
abbrev S1x256x128 : Shape := ⟨3, ![1, 256, 128]⟩
abbrev S1024x256 : Shape := ⟨2, ![1024, 256]⟩
abbrev S1024 : Shape := ⟨1, ![1024]⟩
abbrev S1024x1 : Shape := ⟨2, ![1024, 1]⟩
abbrev S1x2816x128 : Shape := ⟨3, ![1, 2816, 128]⟩
abbrev S2816x128 : Shape := ⟨2, ![2816, 128]⟩
abbrev S1024x2816 : Shape := ⟨2, ![1024, 2816]⟩
abbrev S1x1024x128 : Shape := ⟨3, ![1, 1024, 128]⟩

abbrev nBuf : Space → Nat
  | .hbm => 6
  | .vmem => 11
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .f32⟩
  | .hbm, ⟨2, _⟩ => ⟨S2x8448x256, .f32⟩
  | .hbm, ⟨3, _⟩ => ⟨S2x8448x256, .bf16⟩
  | .hbm, ⟨4, _⟩ => ⟨S2x8448x256, .bf16⟩
  | .hbm, ⟨5, _⟩ => ⟨S2x8448x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 33], ![false, false]⟩

def k0_cond2 (i : grid0.Coords) : BitVec 1 :=
  let arg1 : BitVec 32 := BitVec.ofNat 32 (i 1).val
  let c1_i32_5 : BitVec 32 := 1#32
  let v23 : BitVec 1 := Scalar.cmpi .sge arg1 c1_i32_5
  let v24 : BitVec 32 := Scalar.extui v23
  let c0_i32_6 : BitVec 32 := 0#32
  let v25 : BitVec 1 := Scalar.cmpi .ne v24 c0_i32_6
  v25

def k0_mult1 : BitVec 32 :=
  let c0_i32_19 : BitVec 32 := 0#32
  let c2816_i32 : BitVec 32 := 2816#32
  let v38 : BitVec 32 := Scalar.muli c0_i32_19 c2816_i32
  v38
def k0_off1 (c0_i32_19 : BitVec 32) : Fin 3 → Nat :=
  let c0_20 : Index := 0#32
  let c2816_i32 : BitVec 32 := 2816#32
  let v38 : BitVec 32 := Scalar.muli c0_i32_19 c2816_i32
  let v39 : BitVec 32 := v38
  let v40 : Index := Scalar.indexCast v39
  let c0_21 : Index := 0#32
  ![0, v40.toNat, 0]
def k0_off2 (c0_i32_19 : BitVec 32) : Fin 3 → Nat :=
  let c0_45 : Index := 0#32
  let c2816_i32 : BitVec 32 := 2816#32
  let v38 : BitVec 32 := Scalar.muli c0_i32_19 c2816_i32
  let v39 : BitVec 32 := v38
  let v204 : Index := Scalar.indexCast v39
  let c128 : Index := 128#32
  ![0, v204.toNat, 128]
def k0_mult2 : BitVec 32 :=
  let c1_i32_68 : BitVec 32 := 1#32
  let c2816_i32_69 : BitVec 32 := 2816#32
  let v368 : BitVec 32 := Scalar.muli c1_i32_68 c2816_i32_69
  v368
def k0_mult3 : BitVec 32 :=
  let c2_i32 : BitVec 32 := 2#32
  let c2816_i32_120 : BitVec 32 := 2816#32
  let v698 : BitVec 32 := Scalar.muli c2_i32 c2816_i32_120
  v698
def k0_cond1 (i : grid0.Coords) : BitVec 1 :=
  let arg1 : BitVec 32 := BitVec.ofNat 32 (i 1).val
  let c1_i32 : BitVec 32 := 1#32
  let v20 : BitVec 1 := Scalar.cmpi .slt arg1 c1_i32
  let v21 : BitVec 32 := Scalar.extui v20
  let c0_i32 : BitVec 32 := 0#32
  let v22 : BitVec 1 := Scalar.cmpi .ne v21 c0_i32
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S2x8448x1024 : Shape := ⟨3, ![2, 8448, 1024]⟩
abbrev S2x8448x256 : Shape := ⟨3, ![2, 8448, 256]⟩
abbrev S2x8448x8x128 : Shape := ⟨4, ![2, 8448, 8, 128]⟩
abbrev S2x8448x2x128 : Shape := ⟨4, ![2, 8448, 2, 128]⟩
abbrev S2x256x8x128 : Shape := ⟨4, ![2, 256, 8, 128]⟩
abbrev S2x256x2x128 : Shape := ⟨4, ![2, 256, 2, 128]⟩
abbrev S2x256x2x4x128 : Shape := ⟨5, ![2, 256, 2, 4, 128]⟩
abbrev S2x2x256x256x4 : Shape := ⟨5, ![2, 2, 256, 256, 4]⟩
abbrev S2x2x4x256x256 : Shape := ⟨5, ![2, 2, 4, 256, 256]⟩
abbrev S_ : Shape := ⟨0, ![]⟩
abbrev S2x2x4x256 : Shape := ⟨4, ![2, 2, 4, 256]⟩
abbrev S2x2x4x256x1 : Shape := ⟨5, ![2, 2, 4, 256, 1]⟩
abbrev S2x2x128x4x256 : Shape := ⟨5, ![2, 2, 128, 4, 256]⟩
abbrev S2x256x1024 : Shape := ⟨3, ![2, 256, 1024]⟩
abbrev S2x8192x8x128 : Shape := ⟨4, ![2, 8192, 8, 128]⟩
abbrev S2x8192x2x4x128 : Shape := ⟨5, ![2, 8192, 2, 4, 128]⟩
abbrev S2x2x8448x8192x4 : Shape := ⟨5, ![2, 2, 8448, 8192, 4]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩
abbrev S2x8192x1024 : Shape := ⟨3, ![2, 8192, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .f32⟩
  | .hbm, ⟨2, _⟩ => ⟨S2x8448x256, .f32⟩
  | .hbm, ⟨3, _⟩ => ⟨S2x8448x8x128, .f32⟩
  | .hbm, ⟨4, _⟩ => ⟨S2x8448x2x128, .f32⟩
  | .hbm, ⟨5, _⟩ => ⟨S2x8448x2x128, .f32⟩
  | .hbm, ⟨6, _⟩ => ⟨S2x256x8x128, .f32⟩
  | .hbm, ⟨7, _⟩ => ⟨S2x256x2x128, .f32⟩
  | .hbm, ⟨8, _⟩ => ⟨S2x256x2x128, .f32⟩
  | .hbm, ⟨9, _⟩ => ⟨S2x256x2x4x128, .f32⟩
  | .hbm, ⟨10, _⟩ => ⟨S2x2x256x256x4, .f32⟩
  | .hbm, ⟨11, _⟩ => ⟨S2x2x4x256x256, .f32⟩
  | .hbm, ⟨12, _⟩ => ⟨S_, .f32⟩
  | .hbm, ⟨13, _⟩ => ⟨S_, .f32⟩
  | .hbm, ⟨14, _⟩ => ⟨S2x2x4x256x256, .f32⟩
  | .hbm, ⟨15, _⟩ => ⟨S2x2x4x256x256, .f32⟩
  | .hbm, ⟨16, _⟩ => ⟨S_, .f32⟩
  | .hbm, ⟨17, _⟩ => ⟨S2x2x4x256, .f32⟩
  | .hbm, ⟨18, _⟩ => ⟨S_, .f32⟩
  | .hbm, ⟨19, _⟩ => ⟨S2x2x4x256, .f32⟩
  | .hbm, ⟨20, _⟩ => ⟨S2x2x4x256, .f32⟩
  | .hbm, ⟨21, _⟩ => ⟨S2x2x4x256x1, .f32⟩
  | .hbm, ⟨22, _⟩ => ⟨S2x2x4x256x256, .f32⟩
  | .hbm, ⟨23, _⟩ => ⟨S2x2x4x256x256, .f32⟩
  | .hbm, ⟨24, _⟩ => ⟨S2x2x4x256x256, .f32⟩
  | .hbm, ⟨25, _⟩ => ⟨S_, .f32⟩
  | .hbm, ⟨26, _⟩ => ⟨S2x2x4x256, .f32⟩
  | .hbm, ⟨27, _⟩ => ⟨S2x2x4x256x1, .f32⟩
  | .hbm, ⟨28, _⟩ => ⟨S2x2x4x256x256, .f32⟩
  | .hbm, ⟨29, _⟩ => ⟨S2x2x4x256x256, .f32⟩
  | .hbm, ⟨30, _⟩ => ⟨S2x2x128x4x256, .f32⟩
  | .hbm, ⟨31, _⟩ => ⟨S2x256x2x4x128, .f32⟩
  | .hbm, ⟨32, _⟩ => ⟨S2x256x1024, .f32⟩
  | .hbm, ⟨33, _⟩ => ⟨S2x8192x8x128, .f32⟩
  | .hbm, ⟨34, _⟩ => ⟨S2x8192x2x4x128, .f32⟩
  | .hbm, ⟨35, _⟩ => ⟨S2x2x8448x8192x4, .f32⟩
  | .hbm, ⟨36, _⟩ => ⟨S2x2x4x8192x8448, .f32⟩
  | .hbm, ⟨37, _⟩ => ⟨S_, .f32⟩
  | .hbm, ⟨38, _⟩ => ⟨S_, .f32⟩
  | .hbm, ⟨39, _⟩ => ⟨S2x2x4x8192x8448, .f32⟩
  | .hbm, ⟨40, _⟩ => ⟨S2x2x4x8192x8448, .f32⟩
  | .hbm, ⟨41, _⟩ => ⟨S_, .f32⟩
  | .hbm, ⟨42, _⟩ => ⟨S2x2x4x8192, .f32⟩
  | .hbm, ⟨43, _⟩ => ⟨S_, .f32⟩
  | .hbm, ⟨44, _⟩ => ⟨S2x2x4x8192, .f32⟩
  | .hbm, ⟨45, _⟩ => ⟨S2x2x4x8192, .f32⟩
  | .hbm, ⟨46, _⟩ => ⟨S2x2x4x8192x1, .f32⟩
  | .hbm, ⟨47, _⟩ => ⟨S2x2x4x8192x8448, .f32⟩
  | .hbm, ⟨48, _⟩ => ⟨S2x2x4x8192x8448, .f32⟩
  | .hbm, ⟨49, _⟩ => ⟨S2x2x4x8192x8448, .f32⟩
  | .hbm, ⟨50, _⟩ => ⟨S_, .f32⟩
  | .hbm, ⟨51, _⟩ => ⟨S2x2x4x8192, .f32⟩
  | .hbm, ⟨52, _⟩ => ⟨S2x2x4x8192x1, .f32⟩
  | .hbm, ⟨53, _⟩ => ⟨S2x2x4x8192x8448, .f32⟩
  | .hbm, ⟨54, _⟩ => ⟨S2x2x4x8192x8448, .f32⟩
  | .hbm, ⟨55, _⟩ => ⟨S2x2x128x4x8192, .f32⟩
  | .hbm, ⟨56, _⟩ => ⟨S2x8192x2x4x128, .f32⟩
  | .hbm, ⟨57, _⟩ => ⟨S2x8192x1024, .f32⟩
  | .hbm, ⟨58, _⟩ => ⟨S2x8448x1024, .f32⟩
  | .hbm, ⟨59, _⟩ => ⟨S2x8448x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel2.lean ====
abbrev S2x8448x1024 : Shape := ⟨3, ![2, 8448, 1024]⟩
abbrev S2x256x1024 : Shape := ⟨3, ![2, 256, 1024]⟩
abbrev S2x8192x1024 : Shape := ⟨3, ![2, 8192, 1024]⟩
abbrev S2x2x6x1024 : Shape := ⟨4, ![2, 2, 6, 1024]⟩
abbrev S2048x1024 : Shape := ⟨2, ![2048, 1024]⟩
abbrev S1x256x1024 : Shape := ⟨3, ![1, 256, 1024]⟩
abbrev S1x2x6x1024 : Shape := ⟨4, ![1, 2, 6, 1024]⟩
abbrev S256x1024 : Shape := ⟨2, ![256, 1024]⟩
abbrev S1024x1024 : Shape := ⟨2, ![1024, 1024]⟩
abbrev S256x1 : Shape := ⟨2, ![256, 1]⟩
abbrev S1x1x1x1024 : Shape := ⟨4, ![1, 1, 1, 1024]⟩
abbrev S1x1024 : Shape := ⟨2, ![1, 1024]⟩

abbrev nBuf : Space → Nat
  | .hbm => 10
  | .vmem => 13
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x256x1024, .f32⟩
  | .hbm, ⟨3, _⟩ => ⟨S2x8192x1024, .f32⟩
  | .hbm, ⟨4, _⟩ => ⟨S2x2x6x1024, .f32⟩
  | .hbm, ⟨5, _⟩ => ⟨S2048x1024, .f32⟩
  | .hbm, ⟨6, _⟩ => ⟨S2x8448x1024, .bf16⟩
  | .hbm, ⟨7, _⟩ => ⟨S2x8448x1024, .bf16⟩
  | .hbm, ⟨8, _⟩ => ⟨S2048x1024, .bf16⟩
  | .hbm, ⟨9, _⟩ => ⟨S2x8448x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x2x6x1024, .f32⟩
  | .local _ .vmem, ⟨9, _⟩ => ⟨S1x2x6x1024, .f32⟩
  | .local _ .vmem, ⟨10, _⟩ => ⟨S2048x1024, .bf16⟩
  | .local _ .vmem, ⟨11, _⟩ => ⟨S1x256x1024, .f32⟩
  | .local _ .vmem, ⟨12, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.minsi v0 c0_i32_0
  let c0_i32_1 : BitVec 32 := 0#32
  let c0_i32_2 : BitVec 32 := 0#32
  ![arg0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8448x1024 : Shape := ⟨3, ![2, 8448, 1024]⟩
abbrev S2x256x1024 : Shape := ⟨3, ![2, 256, 1024]⟩
abbrev S2x8192x1024 : Shape := ⟨3, ![2, 8192, 1024]⟩
abbrev S2x2x6x1024 : Shape := ⟨4, ![2, 2, 6, 1024]⟩
abbrev S2048x1024 : Shape := ⟨2, ![2048, 1024]⟩
abbrev S2x8448x2048 : Shape := ⟨3, ![2, 8448, 2048]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x256x2048 : Shape := ⟨3, ![2, 256, 2048]⟩
abbrev S2x8192x2048 : Shape := ⟨3, ![2, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x256x1024, .f32⟩
  | .hbm, ⟨3, _⟩ => ⟨S2x8192x1024, .f32⟩
  | .hbm, ⟨4, _⟩ => ⟨S2x2x6x1024, .f32⟩
  | .hbm, ⟨5, _⟩ => ⟨S2048x1024, .f32⟩
  | .hbm, ⟨6, _⟩ => ⟨S2x8448x2048, .f32⟩
  | .hbm, ⟨7, _⟩ => ⟨S2x1x1x1024, .f32⟩
  | .hbm, ⟨8, _⟩ => ⟨S2x1024, .f32⟩
  | .hbm, ⟨9, _⟩ => ⟨S2x1x1024, .f32⟩
  | .hbm, ⟨10, _⟩ => ⟨S2x256x2048, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S2x1x1x1024, .f32⟩
  | .hbm, ⟨16, _⟩ => ⟨S2x1024, .f32⟩
  | .hbm, ⟨17, _⟩ => ⟨S2x1x1024, .f32⟩
  | .hbm, ⟨18, _⟩ => ⟨S2x8192x2048, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8448x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S2x256x1024 : Shape := ⟨3, ![2, 256, 1024]⟩
abbrev S2x8192x1024 : Shape := ⟨3, ![2, 8192, 1024]⟩
abbrev S1024 : Shape := ⟨1, ![1024]⟩
abbrev S2x2x6x1024 : Shape := ⟨4, ![2, 2, 6, 1024]⟩
abbrev S1024x3872 : Shape := ⟨2, ![1024, 3872]⟩
abbrev S128 : Shape := ⟨1, ![128]⟩
abbrev S8192x64 : Shape := ⟨2, ![8192, 64]⟩
abbrev S_ : Shape := ⟨0, ![]⟩
abbrev S256x128 : Shape := ⟨2, ![256, 128]⟩
abbrev S8192x128 : Shape := ⟨2, ![8192, 128]⟩
abbrev S8448x128 : Shape := ⟨2, ![8448, 128]⟩
abbrev S1024x112 : Shape := ⟨2, ![1024, 112]⟩
abbrev S1024x16 : Shape := ⟨2, ![1024, 16]⟩
abbrev S1024x256 : Shape := ⟨2, ![1024, 256]⟩
abbrev S1024x2304 : Shape := ⟨2, ![1024, 2304]⟩
abbrev S1024x1536 : Shape := ⟨2, ![1024, 1536]⟩
abbrev S1x1024 : Shape := ⟨2, ![1, 1024]⟩
abbrev S1x128 : Shape := ⟨2, ![1, 128]⟩
abbrev S2x8448x1024 : Shape := ⟨3, ![2, 8448, 1024]⟩
abbrev S2x8448x1280 : Shape := ⟨3, ![2, 8448, 1280]⟩
abbrev S2x8448x256 : Shape := ⟨3, ![2, 8448, 256]⟩
abbrev S1x256x1024 : Shape := ⟨3, ![1, 256, 1024]⟩
abbrev S1x2x6x1024 : Shape := ⟨4, ![1, 2, 6, 1024]⟩
abbrev S1x256x1280 : Shape := ⟨3, ![1, 256, 1280]⟩
abbrev S1x256x256 : Shape := ⟨3, ![1, 256, 256]⟩
abbrev S256x1024 : Shape := ⟨2, ![256, 1024]⟩
abbrev S256x1 : Shape := ⟨2, ![256, 1]⟩
abbrev S1x1x1x1024 : Shape := ⟨4, ![1, 1, 1, 1024]⟩
abbrev S256 : Shape := ⟨1, ![256]⟩
abbrev S256x2304 : Shape := ⟨2, ![256, 2304]⟩
abbrev S256x256 : Shape := ⟨2, ![256, 256]⟩
abbrev S256x1536 : Shape := ⟨2, ![256, 1536]⟩
abbrev S256x4096 : Shape := ⟨2, ![256, 4096]⟩
abbrev S256x1280 : Shape := ⟨2, ![256, 1280]⟩
abbrev S1x256x128 : Shape := ⟨3, ![1, 256, 128]⟩

abbrev nBuf : Space → Nat
  | .hbm => 37
  | .vmem => 28
  | .smem => 0
  | _ => 0

abbrev bufTy : (tb : Table) → Fin (tcTables nBuf tb) → BufTy
  | .hbm, ⟨0, _⟩ => ⟨S2x256x1024, .f32⟩
  | .hbm, ⟨1, _⟩ => ⟨S2x8192x1024, .f32⟩
  | .hbm, ⟨2, _⟩ => ⟨S1024, .f32⟩
  | .hbm, ⟨3, _⟩ => ⟨S2x2x6x1024, .f32⟩
  | .hbm, ⟨4, _⟩ => ⟨S1024x3872, .f32⟩
  | .hbm, ⟨5, _⟩ => ⟨S128, .f32⟩
  | .hbm, ⟨6, _⟩ => ⟨S128, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S256x128, .f32⟩
  | .hbm, ⟨11, _⟩ => ⟨S8192x128, .f32⟩
  | .hbm, ⟨12, _⟩ => ⟨S8448x128, .f32⟩
  | .hbm, ⟨13, _⟩ => ⟨S_, .f32⟩
  | .hbm, ⟨14, _⟩ => ⟨S256x128, .f32⟩
  | .hbm, ⟨15, _⟩ => ⟨S8192x64, .f32⟩
  | .hbm, ⟨16, _⟩ => ⟨S8192x128, .f32⟩
  | .hbm, ⟨17, _⟩ => ⟨S8448x128, .f32⟩
  | .hbm, ⟨18, _⟩ => ⟨S_, .f32⟩
  | .hbm, ⟨19, _⟩ => ⟨S1024x112, .f32⟩
  | .hbm, ⟨20, _⟩ => ⟨S1024x16, .f32⟩
  | .hbm, ⟨21, _⟩ => ⟨S1024x16, .f32⟩
  | .hbm, ⟨22, _⟩ => ⟨S1024x256, .f32⟩
  | .hbm, ⟨23, _⟩ => ⟨S1024x2304, .f32⟩
  | .hbm, ⟨24, _⟩ => ⟨S1024x2304, .bf16⟩
  | .hbm, ⟨25, _⟩ => ⟨S1024x256, .bf16⟩
  | .hbm, ⟨26, _⟩ => ⟨S1024x1536, .f32⟩
  | .hbm, ⟨27, _⟩ => ⟨S1024x1536, .bf16⟩
  | .hbm, ⟨28, _⟩ => ⟨S1x1024, .f32⟩
  | .hbm, ⟨29, _⟩ => ⟨S1x128, .f32⟩
  | .hbm, ⟨30, _⟩ => ⟨S1x128, .f32⟩
  | .hbm, ⟨31, _⟩ => ⟨S2x8448x1024, .f32⟩
  | .hbm, ⟨32, _⟩ => ⟨S2x8448x1280, .f32⟩
  | .hbm, ⟨33, _⟩ => ⟨S2x8448x256, .f32⟩
  | .hbm, ⟨34, _⟩ => ⟨S2x8448x1024, .bf16⟩
  | .hbm, ⟨35, _⟩ => ⟨S2x8448x256, .bf16⟩
  | .hbm, ⟨36, _⟩ => ⟨S2x8448x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x2x6x1024, .f32⟩
  | .local _ .vmem, ⟨6, _⟩ => ⟨S1x2x6x1024, .f32⟩
  | .local _ .vmem, ⟨7, _⟩ => ⟨S1024x2304, .bf16⟩
  | .local _ .vmem, ⟨8, _⟩ => ⟨S1024x256, .bf16⟩
  | .local _ .vmem, ⟨9, _⟩ => ⟨S1024x1536, .bf16⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1280, .f32⟩
  | .local _ .vmem, ⟨19, _⟩ => ⟨S1x256x1280, .f32⟩
  | .local _ .vmem, ⟨20, _⟩ => ⟨S1x256x256, .f32⟩
  | .local _ .vmem, ⟨21, _⟩ => ⟨S1x256x256, .f32⟩
  | .local _ .vmem, ⟨22, _⟩ => ⟨S1x256x1024, .bf16⟩
  | .local _ .vmem, ⟨23, _⟩ => ⟨S1x256x1024, .bf16⟩
  | .local _ .vmem, ⟨24, _⟩ => ⟨S1x256x256, .bf16⟩
  | .local _ .vmem, ⟨25, _⟩ => ⟨S1x256x256, .bf16⟩
  | .local _ .vmem, ⟨26, _⟩ => ⟨S1x256x256, .bf16⟩
  | .local _ .vmem, ⟨27, _⟩ => ⟨S1x256x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1280 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel3Ideal.lean ====
variable {F : FTy → Type} [FloatOps F] [Named F]
def κ : String → Option EReal := fun
  | "scale_log2e" => some (((Real.sqrt 128)⁻¹ * (Real.log 2)⁻¹ : ℝ) : EReal)
  | _ => none
-- ==== Reference3Ideal.lean ====
abbrev S2x256x1024 : Shape := ⟨3, ![2, 256, 1024]⟩
abbrev S2x8192x1024 : Shape := ⟨3, ![2, 8192, 1024]⟩
abbrev S1024 : Shape := ⟨1, ![1024]⟩
abbrev S2x2x6x1024 : Shape := ⟨4, ![2, 2, 6, 1024]⟩
abbrev S1024x3872 : Shape := ⟨2, ![1024, 3872]⟩
abbrev S128 : Shape := ⟨1, ![128]⟩
abbrev S8192x64 : Shape := ⟨2, ![8192, 64]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S2x256x3872 : Shape := ⟨3, ![2, 256, 3872]⟩
abbrev S2x256x1280 : Shape := ⟨3, ![2, 256, 1280]⟩
abbrev S2x256x32 : Shape := ⟨3, ![2, 256, 32]⟩
abbrev S2x256x256 : Shape := ⟨3, ![2, 256, 256]⟩
abbrev S2x256x8x128 : Shape := ⟨4, ![2, 256, 8, 128]⟩
abbrev S2x256x8 : Shape := ⟨3, ![2, 256, 8]⟩
abbrev S2x256x8x1 : Shape := ⟨4, ![2, 256, 8, 1]⟩
abbrev S1x1x1x128 : Shape := ⟨4, ![1, 1, 1, 128]⟩
abbrev S2x256x2x128 : Shape := ⟨4, ![2, 256, 2, 128]⟩
abbrev S2x256x2 : Shape := ⟨3, ![2, 256, 2]⟩
abbrev S2x256x2x1 : Shape := ⟨4, ![2, 256, 2, 1]⟩
abbrev S2x256x2x16 : Shape := ⟨4, ![2, 256, 2, 16]⟩
abbrev S2x8192x3872 : Shape := ⟨3, ![2, 8192, 3872]⟩
abbrev S2x8192x1280 : Shape := ⟨3, ![2, 8192, 1280]⟩
abbrev S2x8192x32 : Shape := ⟨3, ![2, 8192, 32]⟩
abbrev S2x8192x256 : Shape := ⟨3, ![2, 8192, 256]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S2x8192x2x128 : Shape := ⟨4, ![2, 8192, 2, 128]⟩
abbrev S2x8192x2 : Shape := ⟨3, ![2, 8192, 2]⟩
abbrev S2x8192x2x1 : Shape := ⟨4, ![2, 8192, 2, 1]⟩
abbrev S2x8192x8x64 : Shape := ⟨4, ![2, 8192, 8, 64]⟩
abbrev S1x8192x1x64 : Shape := ⟨4, ![1, 8192, 1, 64]⟩
abbrev S2x8192x2x64 : Shape := ⟨4, ![2, 8192, 2, 64]⟩
abbrev S2x8192x2x16 : Shape := ⟨4, ![2, 8192, 2, 16]⟩
abbrev S2x8448x1024 : Shape := ⟨3, ![2, 8448, 1024]⟩
abbrev S2x8448x1280 : Shape := ⟨3, ![2, 8448, 1280]⟩
abbrev S2x8448x256 : Shape := ⟨3, ![2, 8448, 256]⟩

abbrev nBuf : Space → Nat
  | .hbm => 221
  | .vmem => 0
  | .smem => 0
  | _ => 0

abbrev hbmTy0_0 (i : Nat) : BufTy := match i % 128 with
  | 0 => ⟨S2x256x1024, .f32⟩
  | 1 => ⟨S2x8192x1024, .f32⟩
  | 2 => ⟨S1024, .f32⟩
  | 3 => ⟨S2x2x6x1024, .f32⟩
  | 4 => ⟨S1024x3872, .f32⟩
  | 5 => ⟨S128, .f32⟩
  | 6 => ⟨S128, .f32⟩
  | 7 => ⟨S8192x64, .f32⟩
  | 8 => ⟨S8192x64, .f32⟩
  | 9 => ⟨S2x256x1024, .f32⟩
  | 10 => ⟨S_, .f32⟩
  | 11 => ⟨S2x256, .f32⟩
  | 12 => ⟨S2x256x1, .f32⟩
  | 13 => ⟨S_, .f32⟩
  | 14 => ⟨S2x256x1, .f32⟩
  | 15 => ⟨S2x256x1, .f32⟩
  | 16 => ⟨S_, .f32⟩
  | 17 => ⟨S2x256x1, .f32⟩
  | 18 => ⟨S2x256x1, .f32⟩
  | 19 => ⟨S2x256x1, .f32⟩
  | 20 => ⟨S2x256x1024, .f32⟩
  | 21 => ⟨S2x256x1024, .f32⟩
  | 22 => ⟨S1x1x1024, .f32⟩
  | 23 => ⟨S2x256x1024, .f32⟩
  | 24 => ⟨S2x256x1024, .f32⟩
  | 25 => ⟨S2x1x1x1024, .f32⟩
  | 26 => ⟨S2x1024, .f32⟩
  | 27 => ⟨S2x1x1024, .f32⟩
  | 28 => ⟨S_, .f32⟩
  | 29 => ⟨S2x1x1024, .f32⟩
  | 30 => ⟨S2x1x1024, .f32⟩
  | 31 => ⟨S2x256x1024, .f32⟩
  | 32 => ⟨S2x256x1024, .f32⟩
  | 33 => ⟨S2x1x1x1024, .f32⟩
  | 34 => ⟨S2x1024, .f32⟩
  | 35 => ⟨S2x1x1024, .f32⟩
  | 36 => ⟨S2x256x1024, .f32⟩
  | 37 => ⟨S2x256x1024, .f32⟩
  | 38 => ⟨S2x8192x1024, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S_, .f32⟩
  | 46 => ⟨S2x8192x1, .f32⟩
  | 47 => ⟨S2x8192x1, .f32⟩
  | 48 => ⟨S2x8192x1, .f32⟩
  | 49 => ⟨S2x8192x1024, .f32⟩
  | 50 => ⟨S2x8192x1024, .f32⟩
  | 51 => ⟨S1x1x1024, .f32⟩
  | 52 => ⟨S2x8192x1024, .f32⟩
  | 53 => ⟨S2x8192x1024, .f32⟩
  | 54 => ⟨S2x1x1x1024, .f32⟩
  | 55 => ⟨S2x1024, .f32⟩
  | 56 => ⟨S2x1x1024, .f32⟩
  | 57 => ⟨S_, .f32⟩
  | 58 => ⟨S2x1x1024, .f32⟩
  | 59 => ⟨S2x1x1024, .f32⟩
  | 60 => ⟨S2x8192x1024, .f32⟩
  | 61 => ⟨S2x8192x1024, .f32⟩
  | 62 => ⟨S2x1x1x1024, .f32⟩
  | 63 => ⟨S2x1024, .f32⟩
  | 64 => ⟨S2x1x1024, .f32⟩
  | 65 => ⟨S2x8192x1024, .f32⟩
  | 66 => ⟨S2x8192x1024, .f32⟩
  | 67 => ⟨S2x256x3872, .f32⟩
  | 68 => ⟨S2x256x1024, .f32⟩
  | 69 => ⟨S2x256x1280, .f32⟩
  | 70 => ⟨S2x256x32, .f32⟩
  | 71 => ⟨S2x256x1024, .f32⟩
  | 72 => ⟨S2x256x256, .f32⟩
  | 73 => ⟨S2x256x256, .f32⟩
  | 74 => ⟨S2x256x8x128, .f32⟩
  | 75 => ⟨S2x256x8x128, .f32⟩
  | 76 => ⟨S_, .f32⟩
  | 77 => ⟨S2x256x8, .f32⟩
  | 78 => ⟨S2x256x8x1, .f32⟩
  | 79 => ⟨S_, .f32⟩
  | 80 => ⟨S2x256x8x1, .f32⟩
  | 81 => ⟨S2x256x8x1, .f32⟩
  | 82 => ⟨S_, .f32⟩
  | 83 => ⟨S2x256x8x1, .f32⟩
  | 84 => ⟨S2x256x8x1, .f32⟩
  | 85 => ⟨S2x256x8x1, .f32⟩
  | 86 => ⟨S2x256x8x128, .f32⟩
  | 87 => ⟨S2x256x8x128, .f32⟩
  | 88 => ⟨S1x1x1x128, .f32⟩
  | 89 => ⟨S2x256x8x128, .f32⟩
  | 90 => ⟨S2x256x8x128, .f32⟩
  | 91 => ⟨S2x256x2x128, .f32⟩
  | 92 => ⟨S2x256x2x128, .f32⟩
  | 93 => ⟨S_, .f32⟩
  | 94 => ⟨S2x256x2, .f32⟩
  | 95 => ⟨S2x256x2x1, .f32⟩
  | 96 => ⟨S_, .f32⟩
  | 97 => ⟨S2x256x2x1, .f32⟩
  | 98 => ⟨S2x256x2x1, .f32⟩
  | 99 => ⟨S_, .f32⟩
  | 100 => ⟨S2x256x2x1, .f32⟩
  | 101 => ⟨S2x256x2x1, .f32⟩
  | 102 => ⟨S2x256x2x1, .f32⟩
  | 103 => ⟨S2x256x2x128, .f32⟩
  | 104 => ⟨S2x256x2x128, .f32⟩
  | 105 => ⟨S1x1x1x128, .f32⟩
  | 106 => ⟨S2x256x2x128, .f32⟩
  | 107 => ⟨S2x256x2x128, .f32⟩
  | 108 => ⟨S_, .f32⟩
  | 109 => ⟨S_, .f32⟩
  | 110 => ⟨S2x256x8x128, .f32⟩
  | 111 => ⟨S2x256x8x128, .f32⟩
  | 112 => ⟨S_, .f32⟩
  | 113 => ⟨S_, .f32⟩
  | 114 => ⟨S2x256x8x128, .f32⟩
  | 115 => ⟨S2x256x8x128, .f32⟩
  | 116 => ⟨S2x256x2x16, .f32⟩
  | 117 => ⟨S_, .i32⟩
  | 118 => ⟨S_, .f32⟩
  | 119 => ⟨S2x256x2x128, .f32⟩
  | 120 => ⟨S2x256x256, .f32⟩
  | 121 => ⟨S2x256x1024, .f32⟩
  | 122 => ⟨S2x256x1024, .bf16⟩
  | 123 => ⟨S2x256x256, .f32⟩
  | 124 => ⟨S2x256x256, .bf16⟩
  | 125 => ⟨S2x256x256, .bf16⟩
  | 126 => ⟨S2x8192x3872, .f32⟩
  | 127 => ⟨S2x8192x1024, .f32⟩
  | _ => ⟨S2x256x1024, .f32⟩

abbrev hbmTy0_1 (i : Nat) : BufTy := match i % 128 with
  | 0 => ⟨S2x8192x1280, .f32⟩
  | 1 => ⟨S2x8192x32, .f32⟩
  | 2 => ⟨S2x8192x1024, .f32⟩
  | 3 => ⟨S2x8192x256, .f32⟩
  | 4 => ⟨S2x8192x256, .f32⟩
  | 5 => ⟨S2x8192x8x128, .f32⟩
  | 6 => ⟨S2x8192x8x128, .f32⟩
  | 7 => ⟨S_, .f32⟩
  | 8 => ⟨S2x8192x8, .f32⟩
  | 9 => ⟨S2x8192x8x1, .f32⟩
  | 10 => ⟨S_, .f32⟩
  | 11 => ⟨S2x8192x8x1, .f32⟩
  | 12 => ⟨S2x8192x8x1, .f32⟩
  | 13 => ⟨S_, .f32⟩
  | 14 => ⟨S2x8192x8x1, .f32⟩
  | 15 => ⟨S2x8192x8x1, .f32⟩
  | 16 => ⟨S2x8192x8x1, .f32⟩
  | 17 => ⟨S2x8192x8x128, .f32⟩
  | 18 => ⟨S2x8192x8x128, .f32⟩
  | 19 => ⟨S1x1x1x128, .f32⟩
  | 20 => ⟨S2x8192x8x128, .f32⟩
  | 21 => ⟨S2x8192x8x128, .f32⟩
  | 22 => ⟨S2x8192x2x128, .f32⟩
  | 23 => ⟨S2x8192x2x128, .f32⟩
  | 24 => ⟨S_, .f32⟩
  | 25 => ⟨S2x8192x2, .f32⟩
  | 26 => ⟨S2x8192x2x1, .f32⟩
  | 27 => ⟨S_, .f32⟩
  | 28 => ⟨S2x8192x2x1, .f32⟩
  | 29 => ⟨S2x8192x2x1, .f32⟩
  | 30 => ⟨S_, .f32⟩
  | 31 => ⟨S2x8192x2x1, .f32⟩
  | 32 => ⟨S2x8192x2x1, .f32⟩
  | 33 => ⟨S2x8192x2x1, .f32⟩
  | 34 => ⟨S2x8192x2x128, .f32⟩
  | 35 => ⟨S2x8192x2x128, .f32⟩
  | 36 => ⟨S1x1x1x128, .f32⟩
  | 37 => ⟨S2x8192x2x128, .f32⟩
  | 38 => ⟨S2x8192x2x128, .f32⟩
  | 39 => ⟨S2x8192x8x64, .f32⟩
  | 40 => ⟨S2x8192x8x64, .f32⟩
  | 41 => ⟨S1x8192x1x64, .f32⟩
  | 42 => ⟨S1x8192x1x64, .f32⟩
  | 43 => ⟨S2x8192x8x64, .f32⟩
  | 44 => ⟨S2x8192x8x64, .f32⟩
  | 45 => ⟨S2x8192x8x64, .f32⟩
  | 46 => ⟨S2x8192x8x64, .f32⟩
  | 47 => ⟨S2x8192x8x64, .f32⟩
  | 48 => ⟨S2x8192x8x64, .f32⟩
  | 49 => ⟨S2x8192x8x64, .f32⟩
  | 50 => ⟨S2x8192x8x64, .f32⟩
  | 51 => ⟨S2x8192x8x64, .f32⟩
  | 52 => ⟨S2x8192x8x64, .f32⟩
  | 53 => ⟨S2x8192x8x128, .f32⟩
  | 54 => ⟨S2x8192x2x64, .f32⟩
  | 55 => ⟨S2x8192x2x64, .f32⟩
  | 56 => ⟨S1x8192x1x64, .f32⟩
  | 57 => ⟨S1x8192x1x64, .f32⟩
  | 58 => ⟨S2x8192x2x64, .f32⟩
  | 59 => ⟨S2x8192x2x64, .f32⟩
  | 60 => ⟨S2x8192x2x64, .f32⟩
  | 61 => ⟨S2x8192x2x64, .f32⟩
  | 62 => ⟨S2x8192x2x64, .f32⟩
  | 63 => ⟨S2x8192x2x64, .f32⟩
  | 64 => ⟨S2x8192x2x64, .f32⟩
  | 65 => ⟨S2x8192x2x64, .f32⟩
  | 66 => ⟨S2x8192x2x64, .f32⟩
  | 67 => ⟨S2x8192x2x64, .f32⟩
  | 68 => ⟨S2x8192x2x128, .f32⟩
  | 69 => ⟨S_, .f32⟩
  | 70 => ⟨S_, .f32⟩
  | 71 => ⟨S2x8192x8x128, .f32⟩
  | 72 => ⟨S2x8192x8x128, .f32⟩
  | 73 => ⟨S_, .f32⟩
  | 74 => ⟨S_, .f32⟩
  | 75 => ⟨S2x8192x8x128, .f32⟩
  | 76 => ⟨S2x8192x8x128, .f32⟩
  | 77 => ⟨S2x8192x2x16, .f32⟩
  | 78 => ⟨S_, .i32⟩
  | 79 => ⟨S_, .f32⟩
  | 80 => ⟨S2x8192x2x128, .f32⟩
  | 81 => ⟨S2x8192x256, .f32⟩
  | 82 => ⟨S2x8192x1024, .f32⟩
  | 83 => ⟨S2x8192x1024, .bf16⟩
  | 84 => ⟨S2x8192x256, .f32⟩
  | 85 => ⟨S2x8192x256, .bf16⟩
  | 86 => ⟨S2x8192x256, .bf16⟩
  | 87 => ⟨S2x8448x1024, .f32⟩
  | 88 => ⟨S2x8448x1280, .f32⟩
  | 89 => ⟨S2x8448x256, .f32⟩
  | 90 => ⟨S2x8448x1024, .bf16⟩
  | 91 => ⟨S2x8448x256, .bf16⟩
  | 92 => ⟨S2x8448x256, .bf16⟩
  | _ => ⟨S2x256x1024, .f32⟩

abbrev hbmTy (i : Nat) : BufTy := match i / 128 with
  | 0 => hbmTy0_0 i
  | 1 => hbmTy0_1 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_c : Ref sig .tc := ⟨.hbm, 117, rfl⟩
abbrev main_call0_v0 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_15 : Ref sig .tc := ⟨.hbm, 135, rfl⟩
abbrev main_v108 : Ref sig .tc := ⟨.hbm, 136, rfl⟩
abbrev main_v109 : Ref sig .tc := ⟨.hbm, 137, rfl⟩
abbrev main_cst_16 : Ref sig .tc := ⟨.hbm, 138, rfl⟩
abbrev main_v110 : Ref sig .tc := ⟨.hbm, 139, rfl⟩
abbrev main_v111 : Ref sig .tc := ⟨.hbm, 140, rfl⟩
abbrev main_cst_17 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_18 : Ref sig .tc := ⟨.hbm, 152, rfl⟩
abbrev main_v122 : Ref sig .tc := ⟨.hbm, 153, rfl⟩
abbrev main_v123 : Ref sig .tc := ⟨.hbm, 154, rfl⟩
abbrev main_cst_19 : Ref sig .tc := ⟨.hbm, 155, rfl⟩
abbrev main_v124 : Ref sig .tc := ⟨.hbm, 156, rfl⟩
abbrev main_v125 : Ref sig .tc := ⟨.hbm, 157, rfl⟩
abbrev main_cst_20 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_cst_21 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_22 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_c_23 : Ref sig .tc := ⟨.hbm, 206, rfl⟩
abbrev main_call1_v0 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩

abbrev nD : Nat := 1
abbrev τ : Topo := Topo.v7x

variable {F : FTy → Type} [FloatOps F]
-- ==== Kernel4.lean ====
abbrev S2x8448x1024 : Shape := ⟨3, ![2, 8448, 1024]⟩
abbrev S2x2x6x1024 : Shape := ⟨4, ![2, 2, 6, 1024]⟩
abbrev S2048x1024 : Shape := ⟨2, ![2048, 1024]⟩
abbrev S2x8192x1024 : Shape := ⟨3, ![2, 8192, 1024]⟩
abbrev S1x256x1024 : Shape := ⟨3, ![1, 256, 1024]⟩
abbrev S1x2x6x1024 : Shape := ⟨4, ![1, 2, 6, 1024]⟩
abbrev S256x1024 : Shape := ⟨2, ![256, 1024]⟩
abbrev S1024x1024 : Shape := ⟨2, ![1024, 1024]⟩
abbrev S256x1 : Shape := ⟨2, ![256, 1]⟩
abbrev S1x1x1x1024 : Shape := ⟨4, ![1, 1, 1, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8448x1024, .f32⟩
  | .hbm, ⟨3, _⟩ => ⟨S2x2x6x1024, .f32⟩
  | .hbm, ⟨4, _⟩ => ⟨S2048x1024, .f32⟩
  | .hbm, ⟨5, _⟩ => ⟨S2x8448x1024, .bf16⟩
  | .hbm, ⟨6, _⟩ => ⟨S2x8448x1024, .bf16⟩
  | .hbm, ⟨7, _⟩ => ⟨S2048x1024, .bf16⟩
  | .hbm, ⟨8, _⟩ => ⟨S2x8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x2x6x1024, .f32⟩
  | .local _ .vmem, ⟨7, _⟩ => ⟨S1x2x6x1024, .f32⟩
  | .local _ .vmem, ⟨8, _⟩ => ⟨S2048x1024, .bf16⟩
  | .local _ .vmem, ⟨9, _⟩ => ⟨S1x256x1024, .f32⟩
  | .local _ .vmem, ⟨10, _⟩ => ⟨S1x256x1024, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2x8448x1024 : Shape := ⟨3, ![2, 8448, 1024]⟩
abbrev S2x2x6x1024 : Shape := ⟨4, ![2, 2, 6, 1024]⟩
abbrev S2048x1024 : Shape := ⟨2, ![2048, 1024]⟩
abbrev S2x8192x1024 : Shape := ⟨3, ![2, 8192, 1024]⟩
abbrev S2x8192x2048 : Shape := ⟨3, ![2, 8192, 2048]⟩
abbrev S2x1x1x1024 : Shape := ⟨4, ![2, 1, 1, 1024]⟩
abbrev S2x1024 : Shape := ⟨2, ![2, 1024]⟩
abbrev S2x1x1024 : Shape := ⟨3, ![2, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8448x1024, .f32⟩
  | .hbm, ⟨3, _⟩ => ⟨S2x2x6x1024, .f32⟩
  | .hbm, ⟨4, _⟩ => ⟨S2048x1024, .f32⟩
  | .hbm, ⟨5, _⟩ => ⟨S2x8192x1024, .f32⟩
  | .hbm, ⟨6, _⟩ => ⟨S2x8192x1024, .f32⟩
  | .hbm, ⟨7, _⟩ => ⟨S2x8192x2048, .f32⟩
  | .hbm, ⟨8, _⟩ => ⟨S2x8192x1024, .f32⟩
  | .hbm, ⟨9, _⟩ => ⟨S2x1x1x1024, .f32⟩
  | .hbm, ⟨10, _⟩ => ⟨S2x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S2x8448x1024 : Shape := ⟨3, ![2, 8448, 1024]⟩
abbrev S1024 : Shape := ⟨1, ![1024]⟩
abbrev S2x2x6x1024 : Shape := ⟨4, ![2, 2, 6, 1024]⟩
abbrev S1024x3584 : Shape := ⟨2, ![1024, 3584]⟩
abbrev S8192x64 : Shape := ⟨2, ![8192, 64]⟩
abbrev S_ : Shape := ⟨0, ![]⟩
abbrev S256x128 : Shape := ⟨2, ![256, 128]⟩
abbrev S8192x128 : Shape := ⟨2, ![8192, 128]⟩
abbrev S8448x128 : Shape := ⟨2, ![8448, 128]⟩
abbrev S1x128 : Shape := ⟨2, ![1, 128]⟩
abbrev S1x1024 : Shape := ⟨2, ![1, 1024]⟩
abbrev S2x8448x256 : Shape := ⟨3, ![2, 8448, 256]⟩
abbrev S1x256x1024 : Shape := ⟨3, ![1, 256, 1024]⟩
abbrev S1x2x6x1024 : Shape := ⟨4, ![1, 2, 6, 1024]⟩
abbrev S1x256x256 : Shape := ⟨3, ![1, 256, 256]⟩
abbrev S256x1024 : Shape := ⟨2, ![256, 1024]⟩
abbrev S256x1 : Shape := ⟨2, ![256, 1]⟩
abbrev S1x1x1x1024 : Shape := ⟨4, ![1, 1, 1, 1024]⟩
abbrev S256 : Shape := ⟨1, ![256]⟩
abbrev S256x3584 : Shape := ⟨2, ![256, 3584]⟩
abbrev S1x256x128 : Shape := ⟨3, ![1, 256, 128]⟩
abbrev S256x256 : Shape := ⟨2, ![256, 256]⟩

abbrev nBuf : Space → Nat
  | .hbm => 24
  | .vmem => 22
  | .smem => 0
  | _ => 0

abbrev bufTy : (tb : Table) → Fin (tcTables nBuf tb) → BufTy
  | .hbm, ⟨0, _⟩ => ⟨S2x8448x1024, .f32⟩
  | .hbm, ⟨1, _⟩ => ⟨S1024, .f32⟩
  | .hbm, ⟨2, _⟩ => ⟨S2x2x6x1024, .f32⟩
  | .hbm, ⟨3, _⟩ => ⟨S1024x3584, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S256x128, .f32⟩
  | .hbm, ⟨8, _⟩ => ⟨S8192x128, .f32⟩
  | .hbm, ⟨9, _⟩ => ⟨S8448x128, .f32⟩
  | .hbm, ⟨10, _⟩ => ⟨S_, .f32⟩
  | .hbm, ⟨11, _⟩ => ⟨S256x128, .f32⟩
  | .hbm, ⟨12, _⟩ => ⟨S8192x64, .f32⟩
  | .hbm, ⟨13, _⟩ => ⟨S8192x128, .f32⟩
  | .hbm, ⟨14, _⟩ => ⟨S8448x128, .f32⟩
  | .hbm, ⟨15, _⟩ => ⟨S_, .f32⟩
  | .hbm, ⟨16, _⟩ => ⟨S1x128, .f32⟩
  | .hbm, ⟨17, _⟩ => ⟨S1x1024, .f32⟩
  | .hbm, ⟨18, _⟩ => ⟨S1024x3584, .bf16⟩
  | .hbm, ⟨19, _⟩ => ⟨S2x8448x1024, .f32⟩
  | .hbm, ⟨20, _⟩ => ⟨S2x8448x1024, .f32⟩
  | .hbm, ⟨21, _⟩ => ⟨S2x8448x1024, .bf16⟩
  | .hbm, ⟨22, _⟩ => ⟨S2x8448x256, .bf16⟩
  | .hbm, ⟨23, _⟩ => ⟨S2x8448x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x2x6x1024, .f32⟩
  | .local _ .vmem, ⟨4, _⟩ => ⟨S1x2x6x1024, .f32⟩
  | .local _ .vmem, ⟨5, _⟩ => ⟨S1024x3584, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x256, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel5Ideal.lean ====
variable {F : FTy → Type} [FloatOps F] [Named F]
def κ : String → Option EReal := fun
  | "scale_log2e" => some (((Real.sqrt 128)⁻¹ * (Real.log 2)⁻¹ : ℝ) : EReal)
  | _ => none
-- ==== Reference5Ideal.lean ====
abbrev S2x8448x1024 : Shape := ⟨3, ![2, 8448, 1024]⟩
abbrev S1024 : Shape := ⟨1, ![1024]⟩
abbrev S2x2x6x1024 : Shape := ⟨4, ![2, 2, 6, 1024]⟩
abbrev S1024x3584 : Shape := ⟨2, ![1024, 3584]⟩
abbrev S8192x64 : Shape := ⟨2, ![8192, 64]⟩
abbrev S2x256x1024 : Shape := ⟨3, ![2, 256, 1024]⟩
abbrev S2x8192x1024 : Shape := ⟨3, ![2, 8192, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S2x256x3584 : Shape := ⟨3, ![2, 256, 3584]⟩
abbrev S2x256x256 : Shape := ⟨3, ![2, 256, 256]⟩
abbrev S2x256x8x128 : Shape := ⟨4, ![2, 256, 8, 128]⟩
abbrev S2x256x2x128 : Shape := ⟨4, ![2, 256, 2, 128]⟩
abbrev S2x8192x3584 : Shape := ⟨3, ![2, 8192, 3584]⟩
abbrev S2x8192x256 : Shape := ⟨3, ![2, 8192, 256]⟩
abbrev S2x8192x8x128 : Shape := ⟨4, ![2, 8192, 8, 128]⟩
abbrev S2x8192x2x128 : Shape := ⟨4, ![2, 8192, 2, 128]⟩
abbrev S2x8192x8x64 : Shape := ⟨4, ![2, 8192, 8, 64]⟩
abbrev S1x8192x1x64 : Shape := ⟨4, ![1, 8192, 1, 64]⟩
abbrev S2x8192x2x64 : Shape := ⟨4, ![2, 8192, 2, 64]⟩
abbrev S2x8448x256 : Shape := ⟨3, ![2, 8448, 256]⟩

abbrev nBuf : Space → Nat
  | .hbm => 143
  | .vmem => 0
  | .smem => 0
  | _ => 0

abbrev hbmTy0_0 (i : Nat) : BufTy := match i % 128 with
  | 0 => ⟨S2x8448x1024, .f32⟩
  | 1 => ⟨S1024, .f32⟩
  | 2 => ⟨S2x2x6x1024, .f32⟩
  | 3 => ⟨S1024x3584, .f32⟩
  | 4 => ⟨S8192x64, .f32⟩
  | 5 => ⟨S8192x64, .f32⟩
  | 6 => ⟨S2x256x1024, .f32⟩
  | 7 => ⟨S2x8192x1024, .f32⟩
  | 8 => ⟨S2x256x1024, .f32⟩
  | 9 => ⟨S_, .f32⟩
  | 10 => ⟨S2x256, .f32⟩
  | 11 => ⟨S2x256x1, .f32⟩
  | 12 => ⟨S_, .f32⟩
  | 13 => ⟨S2x256x1, .f32⟩
  | 14 => ⟨S2x256x1, .f32⟩
  | 15 => ⟨S_, .f32⟩
  | 16 => ⟨S2x256x1, .f32⟩
  | 17 => ⟨S2x256x1, .f32⟩
  | 18 => ⟨S2x256x1, .f32⟩
  | 19 => ⟨S2x256x1024, .f32⟩
  | 20 => ⟨S2x256x1024, .f32⟩
  | 21 => ⟨S1x1x1024, .f32⟩
  | 22 => ⟨S2x256x1024, .f32⟩
  | 23 => ⟨S2x256x1024, .f32⟩
  | 24 => ⟨S2x1x1x1024, .f32⟩
  | 25 => ⟨S2x1024, .f32⟩
  | 26 => ⟨S2x1x1024, .f32⟩
  | 27 => ⟨S_, .f32⟩
  | 28 => ⟨S2x1x1024, .f32⟩
  | 29 => ⟨S2x1x1024, .f32⟩
  | 30 => ⟨S2x256x1024, .f32⟩
  | 31 => ⟨S2x256x1024, .f32⟩
  | 32 => ⟨S2x1x1x1024, .f32⟩
  | 33 => ⟨S2x1024, .f32⟩
  | 34 => ⟨S2x1x1024, .f32⟩
  | 35 => ⟨S2x256x1024, .f32⟩
  | 36 => ⟨S2x256x1024, .f32⟩
  | 37 => ⟨S2x8192x1024, .f32⟩
  | 38 => ⟨S_, .f32⟩
  | 39 => ⟨S2x8192, .f32⟩
  | 40 => ⟨S2x8192x1, .f32⟩
  | 41 => ⟨S_, .f32⟩
  | 42 => ⟨S2x8192x1, .f32⟩
  | 43 => ⟨S2x8192x1, .f32⟩
  | 44 => ⟨S_, .f32⟩
  | 45 => ⟨S2x8192x1, .f32⟩
  | 46 => ⟨S2x8192x1, .f32⟩
  | 47 => ⟨S2x8192x1, .f32⟩
  | 48 => ⟨S2x8192x1024, .f32⟩
  | 49 => ⟨S2x8192x1024, .f32⟩
  | 50 => ⟨S1x1x1024, .f32⟩
  | 51 => ⟨S2x8192x1024, .f32⟩
  | 52 => ⟨S2x8192x1024, .f32⟩
  | 53 => ⟨S2x1x1x1024, .f32⟩
  | 54 => ⟨S2x1024, .f32⟩
  | 55 => ⟨S2x1x1024, .f32⟩
  | 56 => ⟨S_, .f32⟩
  | 57 => ⟨S2x1x1024, .f32⟩
  | 58 => ⟨S2x1x1024, .f32⟩
  | 59 => ⟨S2x8192x1024, .f32⟩
  | 60 => ⟨S2x8192x1024, .f32⟩
  | 61 => ⟨S2x1x1x1024, .f32⟩
  | 62 => ⟨S2x1024, .f32⟩
  | 63 => ⟨S2x1x1024, .f32⟩
  | 64 => ⟨S2x8192x1024, .f32⟩
  | 65 => ⟨S2x8192x1024, .f32⟩
  | 66 => ⟨S2x256x3584, .f32⟩
  | 67 => ⟨S2x256x1024, .f32⟩
  | 68 => ⟨S2x256x1024, .f32⟩
  | 69 => ⟨S2x256x1024, .f32⟩
  | 70 => ⟨S2x256x256, .f32⟩
  | 71 => ⟨S2x256x256, .f32⟩
  | 72 => ⟨S2x256x8x128, .f32⟩
  | 73 => ⟨S2x256x2x128, .f32⟩
  | 74 => ⟨S_, .f32⟩
  | 75 => ⟨S_, .f32⟩
  | 76 => ⟨S2x256x8x128, .f32⟩
  | 77 => ⟨S2x256x8x128, .f32⟩
  | 78 => ⟨S_, .f32⟩
  | 79 => ⟨S_, .f32⟩
  | 80 => ⟨S2x256x8x128, .f32⟩
  | 81 => ⟨S2x256x8x128, .f32⟩
  | 82 => ⟨S2x256x1024, .f32⟩
  | 83 => ⟨S2x256x1024, .bf16⟩
  | 84 => ⟨S2x256x256, .f32⟩
  | 85 => ⟨S2x256x256, .bf16⟩
  | 86 => ⟨S2x256x256, .bf16⟩
  | 87 => ⟨S2x8192x3584, .f32⟩
  | 88 => ⟨S2x8192x1024, .f32⟩
  | 89 => ⟨S2x8192x1024, .f32⟩
  | 90 => ⟨S2x8192x1024, .f32⟩
  | 91 => ⟨S2x8192x256, .f32⟩
  | 92 => ⟨S2x8192x256, .f32⟩
  | 93 => ⟨S2x8192x8x128, .f32⟩
  | 94 => ⟨S2x8192x2x128, .f32⟩
  | 95 => ⟨S2x8192x8x64, .f32⟩
  | 96 => ⟨S2x8192x8x64, .f32⟩
  | 97 => ⟨S1x8192x1x64, .f32⟩
  | 98 => ⟨S1x8192x1x64, .f32⟩
  | 99 => ⟨S2x8192x8x64, .f32⟩
  | 100 => ⟨S2x8192x8x64, .f32⟩
  | 101 => ⟨S2x8192x8x64, .f32⟩
  | 102 => ⟨S2x8192x8x64, .f32⟩
  | 103 => ⟨S2x8192x8x64, .f32⟩
  | 104 => ⟨S2x8192x8x64, .f32⟩
  | 105 => ⟨S2x8192x8x64, .f32⟩
  | 106 => ⟨S2x8192x8x64, .f32⟩
  | 107 => ⟨S2x8192x8x64, .f32⟩
  | 108 => ⟨S2x8192x8x64, .f32⟩
  | 109 => ⟨S2x8192x8x128, .f32⟩
  | 110 => ⟨S2x8192x2x64, .f32⟩
  | 111 => ⟨S2x8192x2x64, .f32⟩
  | 112 => ⟨S1x8192x1x64, .f32⟩
  | 113 => ⟨S1x8192x1x64, .f32⟩
  | 114 => ⟨S2x8192x2x64, .f32⟩
  | 115 => ⟨S2x8192x2x64, .f32⟩
  | 116 => ⟨S2x8192x2x64, .f32⟩
  | 117 => ⟨S2x8192x2x64, .f32⟩
  | 118 => ⟨S2x8192x2x64, .f32⟩
  | 119 => ⟨S2x8192x2x64, .f32⟩
  | 120 => ⟨S2x8192x2x64, .f32⟩
  | 121 => ⟨S2x8192x2x64, .f32⟩
  | 122 => ⟨S2x8192x2x64, .f32⟩
  | 123 => ⟨S2x8192x2x64, .f32⟩
  | 124 => ⟨S2x8192x2x128, .f32⟩
  | 125 => ⟨S_, .f32⟩
  | 126 => ⟨S_, .f32⟩
  | 127 => ⟨S2x8192x8x128, .f32⟩
  | _ => ⟨S2x8448x1024, .f32⟩

abbrev hbmTy0_1 (i : Nat) : BufTy := match i % 128 with
  | 0 => ⟨S2x8192x8x128, .f32⟩
  | 1 => ⟨S_, .f32⟩
  | 2 => ⟨S_, .f32⟩
  | 3 => ⟨S2x8192x8x128, .f32⟩
  | 4 => ⟨S2x8192x8x128, .f32⟩
  | 5 => ⟨S2x8192x1024, .f32⟩
  | 6 => ⟨S2x8192x1024, .bf16⟩
  | 7 => ⟨S2x8192x256, .f32⟩
  | 8 => ⟨S2x8192x256, .bf16⟩
  | 9 => ⟨S2x8192x256, .bf16⟩
  | 10 => ⟨S2x8448x1024, .f32⟩
  | 11 => ⟨S2x8448x1024, .f32⟩
  | 12 => ⟨S2x8448x1024, .bf16⟩
  | 13 => ⟨S2x8448x256, .bf16⟩
  | 14 => ⟨S2x8448x256, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_9 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_cst_10 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩

abbrev nD : Nat := 1
abbrev τ : Topo := Topo.v7x

variable {F : FTy → Type} [FloatOps F]
-- ==== Kernel6.lean ====
abbrev S2x8448x1024 : Shape := ⟨3, ![2, 8448, 1024]⟩
abbrev S2x8448x256 : Shape := ⟨3, ![2, 8448, 256]⟩
abbrev S8 : Shape := ⟨1, ![8]⟩
abbrev S2x4 : Shape := ⟨2, ![2, 4]⟩
abbrev S2x4x256 : Shape := ⟨3, ![2, 4, 256]⟩
abbrev S2x1024 : Shape := ⟨2, ![2, 1024]⟩
abbrev S2x1024x1 : Shape := ⟨3, ![2, 1024, 1]⟩
abbrev S256 : Shape := ⟨1, ![256]⟩
abbrev S256x1 : Shape := ⟨2, ![256, 1]⟩
abbrev S512 : Shape := ⟨1, ![512]⟩
abbrev S1x512 : Shape := ⟨2, ![1, 512]⟩
abbrev S_ : Shape := ⟨0, ![]⟩
abbrev S256x512 : Shape := ⟨2, ![256, 512]⟩
abbrev S1x256x512 : Shape := ⟨3, ![1, 256, 512]⟩
abbrev S4x256x512 : Shape := ⟨3, ![4, 256, 512]⟩
abbrev S1x4x1x256x1x512 : Shape := ⟨6, ![1, 4, 1, 256, 1, 512]⟩
abbrev S1x4x4x256x1x512 : Shape := ⟨6, ![1, 4, 4, 256, 1, 512]⟩
abbrev S4x1024x512 : Shape := ⟨3, ![4, 1024, 512]⟩
abbrev S1x256x1024 : Shape := ⟨3, ![1, 256, 1024]⟩
abbrev S1x8448x256 : Shape := ⟨3, ![1, 8448, 256]⟩
abbrev S1x1024x512 : Shape := ⟨3, ![1, 1024, 512]⟩
abbrev S1024x512 : Shape := ⟨2, ![1024, 512]⟩
abbrev S256x128 : Shape := ⟨2, ![256, 128]⟩
abbrev S1024x128 : Shape := ⟨2, ![1024, 128]⟩
abbrev S1x512x128 : Shape := ⟨3, ![1, 512, 128]⟩
abbrev S512x128 : Shape := ⟨2, ![512, 128]⟩
abbrev S1x256x128 : Shape := ⟨3, ![1, 256, 128]⟩
abbrev S1024x256 : Shape := ⟨2, ![1024, 256]⟩
abbrev S1x1024x1 : Shape := ⟨3, ![1, 1024, 1]⟩
abbrev S1024x1 : Shape := ⟨2, ![1024, 1]⟩
abbrev S1024 : Shape := ⟨1, ![1024]⟩
abbrev S1024x768 : Shape := ⟨2, ![1024, 768]⟩

abbrev nBuf : Space → Nat
  | .hbm => 60
  | .vmem => 11
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .f32⟩
  | .hbm, ⟨2, _⟩ => ⟨S2x8448x256, .f32⟩
  | .hbm, ⟨3, _⟩ => ⟨S8, .f32⟩
  | .hbm, ⟨4, _⟩ => ⟨S2x8448x256, .bf16⟩
  | .hbm, ⟨5, _⟩ => ⟨S2x8448x256, .bf16⟩
  | .hbm, ⟨6, _⟩ => ⟨S2x4, .f32⟩
  | .hbm, ⟨7, _⟩ => ⟨S2x4x256, .f32⟩
  | .hbm, ⟨8, _⟩ => ⟨S2x1024, .f32⟩
  | .hbm, ⟨9, _⟩ => ⟨S2x1024x1, .f32⟩
  | .hbm, ⟨10, _⟩ => ⟨S256, .i32⟩
  | .hbm, ⟨11, _⟩ => ⟨S256x1, .i32⟩
  | .hbm, ⟨12, _⟩ => ⟨S512, .i32⟩
  | .hbm, ⟨13, _⟩ => ⟨S1x512, .i32⟩
  | .hbm, ⟨14, _⟩ => ⟨S_, .i32⟩
  | .hbm, ⟨15, _⟩ => ⟨S1x512, .i32⟩
  | .hbm, ⟨16, _⟩ => ⟨S1x512, .i32⟩
  | .hbm, ⟨17, _⟩ => ⟨S256x512, .i32⟩
  | .hbm, ⟨18, _⟩ => ⟨S256x512, .i32⟩
  | .hbm, ⟨19, _⟩ => ⟨S256x512, .i32⟩
  | .hbm, ⟨20, _⟩ => ⟨S256x512, .i32⟩
  | .hbm, ⟨21, _⟩ => ⟨S_, .i32⟩
  | .hbm, ⟨22, _⟩ => ⟨S256x512, .i32⟩
  | .hbm, ⟨23, _⟩ => ⟨S256x512, .i1⟩
  | .hbm, ⟨24, _⟩ => ⟨S_, .i32⟩
  | .hbm, ⟨25, _⟩ => ⟨S1x512, .i32⟩
  | .hbm, ⟨26, _⟩ => ⟨S1x512, .i32⟩
  | .hbm, ⟨27, _⟩ => ⟨S256x512, .i32⟩
  | .hbm, ⟨28, _⟩ => ⟨S256x512, .i32⟩
  | .hbm, ⟨29, _⟩ => ⟨S256x512, .i32⟩
  | .hbm, ⟨30, _⟩ => ⟨S256x512, .i32⟩
  | .hbm, ⟨31, _⟩ => ⟨S_, .i32⟩
  | .hbm, ⟨32, _⟩ => ⟨S256x512, .i32⟩
  | .hbm, ⟨33, _⟩ => ⟨S256x512, .i1⟩
  | .hbm, ⟨34, _⟩ => ⟨S_, .i32⟩
  | .hbm, ⟨35, _⟩ => ⟨S1x512, .i32⟩
  | .hbm, ⟨36, _⟩ => ⟨S1x512, .i32⟩
  | .hbm, ⟨37, _⟩ => ⟨S256x512, .i32⟩
  | .hbm, ⟨38, _⟩ => ⟨S256x512, .i32⟩
  | .hbm, ⟨39, _⟩ => ⟨S256x512, .i32⟩
  | .hbm, ⟨40, _⟩ => ⟨S256x512, .i32⟩
  | .hbm, ⟨41, _⟩ => ⟨S_, .i32⟩
  | .hbm, ⟨42, _⟩ => ⟨S256x512, .i32⟩
  | .hbm, ⟨43, _⟩ => ⟨S256x512, .i1⟩
  | .hbm, ⟨44, _⟩ => ⟨S_, .i1⟩
  | .hbm, ⟨45, _⟩ => ⟨S256x512, .i1⟩
  | .hbm, ⟨46, _⟩ => ⟨S1x256x512, .i1⟩
  | .hbm, ⟨47, _⟩ => ⟨S1x256x512, .i1⟩
  | .hbm, ⟨48, _⟩ => ⟨S1x256x512, .i1⟩
  | .hbm, ⟨49, _⟩ => ⟨S1x256x512, .i1⟩
  | .hbm, ⟨50, _⟩ => ⟨S4x256x512, .i1⟩
  | .hbm, ⟨51, _⟩ => ⟨S_, .f32⟩
  | .hbm, ⟨52, _⟩ => ⟨S_, .f32⟩
  | .hbm, ⟨53, _⟩ => ⟨S4x256x512, .f32⟩
  | .hbm, ⟨54, _⟩ => ⟨S4x256x512, .f32⟩
  | .hbm, ⟨55, _⟩ => ⟨S4x256x512, .f32⟩
  | .hbm, ⟨56, _⟩ => ⟨S1x4x1x256x1x512, .f32⟩
  | .hbm, ⟨57, _⟩ => ⟨S1x4x4x256x1x512, .f32⟩
  | .hbm, ⟨58, _⟩ => ⟨S4x1024x512, .f32⟩
  | .hbm, ⟨59, _⟩ => ⟨S2x8448x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S2x1024x1, .f32⟩
  | .local _ .vmem, ⟨7, _⟩ => ⟨S1x1024x512, .f32⟩
  | .local _ .vmem, ⟨8, _⟩ => ⟨S1x1024x512, .f32⟩
  | .local _ .vmem, ⟨9, _⟩ => ⟨S1x256x1024, .bf16⟩
  | .local _ .vmem, ⟨10, _⟩ => ⟨S1x256x1024, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 33], ![false, false]⟩

def k0_mult1 (i : grid0.Coords) : BitVec 32 :=
  let c256_i32_0 : BitVec 32 := 256#32
  let c7680_i32 : BitVec 32 := 7680#32
  let c0_i32 : BitVec 32 := 0#32
  let arg1 : BitVec 32 := BitVec.ofNat 32 (i 1).val
  let c1_i32 : BitVec 32 := 1#32
  let v0 : BitVec 32 := Scalar.subi arg1 c1_i32
  let c256_i32 : BitVec 32 := 256#32
  let v1 : BitVec 32 := Scalar.muli v0 c256_i32
  let c128_i32 : BitVec 32 := 128#32
  let v2 : BitVec 32 := Scalar.subi v1 c128_i32
  let v3 : BitVec 32 := Scalar.maxsi c0_i32 v2
  let v4 : BitVec 32 := Scalar.minsi c7680_i32 v3
  let v5 : BitVec 32 := Scalar.addi c256_i32_0 v4
  v5
def k0_off1 (i : grid0.Coords) : Fin 3 → Nat :=
  let c0_6 : Index := 0#32
  let c256_i32_0 : BitVec 32 := 256#32
  let c7680_i32 : BitVec 32 := 7680#32
  let c0_i32 : BitVec 32 := 0#32
  let arg1 : BitVec 32 := BitVec.ofNat 32 (i 1).val
  let c1_i32 : BitVec 32 := 1#32
  let v0 : BitVec 32 := Scalar.subi arg1 c1_i32
  let c256_i32 : BitVec 32 := 256#32
  let v1 : BitVec 32 := Scalar.muli v0 c256_i32
  let c128_i32 : BitVec 32 := 128#32
  let v2 : BitVec 32 := Scalar.subi v1 c128_i32
  let v3 : BitVec 32 := Scalar.maxsi c0_i32 v2
  let v4 : BitVec 32 := Scalar.minsi c7680_i32 v3
  let v5 : BitVec 32 := Scalar.addi c256_i32_0 v4
  let v6 : BitVec 32 := v5
  let v19 : Index := Scalar.indexCast v6
  let c0_7 : Index := 0#32
  ![0, v19.toNat, 0]
def k0_off2 (i : grid0.Coords) : Fin 3 → Nat :=
  let c0_38 : Index := 0#32
  let c256_i32_0 : BitVec 32 := 256#32
  let c7680_i32 : BitVec 32 := 7680#32
  let c0_i32 : BitVec 32 := 0#32
  let arg1 : BitVec 32 := BitVec.ofNat 32 (i 1).val
  let c1_i32 : BitVec 32 := 1#32
  let v0 : BitVec 32 := Scalar.subi arg1 c1_i32
  let c256_i32 : BitVec 32 := 256#32
  let v1 : BitVec 32 := Scalar.muli v0 c256_i32
  let c128_i32 : BitVec 32 := 128#32
  let v2 : BitVec 32 := Scalar.subi v1 c128_i32
  let v3 : BitVec 32 := Scalar.maxsi c0_i32 v2
  let v4 : BitVec 32 := Scalar.minsi c7680_i32 v3
  let v5 : BitVec 32 := Scalar.addi c256_i32_0 v4
  let v6 : BitVec 32 := v5
  let v118 : Index := Scalar.indexCast v6
  let c128_39 : Index := 128#32
  ![0, v118.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 1 := Scalar.cmpi .slt v0 c0_i32
  let c0_i32_0 : BitVec 32 := 0#32
  let v2 : BitVec 1 := Scalar.cmpi .eq v0 c0_i32_0
  let c31_i32 : BitVec 32 := 31#32
  let v3 : BitVec 1 := Scalar.cmpi .eq v0 c31_i32
  let c2_i32 : BitVec 32 := 2#32
  let c1_i32_1 : BitVec 32 := 1#32
  let v4 : BitVec 32 := Scalar.select v3 c2_i32 c1_i32_1
  let c0_i32_2 : BitVec 32 := 0#32
  let v5 : BitVec 32 := Scalar.select v2 c0_i32_2 v4
  let c3_i32 : BitVec 32 := 3#32
  let v6 : BitVec 32 := Scalar.select v1 c3_i32 v5
  let c0_i32_3 : BitVec 32 := 0#32
  let c0_i32_4 : BitVec 32 := 0#32
  let c0_i32_5 : BitVec 32 := 0#32
  ![v6.toNat, c0_i32_3.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
variable {F : FTy → Type} [FloatOps F] [Named F]
def κ : String → Option EReal := fun
  | "log2e" => some (((Real.log 2)⁻¹ : ℝ) : EReal)
  | "scale_log2e" => some (((Real.sqrt 128)⁻¹ * (Real.log 2)⁻¹ : ℝ) : EReal)
  | _ => none
-- ==== Reference6Ideal.lean ====
abbrev S2x8448x1024 : Shape := ⟨3, ![2, 8448, 1024]⟩
abbrev S2x8448x256 : Shape := ⟨3, ![2, 8448, 256]⟩
abbrev S8 : Shape := ⟨1, ![8]⟩
abbrev S2x8448x2x4x128 : Shape := ⟨5, ![2, 8448, 2, 4, 128]⟩
abbrev S2x8448x2x128 : Shape := ⟨4, ![2, 8448, 2, 128]⟩
abbrev S2x2x8448x8448x4 : Shape := ⟨5, ![2, 2, 8448, 8448, 4]⟩
abbrev S2x2x4x8448x8448 : Shape := ⟨5, ![2, 2, 4, 8448, 8448]⟩
abbrev S_ : Shape := ⟨0, ![]⟩
abbrev S8448 : Shape := ⟨1, ![8448]⟩
abbrev S8448x1 : Shape := ⟨2, ![8448, 1]⟩
abbrev S1x8448 : Shape := ⟨2, ![1, 8448]⟩
abbrev S8448x8448 : Shape := ⟨2, ![8448, 8448]⟩
abbrev S2x4 : Shape := ⟨2, ![2, 4]⟩
abbrev S1x2x4x1x1 : Shape := ⟨5, ![1, 2, 4, 1, 1]⟩
abbrev S2x2x4x8448x1 : Shape := ⟨5, ![2, 2, 4, 8448, 1]⟩
abbrev S2x2x4x8448x8449 : Shape := ⟨5, ![2, 2, 4, 8448, 8449]⟩
abbrev S2x2x4x8448 : Shape := ⟨4, ![2, 2, 4, 8448]⟩
abbrev S2x2x128x4x8448 : Shape := ⟨5, ![2, 2, 128, 4, 8448]⟩

abbrev nBuf : Space → Nat
  | .hbm => 62
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x256, .f32⟩
  | .hbm, ⟨2, _⟩ => ⟨S2x8448x256, .f32⟩
  | .hbm, ⟨3, _⟩ => ⟨S8, .f32⟩
  | .hbm, ⟨4, _⟩ => ⟨S2x8448x2x4x128, .f32⟩
  | .hbm, ⟨5, _⟩ => ⟨S2x8448x2x128, .f32⟩
  | .hbm, ⟨6, _⟩ => ⟨S2x8448x2x128, .f32⟩
  | .hbm, ⟨7, _⟩ => ⟨S2x2x8448x8448x4, .f32⟩
  | .hbm, ⟨8, _⟩ => ⟨S2x2x4x8448x8448, .f32⟩
  | .hbm, ⟨9, _⟩ => ⟨S_, .f32⟩
  | .hbm, ⟨10, _⟩ => ⟨S_, .f32⟩
  | .hbm, ⟨11, _⟩ => ⟨S2x2x4x8448x8448, .f32⟩
  | .hbm, ⟨12, _⟩ => ⟨S2x2x4x8448x8448, .f32⟩
  | .hbm, ⟨13, _⟩ => ⟨S8448, .i32⟩
  | .hbm, ⟨14, _⟩ => ⟨S8448x1, .i32⟩
  | .hbm, ⟨15, _⟩ => ⟨S8448, .i32⟩
  | .hbm, ⟨16, _⟩ => ⟨S1x8448, .i32⟩
  | .hbm, ⟨17, _⟩ => ⟨S_, .i32⟩
  | .hbm, ⟨18, _⟩ => ⟨S1x8448, .i32⟩
  | .hbm, ⟨19, _⟩ => ⟨S1x8448, .i1⟩
  | .hbm, ⟨20, _⟩ => ⟨S_, .i32⟩
  | .hbm, ⟨21, _⟩ => ⟨S8448x1, .i32⟩
  | .hbm, ⟨22, _⟩ => ⟨S8448x1, .i1⟩
  | .hbm, ⟨23, _⟩ => ⟨S8448x8448, .i32⟩
  | .hbm, ⟨24, _⟩ => ⟨S8448x8448, .i32⟩
  | .hbm, ⟨25, _⟩ => ⟨S8448x8448, .i32⟩
  | .hbm, ⟨26, _⟩ => ⟨S8448x8448, .i32⟩
  | .hbm, ⟨27, _⟩ => ⟨S_, .i32⟩
  | .hbm, ⟨28, _⟩ => ⟨S8448x8448, .i32⟩
  | .hbm, ⟨29, _⟩ => ⟨S8448x8448, .i1⟩
  | .hbm, ⟨30, _⟩ => ⟨S8448x8448, .i1⟩
  | .hbm, ⟨31, _⟩ => ⟨S8448x8448, .i1⟩
  | .hbm, ⟨32, _⟩ => ⟨S8448x8448, .i1⟩
  | .hbm, ⟨33, _⟩ => ⟨S8448x8448, .i1⟩
  | .hbm, ⟨34, _⟩ => ⟨S_, .f32⟩
  | .hbm, ⟨35, _⟩ => ⟨S_, .f32⟩
  | .hbm, ⟨36, _⟩ => ⟨S2x2x4x8448x8448, .i1⟩
  | .hbm, ⟨37, _⟩ => ⟨S2x2x4x8448x8448, .f32⟩
  | .hbm, ⟨38, _⟩ => ⟨S2x2x4x8448x8448, .f32⟩
  | .hbm, ⟨39, _⟩ => ⟨S2x4, .f32⟩
  | .hbm, ⟨40, _⟩ => ⟨S1x2x4x1x1, .f32⟩
  | .hbm, ⟨41, _⟩ => ⟨S2x2x4x8448x1, .f32⟩
  | .hbm, ⟨42, _⟩ => ⟨S2x2x4x8448x8449, .f32⟩
  | .hbm, ⟨43, _⟩ => ⟨S_, .f32⟩
  | .hbm, ⟨44, _⟩ => ⟨S2x2x4x8448, .f32⟩
  | .hbm, ⟨45, _⟩ => ⟨S_, .f32⟩
  | .hbm, ⟨46, _⟩ => ⟨S2x2x4x8448, .f32⟩
  | .hbm, ⟨47, _⟩ => ⟨S2x2x4x8448, .f32⟩
  | .hbm, ⟨48, _⟩ => ⟨S2x2x4x8448x1, .f32⟩
  | .hbm, ⟨49, _⟩ => ⟨S2x2x4x8448x8449, .f32⟩
  | .hbm, ⟨50, _⟩ => ⟨S2x2x4x8448x8449, .f32⟩
  | .hbm, ⟨51, _⟩ => ⟨S2x2x4x8448x8449, .f32⟩
  | .hbm, ⟨52, _⟩ => ⟨S_, .f32⟩
  | .hbm, ⟨53, _⟩ => ⟨S2x2x4x8448, .f32⟩
  | .hbm, ⟨54, _⟩ => ⟨S2x2x4x8448x1, .f32⟩
  | .hbm, ⟨55, _⟩ => ⟨S2x2x4x8448x8449, .f32⟩
  | .hbm, ⟨56, _⟩ => ⟨S2x2x4x8448x8449, .f32⟩
  | .hbm, ⟨57, _⟩ => ⟨S2x2x4x8448x8448, .f32⟩
  | .hbm, ⟨58, _⟩ => ⟨S2x2x128x4x8448, .f32⟩
  | .hbm, ⟨59, _⟩ => ⟨S2x8448x2x4x128, .f32⟩
  | .hbm, ⟨60, _⟩ => ⟨S2x8448x1024, .f32⟩
  | .hbm, ⟨61, _⟩ => ⟨S2x8448x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Softmax.lean ====
/- The mathematics of the online softmax over the extended reals: finite scores, any values. -/
module

public import Idealize.ShloMosaic.PureOps.Ideal

@[expose] public section

noncomputable section

namespace Cert.Attn

open Idealize.ShloMosaic

/-- A nonnegative real factor goes into a sum of extended reals. -/
theorem coe_mul_sum {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of real numbers, taken in the extended reals, is the real sum. -/
theorem coe_sum {ι : Type*} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The weight `2 ^ (s - m)` of a score `s` under the shift `m`. -/
def wt (m s : ℝ) : ℝ := Real.rpow 2 (s - m)

/-- A weight is positive. -/
theorem wt_pos (m s : ℝ) : 0 < wt m s := Real.rpow_pos_of_pos (by norm_num) _

/-- Base-2 exponential of a difference of reals: the weight. -/
theorem exp2_sub (s m : ℝ) : Ideal.exp2 ((s : EReal) - (m : EReal)) = (wt m s : EReal) := by
  rw [← EReal.coe_sub, Ideal.exp2_coe]; rfl

/-- Changing the shift from `m` to `m'` multiplies a weight by `2 ^ (m - m')`. -/
theorem wt_mul (m m' s : ℝ) : wt m' m * wt m s = wt m' s := by
  unfold wt
  show (2 : ℝ) ^ (m - m') * (2 : ℝ) ^ (s - m) = (2 : ℝ) ^ (s - m')
  rw [← Real.rpow_add (by norm_num)]; congr 1; ring

/-- RESCALING: a weighted sum under the shift `m`, times `2 ^ (m - m')`, is the one under the shift `m'`. -/
theorem rescale {ι : Type*} (t : Finset ι) (m m' : ℝ) (s : ι → ℝ) (v : ι → EReal) :
    (wt m' m : EReal) * ∑ k ∈ t, (wt m (s k) : EReal) * v k = ∑ k ∈ t, (wt m' (s k) : EReal) * v k := by
  rw [coe_mul_sum _ _ (wt_pos _ _).le]
  refine Finset.sum_congr rfl fun k _ => ?_
  rw [← mul_assoc, ← EReal.coe_mul, wt_mul]

/-- The same for the plain sum of the weights. -/
theorem rescale_sum {ι : Type*} (t : Finset ι) (m m' : ℝ) (s : ι → ℝ) :
    (wt m' m : EReal) * ∑ k ∈ t, (wt m (s k) : EReal) = ∑ k ∈ t, (wt m' (s k) : EReal) := by
  have h := rescale t m m' s (fun _ => 1)
  simpa only [mul_one] using h

/-- THE SOFTMAX IDENTITY. For finite scores `x` (natural base) and any values `v`: the base-2 weighted sum under any
    shift `m`, divided by the sum of its weights, is the sum of the values times the softmax of `x` under any shift
    `M`, the base-2 scores being `x / log 2`. -/
theorem softmax_eq {n : ℕ} [NeZero n] (x : Fin n → ℝ) (v : Fin n → EReal) (m M : ℝ) :
    Ideal.div (∑ k, (wt m (x k * (Real.log 2)⁻¹) : EReal) * v k) (∑ k, (wt m (x k * (Real.log 2)⁻¹) : EReal))
      = ∑ k, v k * Ideal.div (Ideal.exp ((x k : EReal) - (M : EReal))) (∑ j, Ideal.exp ((x j : EReal) - (M : EReal))) := by
  have hlog : Real.log 2 ≠ 0 := (Real.log_pos (by norm_num)).ne'
  have hw : ∀ k, wt m (x k * (Real.log 2)⁻¹) = Real.exp (M - m * Real.log 2) * Real.exp (x k - M) := by
    intro k
    unfold wt
    show (2 : ℝ) ^ (x k * (Real.log 2)⁻¹ - m) = _
    rw [Real.rpow_def_of_pos (by norm_num), ← Real.exp_add]
    congr 1
    field_simp
    ring
  have hE : ∀ k, Ideal.exp ((x k : EReal) - (M : EReal)) = ((Real.exp (x k - M) : ℝ) : EReal) := by
    intro k; rw [← EReal.coe_sub, Ideal.exp_coe]
  have hZ : 0 < ∑ k, Real.exp (x k - M) := Finset.sum_pos (fun k _ => Real.exp_pos _) ⟨0, Finset.mem_univ _⟩
  have hc : 0 < Real.exp (M - m * Real.log 2) := Real.exp_pos _
  simp only [hE, coe_sum, hw]
  rw [← Finset.mul_sum, Ideal.div_coe (mul_pos hc hZ).ne', mul_comm, coe_mul_sum _ _ (by positivity)]
  refine Finset.sum_congr rfl fun k _ => ?_
  rw [Ideal.div_coe hZ.ne', ← mul_assoc, ← EReal.coe_mul, ← EReal.coe_mul, mul_comm (v k)]
  congr 2
  field_simp

/-- ATTENTION: the values of `v` weighted with the softmax of the scores `x`. -/
def att {n : ℕ} (x : Fin n → ℝ) (v : Fin n → EReal) : EReal :=
  ∑ k, v k * Ideal.div (Ideal.exp ((x k : EReal) - ((0 : ℝ) : EReal))) (∑ j, Ideal.exp ((x j : EReal) - ((0 : ℝ) : EReal)))

/-- The base-2 form under any shift is the attention. -/
theorem att_of_wt {n : ℕ} [NeZero n] (x : Fin n → ℝ) (v : Fin n → EReal) (m : ℝ) :
    Ideal.div (∑ k, (wt m (x k * (Real.log 2)⁻¹) : EReal) * v k) (∑ k, (wt m (x k * (Real.log 2)⁻¹) : EReal)) = att x v :=
  softmax_eq x v m 0

/-- The softmax under any shift is the attention. -/
theorem att_of_exp {n : ℕ} [NeZero n] (x : Fin n → ℝ) (v : Fin n → EReal) (M : ℝ) :
    ∑ k, v k * Ideal.div (Ideal.exp ((x k : EReal) - (M : EReal))) (∑ j, Ideal.exp ((x j : EReal) - (M : EReal))) = att x v :=
  (softmax_eq x v 0 M).symm.trans (softmax_eq x v 0 0)

/-- The score of a query against a key: their product over the root of 128. -/
def dot (q k : Fin 128 → ℝ) : ℝ := (∑ x, k x * q x) * (Real.sqrt 128)⁻¹

/-- A maximum over finitely many reals, started from `⊥`, is a real. -/
theorem fold_max_real {n : ℕ} [NeZero n] (f : Fin n → EReal) (hf : ∀ k, ∃ r : ℝ, f k = r) :
    ∃ r : ℝ, Finset.univ.fold max ⊥ f = r := by
  have hb : ∀ t : Finset (Fin n), t.fold max ⊥ f ≠ ⊤ := by
    intro t
    induction t using Finset.induction_on with
    | empty => simp
    | insert a s ha ih =>
      rw [Finset.fold_insert ha]
      obtain ⟨r, hr⟩ := hf a
      rw [hr]
      exact (max_lt (EReal.coe_lt_top r) (lt_top_iff_ne_top.2 ih)).ne
  have h0 : Finset.univ.fold max ⊥ f ≠ ⊥ := by
    obtain ⟨r, hr⟩ := hf 0
    have h1 : f 0 ≤ Finset.univ.fold max ⊥ f := by
      rw [Finset.le_fold_max]; exact .inr ⟨0, Finset.mem_univ _, le_rfl⟩
    intro h; rw [h, hr] at h1
    exact absurd h1 (not_le.2 (EReal.bot_lt_coe r))
  exact ⟨_, (EReal.coe_toReal (hb _) h0).symm⟩

end Cert.Attn

end
-- ==== Proof.Step.lean ====
/- One step of the latents' online softmax, on a block of 2816 keys: the scores, the running maximum, the running
   lane sums and the running weighted values. -/
module

public import proofs.«01_k».proof.Proof.Gen.KernelIdeal.Skeleton
public import Idealize.ShloMosaic.Lib.Pointwise
public import proofs.«01_k».proof.Proof.Softmax

@[expose] public section

set_option maxRecDepth 16384

noncomputable section

namespace Cert.KernelIdeal.Step

open Cert.KernelIdeal Cert.KernelIdeal.Gen Idealize.ShloMosaic Idealize.ShloMosaic.TcCoe Cert.Attn

/-- The scores of 1024 stacked queries against a block of 2816 keys. -/
def score (q : FVec Ideal S1024x128 .bf16) (k : FVec Ideal S1x2816x128 .bf16) : FVec Ideal S1024x2816 .f32 :=
  matmul dot_S1024x128_S2816x128_S1024x2816_1_1_0_0_n_n none q (shapeCast S2816x128 k shapeCasts_S1x2816x128_S2816x128) (constant S1024x2816 .f32 0x00000000#32)

/-- Keys 0 to 127 of a block's scores. -/
def part0 (s : FVec Ideal S1024x2816 .f32) : FVec Ideal S1024x128 .f32 := extractStridedSlice S1024x128 ![0, 0] s slices_S1024x2816_o0_0_S1024x128

/-- Keys 128 to 255 of a block's scores. -/
def part1 (s : FVec Ideal S1024x2816 .f32) : FVec Ideal S1024x128 .f32 := extractStridedSlice S1024x128 ![0, 128] s slices_S1024x2816_o0_128_S1024x128

/-- Keys 256 to 383 of a block's scores. -/
def part2 (s : FVec Ideal S1024x2816 .f32) : FVec Ideal S1024x128 .f32 := extractStridedSlice S1024x128 ![0, 256] s slices_S1024x2816_o0_256_S1024x128

/-- Keys 384 to 511 of a block's scores. -/
def part3 (s : FVec Ideal S1024x2816 .f32) : FVec Ideal S1024x128 .f32 := extractStridedSlice S1024x128 ![0, 384] s slices_S1024x2816_o0_384_S1024x128

/-- Keys 512 to 639 of a block's scores. -/
def part4 (s : FVec Ideal S1024x2816 .f32) : FVec Ideal S1024x128 .f32 := extractStridedSlice S1024x128 ![0, 512] s slices_S1024x2816_o0_512_S1024x128

/-- Keys 640 to 767 of a block's scores. -/
def part5 (s : FVec Ideal S1024x2816 .f32) : FVec Ideal S1024x128 .f32 := extractStridedSlice S1024x128 ![0, 640] s slices_S1024x2816_o0_640_S1024x128

/-- Keys 768 to 895 of a block's scores. -/
def part6 (s : FVec Ideal S1024x2816 .f32) : FVec Ideal S1024x128 .f32 := extractStridedSlice S1024x128 ![0, 768] s slices_S1024x2816_o0_768_S1024x128

/-- Keys 896 to 1023 of a block's scores. -/
def part7 (s : FVec Ideal S1024x2816 .f32) : FVec Ideal S1024x128 .f32 := extractStridedSlice S1024x128 ![0, 896] s slices_S1024x2816_o0_896_S1024x128

/-- Keys 1024 to 1151 of a block's scores. -/
def part8 (s : FVec Ideal S1024x2816 .f32) : FVec Ideal S1024x128 .f32 := extractStridedSlice S1024x128 ![0, 1024] s slices_S1024x2816_o0_1024_S1024x128

/-- Keys 1152 to 1279 of a block's scores. -/
def part9 (s : FVec Ideal S1024x2816 .f32) : FVec Ideal S1024x128 .f32 := extractStridedSlice S1024x128 ![0, 1152] s slices_S1024x2816_o0_1152_S1024x128

/-- Keys 1280 to 1407 of a block's scores. -/
def part10 (s : FVec Ideal S1024x2816 .f32) : FVec Ideal S1024x128 .f32 := extractStridedSlice S1024x128 ![0, 1280] s slices_S1024x2816_o0_1280_S1024x128

/-- Keys 1408 to 1535 of a block's scores. -/
def part11 (s : FVec Ideal S1024x2816 .f32) : FVec Ideal S1024x128 .f32 := extractStridedSlice S1024x128 ![0, 1408] s slices_S1024x2816_o0_1408_S1024x128

/-- Keys 1536 to 1663 of a block's scores. -/
def part12 (s : FVec Ideal S1024x2816 .f32) : FVec Ideal S1024x128 .f32 := extractStridedSlice S1024x128 ![0, 1536] s slices_S1024x2816_o0_1536_S1024x128

/-- Keys 1664 to 1791 of a block's scores. -/
def part13 (s : FVec Ideal S1024x2816 .f32) : FVec Ideal S1024x128 .f32 := extractStridedSlice S1024x128 ![0, 1664] s slices_S1024x2816_o0_1664_S1024x128

/-- Keys 1792 to 1919 of a block's scores. -/
def part14 (s : FVec Ideal S1024x2816 .f32) : FVec Ideal S1024x128 .f32 := extractStridedSlice S1024x128 ![0, 1792] s slices_S1024x2816_o0_1792_S1024x128

/-- Keys 1920 to 2047 of a block's scores. -/
def part15 (s : FVec Ideal S1024x2816 .f32) : FVec Ideal S1024x128 .f32 := extractStridedSlice S1024x128 ![0, 1920] s slices_S1024x2816_o0_1920_S1024x128

/-- Keys 2048 to 2175 of a block's scores. -/
def part16 (s : FVec Ideal S1024x2816 .f32) : FVec Ideal S1024x128 .f32 := extractStridedSlice S1024x128 ![0, 2048] s slices_S1024x2816_o0_2048_S1024x128

/-- Keys 2176 to 2303 of a block's scores. -/
def part17 (s : FVec Ideal S1024x2816 .f32) : FVec Ideal S1024x128 .f32 := extractStridedSlice S1024x128 ![0, 2176] s slices_S1024x2816_o0_2176_S1024x128

/-- Keys 2304 to 2431 of a block's scores. -/
def part18 (s : FVec Ideal S1024x2816 .f32) : FVec Ideal S1024x128 .f32 := extractStridedSlice S1024x128 ![0, 2304] s slices_S1024x2816_o0_2304_S1024x128

/-- Keys 2432 to 2559 of a block's scores. -/
def part19 (s : FVec Ideal S1024x2816 .f32) : FVec Ideal S1024x128 .f32 := extractStridedSlice S1024x128 ![0, 2432] s slices_S1024x2816_o0_2432_S1024x128

/-- Keys 2560 to 2687 of a block's scores. -/
def part20 (s : FVec Ideal S1024x2816 .f32) : FVec Ideal S1024x128 .f32 := extractStridedSlice S1024x128 ![0, 2560] s slices_S1024x2816_o0_2560_S1024x128

/-- Keys 2688 to 2815 of a block's scores. -/
def part21 (s : FVec Ideal S1024x2816 .f32) : FVec Ideal S1024x128 .f32 := extractStridedSlice S1024x128 ![0, 2688] s slices_S1024x2816_o0_2688_S1024x128

/-- A plane of a scratch buffer as a matrix. -/
def flat (x : FVec Ideal S1x1024x128 .f32) : FVec Ideal S1024x128 .f32 := shapeCast S1024x128 x shapeCasts_S1x1024x128_S1024x128

/-- A matrix as a plane of a scratch buffer. -/
def plane (x : FVec Ideal S1024x128 .f32) : FVec Ideal S1x1024x128 .f32 := shapeCast S1x1024x128 x shapeCasts_S1024x128_S1x1024x128

/-- Each row's maximum over the block, in every lane. -/
def rowMax (s : FVec Ideal S1024x2816 .f32) : FVec Ideal S1024x128 .f32 :=
  broadcastTo S1024x128 (shapeCast S1024x1 (multiReduction .maximumf [1] S1024 (maximumf (maximumf (maximumf (maximumf (maximumf (maximumf (maximumf (maximumf (maximumf (maximumf (maximumf (maximumf (maximumf (maximumf (maximumf (maximumf (maximumf (maximumf (maximumf (maximumf (maximumf (part0 s) (part1 s)) (part2 s)) (part3 s)) (part4 s)) (part5 s)) (part6 s)) (part7 s)) (part8 s)) (part9 s)) (part10 s)) (part11 s)) (part12 s)) (part13 s)) (part14 s)) (part15 s)) (part16 s)) (part17 s)) (part18 s)) (part19 s)) (part20 s)) (part21 s)) 0xFF800000#32 reduces_S1024x128_S1024 (.inl rfl) rfl) shapeCasts_S1024_S1024x1) broadcasts_S1024x1_S1024x128

/-- The new running maximum. -/
def mNew (s : FVec Ideal S1024x2816 .f32) (mp : FVec Ideal S1x1024x128 .f32) : FVec Ideal S1024x128 .f32 := maximumf (flat mp) (rowMax s)

/-- Two to the power of a part of the scores less the maximum. -/
def ex (p m : FVec Ideal S1024x128 .f32) : FVec Ideal S1024x128 .f32 := exp2 (subf p m)

/-- The lane sums of a block: the 22 parts' weights added up. -/
def laneSum (s : FVec Ideal S1024x2816 .f32) (m : FVec Ideal S1024x128 .f32) : FVec Ideal S1024x128 .f32 := addf (addf (addf (addf (addf (addf (addf (addf (addf (addf (addf (addf (addf (addf (addf (addf (addf (addf (addf (addf (addf (ex (part0 s) m) (ex (part1 s) m)) (ex (part2 s) m)) (ex (part3 s) m)) (ex (part4 s) m)) (ex (part5 s) m)) (ex (part6 s) m)) (ex (part7 s) m)) (ex (part8 s) m)) (ex (part9 s) m)) (ex (part10 s) m)) (ex (part11 s) m)) (ex (part12 s) m)) (ex (part13 s) m)) (ex (part14 s) m)) (ex (part15 s) m)) (ex (part16 s) m)) (ex (part17 s) m)) (ex (part18 s) m)) (ex (part19 s) m)) (ex (part20 s) m)) (ex (part21 s) m)

/-- A block's weights, part by part. -/
def pieces (s : FVec Ideal S1024x2816 .f32) (m : FVec Ideal S1024x128 .f32) : List ((t : Shape) × FVec Ideal t .bf16) := [⟨S1024x128, truncf .bf16 (ex (part0 s) m) bitsLt_bf16_f32⟩, ⟨S1024x128, truncf .bf16 (ex (part1 s) m) bitsLt_bf16_f32⟩, ⟨S1024x128, truncf .bf16 (ex (part2 s) m) bitsLt_bf16_f32⟩, ⟨S1024x128, truncf .bf16 (ex (part3 s) m) bitsLt_bf16_f32⟩, ⟨S1024x128, truncf .bf16 (ex (part4 s) m) bitsLt_bf16_f32⟩, ⟨S1024x128, truncf .bf16 (ex (part5 s) m) bitsLt_bf16_f32⟩, ⟨S1024x128, truncf .bf16 (ex (part6 s) m) bitsLt_bf16_f32⟩, ⟨S1024x128, truncf .bf16 (ex (part7 s) m) bitsLt_bf16_f32⟩, ⟨S1024x128, truncf .bf16 (ex (part8 s) m) bitsLt_bf16_f32⟩, ⟨S1024x128, truncf .bf16 (ex (part9 s) m) bitsLt_bf16_f32⟩, ⟨S1024x128, truncf .bf16 (ex (part10 s) m) bitsLt_bf16_f32⟩, ⟨S1024x128, truncf .bf16 (ex (part11 s) m) bitsLt_bf16_f32⟩, ⟨S1024x128, truncf .bf16 (ex (part12 s) m) bitsLt_bf16_f32⟩, ⟨S1024x128, truncf .bf16 (ex (part13 s) m) bitsLt_bf16_f32⟩, ⟨S1024x128, truncf .bf16 (ex (part14 s) m) bitsLt_bf16_f32⟩, ⟨S1024x128, truncf .bf16 (ex (part15 s) m) bitsLt_bf16_f32⟩, ⟨S1024x128, truncf .bf16 (ex (part16 s) m) bitsLt_bf16_f32⟩, ⟨S1024x128, truncf .bf16 (ex (part17 s) m) bitsLt_bf16_f32⟩, ⟨S1024x128, truncf .bf16 (ex (part18 s) m) bitsLt_bf16_f32⟩, ⟨S1024x128, truncf .bf16 (ex (part19 s) m) bitsLt_bf16_f32⟩, ⟨S1024x128, truncf .bf16 (ex (part20 s) m) bitsLt_bf16_f32⟩, ⟨S1024x128, truncf .bf16 (ex (part21 s) m) bitsLt_bf16_f32⟩]

/-- A block's weights, the 22 parts side by side. -/
def weights (s : FVec Ideal S1024x2816 .f32) (m : FVec Ideal S1024x128 .f32) : FVec Ideal S1024x2816 .bf16 :=
  concatenate S1024x2816 1 (pieces s m) concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x2816_d1

/-- The new running maximum, as it is stored. -/
def mStep (s : FVec Ideal S1024x2816 .f32) (mp : FVec Ideal S1x1024x128 .f32) : FVec Ideal S1x1024x128 .f32 := plane (mNew s mp)

/-- The new running lane sums. -/
def lStep (s : FVec Ideal S1024x2816 .f32) (mp lp : FVec Ideal S1x1024x128 .f32) : FVec Ideal S1x1024x128 .f32 :=
  plane (addf (mulf (ex (flat mp) (mNew s mp)) (flat lp)) (laneSum s (mNew s mp)))

/-- The new running weighted values. -/
def aStep (s : FVec Ideal S1024x2816 .f32) (mp ap : FVec Ideal S1x1024x128 .f32) (v : FVec Ideal S1x2816x128 .bf16) : FVec Ideal S1x1024x128 .f32 :=
  plane (addf (mulf (ex (flat mp) (mNew s mp)) (flat ap)) (matmul dot_S1024x2816_S2816x128_S1024x128_1_0_0_1_n_n none (weights s (mNew s mp)) (shapeCast S2816x128 v shapeCasts_S1x2816x128_S2816x128) (constant S1024x128 .f32 0x00000000#32)))

/-- The weighted values over the lane sums' total. -/
def finish (a l : FVec Ideal S1x1024x128 .f32) : FVec Ideal S1024x128 .f32 :=
  divf (flat a) (broadcastTo S1024x128 (shapeCast S1024x1 (multiReduction .add [1] S1024 (flat l) 0x00000000#32 reduces_S1024x128_S1024 (.inl rfl) rfl) shapeCasts_S1024_S1024x1) broadcasts_S1024x1_S1024x128)

end Cert.KernelIdeal.Step

end
-- ==== Proof.Words.lean ====
/- The words the body's run names in a latents' point, as the online softmax's steps: three steps on each of the two
   groups of heads, each from the three scratch planes the step before left. -/
module

public import proofs.«01_k».proof.Proof.Gen.KernelIdeal.Frame
public import Idealize.ShloMosaic.Lib.Pipeline.ReadBack
public import proofs.«01_k».proof.Proof.Step

@[expose] public section

set_option maxRecDepth 16384

noncomputable section

namespace Cert.KernelIdeal.Step

open Cert.KernelIdeal Cert.KernelIdeal.Gen Idealize.ShloMosaic Idealize.ShloMosaic.TcCoe Idealize.SL.Sem

variable (c : Dev nD) (i : grid0.Coords) (arg2 : Memref sig .tc .vmem S1x256x1024 .f32) (harg2 : arg2.IsWhole) (arg3 : Memref sig .tc .vmem S1x8448x256 .bf16) (harg3 : arg3.IsWhole) (arg4 : Memref sig .tc .vmem S1x8448x256 .bf16) (harg4 : arg4.IsWhole) (arg6 : Memref sig .tc .vmem S2x1024x128 .f32) (arg7 : Memref sig .tc .vmem S2x1024x128 .f32) (arg8 : Memref sig .tc .vmem S2x1024x128 .f32) (hc1 : cond0_1 i)
  (x0 : Vec Ideal S1x256x1024 .f32) (x1 : Vec Ideal S1x8448x256 .bf16) (x2 : Vec Ideal S1x8448x256 .bf16)

/-- The stacked queries of the first group of heads. -/
def q0 : FVec Ideal S1024x128 .bf16 := k0_pay1 (View.readAt (Elt Ideal) arg2.view (Rect.unit (s := S1x256x1024) ![0, 0, 0] S1x256x512.size inb_S1x256x1024_S1x256x512_0_0_0).toLoadRect (harg2.unread x0))

/-- The stacked queries of the second group of heads. -/
def q1 : FVec Ideal S1024x128 .bf16 := k0_pay2 (View.readAt (Elt Ideal) arg2.view (Rect.unit (s := S1x256x1024) ![0, 0, 512] S1x256x512.size inb_S1x256x1024_S1x256x512_0_0_512).toLoadRect (harg2.unread x0))

/-- A block of 2816 keys (or values) of a group, from its corner. -/
def blk (arg : Memref sig .tc .vmem S1x8448x256 .bf16) (harg : arg.IsWhole) (x : Vec Ideal S1x8448x256 .bf16) (off : Fin 3 → ℕ)
    (h : ∀ a, off a + S1x2816x128.size a ≤ S1x8448x256.size a) : FVec Ideal S1x2816x128 .bf16 :=
  View.readAt (Elt Ideal) arg.view (Rect.unit (s := S1x8448x256) off S1x2816x128.size h).toLoadRect (harg.unread x)

/-- The first tile of the keys, in the first group's columns, lies in the array. -/
theorem inb00 : ∀ a, (![0, 0, 0] : Fin 3 → ℕ) a + S1x2816x128.size a ≤ S1x8448x256.size a := by decide

/-- The scores of group 0 against key block 0. -/
def s00 : FVec Ideal S1024x2816 .f32 := score (q0 arg2 harg2 x0) (blk arg3 harg3 x1 ![0, 0, 0] inb00)

/-- The second tile of the keys, in the first group's columns, lies in the array. -/
theorem inb10 : ∀ a, (![0, 2816, 0] : Fin 3 → ℕ) a + S1x2816x128.size a ≤ S1x8448x256.size a := by decide

/-- The scores of group 0 against key block 1. -/
def s10 : FVec Ideal S1024x2816 .f32 := score (q0 arg2 harg2 x0) (blk arg3 harg3 x1 ![0, 2816, 0] inb10)

/-- The third tile of the keys, in the first group's columns, lies in the array. -/
theorem inb20 : ∀ a, (![0, 5632, 0] : Fin 3 → ℕ) a + S1x2816x128.size a ≤ S1x8448x256.size a := by decide

/-- The scores of group 0 against key block 2. -/
def s20 : FVec Ideal S1024x2816 .f32 := score (q0 arg2 harg2 x0) (blk arg3 harg3 x1 ![0, 5632, 0] inb20)

/-- The first tile of the keys, in the second group's columns, lies in the array. -/
theorem inb01 : ∀ a, (![0, 0, 128] : Fin 3 → ℕ) a + S1x2816x128.size a ≤ S1x8448x256.size a := by decide

/-- The scores of group 1 against key block 0. -/
def s01 : FVec Ideal S1024x2816 .f32 := score (q1 arg2 harg2 x0) (blk arg3 harg3 x1 ![0, 0, 128] inb01)

/-- The second tile of the keys, in the second group's columns, lies in the array. -/
theorem inb11 : ∀ a, (![0, 2816, 128] : Fin 3 → ℕ) a + S1x2816x128.size a ≤ S1x8448x256.size a := by decide

/-- The scores of group 1 against key block 1. -/
def s11 : FVec Ideal S1024x2816 .f32 := score (q1 arg2 harg2 x0) (blk arg3 harg3 x1 ![0, 2816, 128] inb11)

/-- The third tile of the keys, in the second group's columns, lies in the array. -/
theorem inb21 : ∀ a, (![0, 5632, 128] : Fin 3 → ℕ) a + S1x2816x128.size a ≤ S1x8448x256.size a := by decide

/-- The scores of group 1 against key block 2. -/
def s21 : FVec Ideal S1024x2816 .f32 := score (q1 arg2 harg2 x0) (blk arg3 harg3 x1 ![0, 5632, 128] inb21)

/-- Group 0's running maximum before the first block: the fill. -/
theorem v87_eq : kernelRun0_B.sl.v87 (F := Ideal) c arg6 = View.ld (k0_pay19 (F := Ideal)) (Rect.unit (s := S2x1024x128) ![0, 0, 0] S1x1024x128.size inb_S2x1024x128_S1x1024x128_0_0_0) := by
  unfold kernelRun0_B.sl.v87
  unfold kernelRun0_B.sl.HS0_1
  exact View.readCov_fill _ _ _ _ _ (by decide)

/-- Group 0's running lane sums before the first block: the fill. -/
theorem v160_eq : kernelRun0_B.sl.v160 (F := Ideal) c arg7 = View.ld (k0_pay20 (F := Ideal)) (Rect.unit (s := S2x1024x128) ![0, 0, 0] S1x1024x128.size inb_S2x1024x128_S1x1024x128_0_0_0) := by
  unfold kernelRun0_B.sl.v160
  unfold kernelRun0_B.sl.HS1_1
  exact View.readCov_fill _ _ _ _ _ (by decide)

/-- Group 0's running weighted values before the first block: the fill. -/
theorem v190_eq : kernelRun0_B.sl.v190 (F := Ideal) c arg8 = View.ld (k0_pay21 (F := Ideal)) (Rect.unit (s := S2x1024x128) ![0, 0, 0] S1x1024x128.size inb_S2x1024x128_S1x1024x128_0_0_0) := by
  unfold kernelRun0_B.sl.v190
  unfold kernelRun0_B.sl.HS2_1
  exact View.readCov_fill _ _ _ _ _ (by decide)

/-- Group 1's running maximum before the first block: the fill. -/
theorem v251_eq : kernelRun0_B.sl.v251 (F := Ideal) c i arg2 harg2 arg3 harg3 arg6 hc1 x0 x1 = View.ld (k0_pay19 (F := Ideal)) (Rect.unit (s := S2x1024x128) ![1, 0, 0] S1x1024x128.size inb_S2x1024x128_S1x1024x128_1_0_0) := by
  unfold kernelRun0_B.sl.v251
  unfold kernelRun0_B.sl.HS0_2
  rw [View.readCov_skip _ _ _ _ _ (by decide)]
  unfold kernelRun0_B.sl.HS0_1
  exact View.readCov_fill _ _ _ _ _ (by decide)

/-- Group 1's running lane sums before the first block: the fill. -/
theorem v324_eq : kernelRun0_B.sl.v324 (F := Ideal) c i arg2 harg2 arg3 harg3 arg6 arg7 hc1 x0 x1 = View.ld (k0_pay20 (F := Ideal)) (Rect.unit (s := S2x1024x128) ![1, 0, 0] S1x1024x128.size inb_S2x1024x128_S1x1024x128_1_0_0) := by
  unfold kernelRun0_B.sl.v324
  unfold kernelRun0_B.sl.HS1_2
  rw [View.readCov_skip _ _ _ _ _ (by decide)]
  unfold kernelRun0_B.sl.HS1_1
  exact View.readCov_fill _ _ _ _ _ (by decide)

/-- Group 1's running weighted values before the first block: the fill. -/
theorem v354_eq : kernelRun0_B.sl.v354 (F := Ideal) c i arg2 harg2 arg3 harg3 arg4 harg4 arg6 arg8 hc1 x0 x1 x2 = View.ld (k0_pay21 (F := Ideal)) (Rect.unit (s := S2x1024x128) ![1, 0, 0] S1x1024x128.size inb_S2x1024x128_S1x1024x128_1_0_0) := by
  unfold kernelRun0_B.sl.v354
  unfold kernelRun0_B.sl.HS2_2
  rw [View.readCov_skip _ _ _ _ _ (by decide)]
  unfold kernelRun0_B.sl.HS2_1
  exact View.readCov_fill _ _ _ _ _ (by decide)

/-- Group 0's running maximum after block 0. -/
theorem v417_eq : kernelRun0_B.sl.v417 (F := Ideal) c i arg2 harg2 arg3 harg3 arg6 hc1 x0 x1 = mStep (s00 arg2 harg2 arg3 harg3 x0 x1) (kernelRun0_B.sl.v87 (F := Ideal) c arg6) := by
  unfold kernelRun0_B.sl.v417
  unfold kernelRun0_B.sl.HS0_3
  rw [View.readCov_skip _ _ _ _ _ (by decide)]
  unfold kernelRun0_B.sl.HS0_2
  rw [View.readCov_cons_toLoadRect]
  rfl

/-- Group 0's running lane sums after block 0. -/
theorem v490_eq : kernelRun0_B.sl.v490 (F := Ideal) c i arg2 harg2 arg3 harg3 arg6 arg7 hc1 x0 x1 = lStep (s00 arg2 harg2 arg3 harg3 x0 x1) (kernelRun0_B.sl.v87 (F := Ideal) c arg6) (kernelRun0_B.sl.v160 (F := Ideal) c arg7) := by
  unfold kernelRun0_B.sl.v490
  unfold kernelRun0_B.sl.HS1_3
  rw [View.readCov_skip _ _ _ _ _ (by decide)]
  unfold kernelRun0_B.sl.HS1_2
  rw [View.readCov_cons_toLoadRect]
  rfl

/-- Group 0's running weighted values after block 0. -/
theorem v520_eq : kernelRun0_B.sl.v520 (F := Ideal) c i arg2 harg2 arg3 harg3 arg4 harg4 arg6 arg8 hc1 x0 x1 x2 = aStep (s00 arg2 harg2 arg3 harg3 x0 x1) (kernelRun0_B.sl.v87 (F := Ideal) c arg6) (kernelRun0_B.sl.v190 (F := Ideal) c arg8) (blk arg4 harg4 x2 ![0, 0, 0] inb00) := by
  unfold kernelRun0_B.sl.v520
  unfold kernelRun0_B.sl.HS2_3
  rw [View.readCov_skip _ _ _ _ _ (by decide)]
  unfold kernelRun0_B.sl.HS2_2
  rw [View.readCov_cons_toLoadRect]
  rfl

/-- Group 1's running maximum after block 0. -/
theorem v581_eq : kernelRun0_B.sl.v581 (F := Ideal) c i arg2 harg2 arg3 harg3 arg6 hc1 x0 x1 = mStep (s01 arg2 harg2 arg3 harg3 x0 x1) (kernelRun0_B.sl.v251 (F := Ideal) c i arg2 harg2 arg3 harg3 arg6 hc1 x0 x1) := by
  unfold kernelRun0_B.sl.v581
  unfold kernelRun0_B.sl.HS0_4
  rw [View.readCov_skip _ _ _ _ _ (by decide)]
  unfold kernelRun0_B.sl.HS0_3
  rw [View.readCov_cons_toLoadRect]
  rfl

/-- Group 1's running lane sums after block 0. -/
theorem v654_eq : kernelRun0_B.sl.v654 (F := Ideal) c i arg2 harg2 arg3 harg3 arg6 arg7 hc1 x0 x1 = lStep (s01 arg2 harg2 arg3 harg3 x0 x1) (kernelRun0_B.sl.v251 (F := Ideal) c i arg2 harg2 arg3 harg3 arg6 hc1 x0 x1) (kernelRun0_B.sl.v324 (F := Ideal) c i arg2 harg2 arg3 harg3 arg6 arg7 hc1 x0 x1) := by
  unfold kernelRun0_B.sl.v654
  unfold kernelRun0_B.sl.HS1_4
  rw [View.readCov_skip _ _ _ _ _ (by decide)]
  unfold kernelRun0_B.sl.HS1_3
  rw [View.readCov_cons_toLoadRect]
  rfl

/-- Group 1's running weighted values after block 0. -/
theorem v684_eq : kernelRun0_B.sl.v684 (F := Ideal) c i arg2 harg2 arg3 harg3 arg4 harg4 arg6 arg8 hc1 x0 x1 x2 = aStep (s01 arg2 harg2 arg3 harg3 x0 x1) (kernelRun0_B.sl.v251 (F := Ideal) c i arg2 harg2 arg3 harg3 arg6 hc1 x0 x1) (kernelRun0_B.sl.v354 (F := Ideal) c i arg2 harg2 arg3 harg3 arg4 harg4 arg6 arg8 hc1 x0 x1 x2) (blk arg4 harg4 x2 ![0, 0, 128] inb01) := by
  unfold kernelRun0_B.sl.v684
  unfold kernelRun0_B.sl.HS2_4
  rw [View.readCov_skip _ _ _ _ _ (by decide)]
  unfold kernelRun0_B.sl.HS2_3
  rw [View.readCov_cons_toLoadRect]
  rfl

/-- Group 0's running maximum after block 1. -/
theorem v747_eq : kernelRun0_B.sl.v747 (F := Ideal) c i arg2 harg2 arg3 harg3 arg6 hc1 x0 x1 = mStep (s10 arg2 harg2 arg3 harg3 x0 x1) (kernelRun0_B.sl.v417 (F := Ideal) c i arg2 harg2 arg3 harg3 arg6 hc1 x0 x1) := by
  unfold kernelRun0_B.sl.v747
  unfold kernelRun0_B.sl.HS0_5
  rw [View.readCov_skip _ _ _ _ _ (by decide)]
  unfold kernelRun0_B.sl.HS0_4
  rw [View.readCov_cons_toLoadRect]
  rfl

/-- Group 0's running lane sums after block 1. -/
theorem v820_eq : kernelRun0_B.sl.v820 (F := Ideal) c i arg2 harg2 arg3 harg3 arg6 arg7 hc1 x0 x1 = lStep (s10 arg2 harg2 arg3 harg3 x0 x1) (kernelRun0_B.sl.v417 (F := Ideal) c i arg2 harg2 arg3 harg3 arg6 hc1 x0 x1) (kernelRun0_B.sl.v490 (F := Ideal) c i arg2 harg2 arg3 harg3 arg6 arg7 hc1 x0 x1) := by
  unfold kernelRun0_B.sl.v820
  unfold kernelRun0_B.sl.HS1_5
  rw [View.readCov_skip _ _ _ _ _ (by decide)]
  unfold kernelRun0_B.sl.HS1_4
  rw [View.readCov_cons_toLoadRect]
  rfl

/-- Group 0's running weighted values after block 1. -/
theorem v850_eq : kernelRun0_B.sl.v850 (F := Ideal) c i arg2 harg2 arg3 harg3 arg4 harg4 arg6 arg8 hc1 x0 x1 x2 = aStep (s10 arg2 harg2 arg3 harg3 x0 x1) (kernelRun0_B.sl.v417 (F := Ideal) c i arg2 harg2 arg3 harg3 arg6 hc1 x0 x1) (kernelRun0_B.sl.v520 (F := Ideal) c i arg2 harg2 arg3 harg3 arg4 harg4 arg6 arg8 hc1 x0 x1 x2) (blk arg4 harg4 x2 ![0, 2816, 0] inb10) := by
  unfold kernelRun0_B.sl.v850
  unfold kernelRun0_B.sl.HS2_5
  rw [View.readCov_skip _ _ _ _ _ (by decide)]
  unfold kernelRun0_B.sl.HS2_4
  rw [View.readCov_cons_toLoadRect]
  rfl

/-- Group 1's running maximum after block 1. -/
theorem v911_eq : kernelRun0_B.sl.v911 (F := Ideal) c i arg2 harg2 arg3 harg3 arg6 hc1 x0 x1 = mStep (s11 arg2 harg2 arg3 harg3 x0 x1) (kernelRun0_B.sl.v581 (F := Ideal) c i arg2 harg2 arg3 harg3 arg6 hc1 x0 x1) := by
  unfold kernelRun0_B.sl.v911
  unfold kernelRun0_B.sl.HS0_6
  rw [View.readCov_skip _ _ _ _ _ (by decide)]
  unfold kernelRun0_B.sl.HS0_5
  rw [View.readCov_cons_toLoadRect]
  rfl

/-- Group 1's running lane sums after block 1. -/
theorem v984_eq : kernelRun0_B.sl.v984 (F := Ideal) c i arg2 harg2 arg3 harg3 arg6 arg7 hc1 x0 x1 = lStep (s11 arg2 harg2 arg3 harg3 x0 x1) (kernelRun0_B.sl.v581 (F := Ideal) c i arg2 harg2 arg3 harg3 arg6 hc1 x0 x1) (kernelRun0_B.sl.v654 (F := Ideal) c i arg2 harg2 arg3 harg3 arg6 arg7 hc1 x0 x1) := by
  unfold kernelRun0_B.sl.v984
  unfold kernelRun0_B.sl.HS1_6
  rw [View.readCov_skip _ _ _ _ _ (by decide)]
  unfold kernelRun0_B.sl.HS1_5
  rw [View.readCov_cons_toLoadRect]
  rfl

/-- Group 1's running weighted values after block 1. -/
theorem v1014_eq : kernelRun0_B.sl.v1014 (F := Ideal) c i arg2 harg2 arg3 harg3 arg4 harg4 arg6 arg8 hc1 x0 x1 x2 = aStep (s11 arg2 harg2 arg3 harg3 x0 x1) (kernelRun0_B.sl.v581 (F := Ideal) c i arg2 harg2 arg3 harg3 arg6 hc1 x0 x1) (kernelRun0_B.sl.v684 (F := Ideal) c i arg2 harg2 arg3 harg3 arg4 harg4 arg6 arg8 hc1 x0 x1 x2) (blk arg4 harg4 x2 ![0, 2816, 128] inb11) := by
  unfold kernelRun0_B.sl.v1014
  unfold kernelRun0_B.sl.HS2_6
  rw [View.readCov_skip _ _ _ _ _ (by decide)]
  unfold kernelRun0_B.sl.HS2_5
  rw [View.readCov_cons_toLoadRect]
  rfl

/-- Group 0's running lane sums after block 2. -/
theorem v1030_eq : kernelRun0_B.sl.v1030 (F := Ideal) c i arg2 harg2 arg3 harg3 arg6 arg7 hc1 x0 x1 = lStep (s20 arg2 harg2 arg3 harg3 x0 x1) (kernelRun0_B.sl.v747 (F := Ideal) c i arg2 harg2 arg3 harg3 arg6 hc1 x0 x1) (kernelRun0_B.sl.v820 (F := Ideal) c i arg2 harg2 arg3 harg3 arg6 arg7 hc1 x0 x1) := by
  unfold kernelRun0_B.sl.v1030
  unfold kernelRun0_B.sl.HS1_7
  rw [View.readCov_skip _ _ _ _ _ (by decide)]
  unfold kernelRun0_B.sl.HS1_6
  rw [View.readCov_cons_toLoadRect]
  rfl

/-- Group 0's running weighted values after block 2. -/
theorem v1028_eq : kernelRun0_B.sl.v1028 (F := Ideal) c i arg2 harg2 arg3 harg3 arg4 harg4 arg6 arg8 hc1 x0 x1 x2 = aStep (s20 arg2 harg2 arg3 harg3 x0 x1) (kernelRun0_B.sl.v747 (F := Ideal) c i arg2 harg2 arg3 harg3 arg6 hc1 x0 x1) (kernelRun0_B.sl.v850 (F := Ideal) c i arg2 harg2 arg3 harg3 arg4 harg4 arg6 arg8 hc1 x0 x1 x2) (blk arg4 harg4 x2 ![0, 5632, 0] inb20) := by
  unfold kernelRun0_B.sl.v1028
  unfold kernelRun0_B.sl.HS2_7
  rw [View.readCov_skip _ _ _ _ _ (by decide)]
  unfold kernelRun0_B.sl.HS2_6
  rw [View.readCov_cons_toLoadRect]
  rfl

/-- Group 1's running lane sums after block 2. -/
theorem v1058_eq : kernelRun0_B.sl.v1058 (F := Ideal) c i arg2 harg2 arg3 harg3 arg6 arg7 hc1 x0 x1 = lStep (s21 arg2 harg2 arg3 harg3 x0 x1) (kernelRun0_B.sl.v911 (F := Ideal) c i arg2 harg2 arg3 harg3 arg6 hc1 x0 x1) (kernelRun0_B.sl.v984 (F := Ideal) c i arg2 harg2 arg3 harg3 arg6 arg7 hc1 x0 x1) := by
  unfold kernelRun0_B.sl.v1058
  unfold kernelRun0_B.sl.HS1_7
  rw [View.readCov_cons_toLoadRect]
  rfl

/-- Group 1's running weighted values after block 2. -/
theorem v1056_eq : kernelRun0_B.sl.v1056 (F := Ideal) c i arg2 harg2 arg3 harg3 arg4 harg4 arg6 arg8 hc1 x0 x1 x2 = aStep (s21 arg2 harg2 arg3 harg3 x0 x1) (kernelRun0_B.sl.v911 (F := Ideal) c i arg2 harg2 arg3 harg3 arg6 hc1 x0 x1) (kernelRun0_B.sl.v1014 (F := Ideal) c i arg2 harg2 arg3 harg3 arg4 harg4 arg6 arg8 hc1 x0 x1 x2) (blk arg4 harg4 x2 ![0, 5632, 128] inb21) := by
  unfold kernelRun0_B.sl.v1056
  unfold kernelRun0_B.sl.HS2_7
  rw [View.readCov_cons_toLoadRect]
  rfl

/-- Group 1's output. -/
theorem r312_eq : kernelRun0_B.sl.r_312 (F := Ideal) c i arg2 harg2 arg3 harg3 arg4 harg4 arg6 arg7 arg8 hc1 x0 x1 x2 = finish (kernelRun0_B.sl.v1056 (F := Ideal) c i arg2 harg2 arg3 harg3 arg4 harg4 arg6 arg8 hc1 x0 x1 x2) (kernelRun0_B.sl.v1058 (F := Ideal) c i arg2 harg2 arg3 harg3 arg6 arg7 hc1 x0 x1) := rfl

/-- Group 0's output. -/
theorem r311_eq : k0_pay362 (kernelRun0_B.sl.r_311 (F := Ideal) c i arg2 harg2 arg3 harg3 arg4 harg4 arg6 arg8 hc1 x0 x1 x2) (kernelRun0_B.sl.v1030 (F := Ideal) c i arg2 harg2 arg3 harg3 arg6 arg7 hc1 x0 x1) = finish (kernelRun0_B.sl.v1028 (F := Ideal) c i arg2 harg2 arg3 harg3 arg4 harg4 arg6 arg8 hc1 x0 x1 x2) (kernelRun0_B.sl.v1030 (F := Ideal) c i arg2 harg2 arg3 harg3 arg6 arg7 hc1 x0 x1) := rfl

end Cert.KernelIdeal.Step

end
-- ==== Proof.Block.lean ====
/- What one point writes: the two groups' outputs, head by head side by side; and the stacked queries read at an entry. -/
module

public import proofs.«01_k».proof.Proof.Gen.KernelIdeal.Frame
public import Idealize.ShloMosaic.Lib.Pipeline.ValueKit

@[expose] public section

set_option maxRecDepth 16384

noncomputable section

namespace Cert.KernelIdeal.Step

open Cert.KernelIdeal Cert.KernelIdeal.Gen Idealize.ShloMosaic Idealize.ShloMosaic.TcCoe Idealize.SL.Sem

/-- Head 0 of a group's stacked output. -/
def head0 (o : FVec Ideal S1024x128 .f32) : FVec Ideal S1x256x128 .bf16 :=
  shapeCast S1x256x128 (truncf .bf16 (extractStridedSlice S256x128 ![0, 0] o slices_S1024x128_o0_0_S256x128) bitsLt_bf16_f32) shapeCasts_S256x128_S1x256x128

/-- It, read at an entry. -/
theorem head0_idx (o : FVec Ideal S1024x128 .f32) (x : S1x256x128.Idx) (i : S1024x128.Idx)
    (e0 : (i 0).val = 0 + (x 1).val) (e1 : (i 1).val = (x 2).val) : head0 o x = o i := by
  idx_vars x
  idx_vars i
  pointwise [head0]
  blk_ext

/-- Head 1 of a group's stacked output. -/
def head1 (o : FVec Ideal S1024x128 .f32) : FVec Ideal S1x256x128 .bf16 :=
  shapeCast S1x256x128 (truncf .bf16 (extractStridedSlice S256x128 ![256, 0] o slices_S1024x128_o256_0_S256x128) bitsLt_bf16_f32) shapeCasts_S256x128_S1x256x128

/-- It, read at an entry. -/
theorem head1_idx (o : FVec Ideal S1024x128 .f32) (x : S1x256x128.Idx) (i : S1024x128.Idx)
    (e0 : (i 0).val = 256 + (x 1).val) (e1 : (i 1).val = (x 2).val) : head1 o x = o i := by
  idx_vars x
  idx_vars i
  pointwise [head1]
  blk_ext

/-- Head 2 of a group's stacked output. -/
def head2 (o : FVec Ideal S1024x128 .f32) : FVec Ideal S1x256x128 .bf16 :=
  shapeCast S1x256x128 (truncf .bf16 (extractStridedSlice S256x128 ![512, 0] o slices_S1024x128_o512_0_S256x128) bitsLt_bf16_f32) shapeCasts_S256x128_S1x256x128

/-- It, read at an entry. -/
theorem head2_idx (o : FVec Ideal S1024x128 .f32) (x : S1x256x128.Idx) (i : S1024x128.Idx)
    (e0 : (i 0).val = 512 + (x 1).val) (e1 : (i 1).val = (x 2).val) : head2 o x = o i := by
  idx_vars x
  idx_vars i
  pointwise [head2]
  blk_ext

/-- Head 3 of a group's stacked output. -/
def head3 (o : FVec Ideal S1024x128 .f32) : FVec Ideal S1x256x128 .bf16 :=
  shapeCast S1x256x128 (truncf .bf16 (extractStridedSlice S256x128 ![768, 0] o slices_S1024x128_o768_0_S256x128) bitsLt_bf16_f32) shapeCasts_S256x128_S1x256x128

/-- It, read at an entry. -/
theorem head3_idx (o : FVec Ideal S1024x128 .f32) (x : S1x256x128.Idx) (i : S1024x128.Idx)
    (e0 : (i 0).val = 768 + (x 1).val) (e1 : (i 1).val = (x 2).val) : head3 o x = o i := by
  idx_vars x
  idx_vars i
  pointwise [head3]
  blk_ext

/-- The eight heads' blocks, the last one first. -/
def stores (o0 o1 : FVec Ideal S1024x128 .f32) : List (View.Piece (Elt Ideal) S1x256x1024 .bf16) :=
  [⟨Rect.unit (s := S1x256x1024) ![0, 0, 896] S1x256x128.size inb_S1x256x1024_S1x256x128_0_0_896, head3 o1⟩,
   ⟨Rect.unit (s := S1x256x1024) ![0, 0, 768] S1x256x128.size inb_S1x256x1024_S1x256x128_0_0_768, head2 o1⟩,
   ⟨Rect.unit (s := S1x256x1024) ![0, 0, 640] S1x256x128.size inb_S1x256x1024_S1x256x128_0_0_640, head1 o1⟩,
   ⟨Rect.unit (s := S1x256x1024) ![0, 0, 512] S1x256x128.size inb_S1x256x1024_S1x256x128_0_0_512, head0 o1⟩,
   ⟨Rect.unit (s := S1x256x1024) ![0, 0, 384] S1x256x128.size inb_S1x256x1024_S1x256x128_0_0_384, head3 o0⟩,
   ⟨Rect.unit (s := S1x256x1024) ![0, 0, 256] S1x256x128.size inb_S1x256x1024_S1x256x128_0_0_256, head2 o0⟩,
   ⟨Rect.unit (s := S1x256x1024) ![0, 0, 128] S1x256x128.size inb_S1x256x1024_S1x256x128_0_0_128, head1 o0⟩,
   ⟨Rect.unit (s := S1x256x1024) ![0, 0, 0] S1x256x128.size inb_S1x256x1024_S1x256x128_0_0_0, head0 o0⟩]

/-- The block the eight heads make. -/
def heads (o0 o1 : FVec Ideal S1024x128 .f32) : Vec Ideal S1x256x1024 .bf16 := View.canon (stores o0 o1)

/-- An entry of the block: its column names the group, the head and the lane. -/
theorem heads_idx (o0 o1 : FVec Ideal S1024x128 .f32) (y : S1x256x1024.Idx) (i : S1024x128.Idx)
    (e0 : (i 0).val = (y 2).val / 128 % 4 * 256 + (y 1).val) (e1 : (i 1).val = (y 2).val % 128) :
    heads o0 o1 y = (if (y 2).val < 512 then o0 i else o1 i) := by
  unfold heads stores
  canon_tiles x h
  · rw [if_neg (by omega)]; exact head3_idx o1 x i (by omega) (by omega)
  · rw [if_neg (by omega)]; exact head2_idx o1 x i (by omega) (by omega)
  · rw [if_neg (by omega)]; exact head1_idx o1 x i (by omega) (by omega)
  · rw [if_neg (by omega)]; exact head0_idx o1 x i (by omega) (by omega)
  · rw [if_pos (by omega)]; exact head3_idx o0 x i (by omega) (by omega)
  · rw [if_pos (by omega)]; exact head2_idx o0 x i (by omega) (by omega)
  · rw [if_pos (by omega)]; exact head1_idx o0 x i (by omega) (by omega)
  · rw [if_pos (by omega)]; exact head0_idx o0 x i (by omega) (by omega)

/-- The same at an index written out. -/
theorem heads_at (o0 o1 : FVec Ideal S1024x128 .f32) (r : Fin 256) (j : Fin 1024) :
    heads o0 o1 (ix3 0 r j) = (if j.val < 512 then o0 (ix2 ⟨j.val / 128 % 4 * 256 + r.val, by omega⟩ ⟨j.val % 128, by omega⟩)
      else o1 (ix2 ⟨j.val / 128 % 4 * 256 + r.val, by omega⟩ ⟨j.val % 128, by omega⟩)) := by
  have h : ∀ (a : Fin 1024) (b : Fin 128), a.val = j.val / 128 % 4 * 256 + r.val → b.val = j.val % 128 →
      heads o0 o1 (ix3 0 r j) = (if j.val < 512 then o0 (ix2 a b) else o1 (ix2 a b)) :=
    fun a b ha hb => heads_idx o0 o1 (ix3 0 r j) (ix2 a b) ha hb
  exact h _ _ rfl rfl

end Cert.KernelIdeal.Step

end
-- ==== Proof.StepRead.lean ====
/- The step's operations read at an entry. -/
module

public import proofs.«01_k».proof.Proof.Step

@[expose] public section

set_option maxRecDepth 16384

noncomputable section

namespace Cert.KernelIdeal.Step

open Cert.KernelIdeal Cert.KernelIdeal.Gen Idealize.ShloMosaic Idealize.ShloMosaic.TcCoe Cert.Attn

/-- A score at an entry: the row of queries against the key. -/
theorem score_at (q : FVec Ideal S1024x128 .bf16) (k : FVec Ideal S1x2816x128 .bf16) (r : Fin 1024) (c : Fin 2816) :
    score q k (ix2 r c) = ∑ x : Fin 128, q (ix2 r x) * k (ix3 0 c x) := by
  pointwise [score]

/-- The word 0xFF800000 is −∞. -/
theorem ofBits_negInf : Ideal.ofBits .f32 0xFF800000#32 = ⊥ := by simp [Ideal.ofBits, Ideal.ieee]

/-- The larger of two reals is a real. -/
theorem max_real {a b : EReal} (ha : ∃ x : ℝ, a = (x : EReal)) (hb : ∃ x : ℝ, b = (x : EReal)) : ∃ x : ℝ, max a b = (x : EReal) := by
  rcases max_choice a b with h | h <;> rw [h]
  · exact ha
  · exact hb

/-- Of a block of real scores each row's maximum is a real, the same in every lane. -/
theorem rowMax_real (s : FVec Ideal S1024x2816 .f32) (hs : ∀ r c, ∃ x : ℝ, s (ix2 r c) = (x : EReal)) :
    ∃ ρ : Fin 1024 → ℝ, ∀ (r : Fin 1024) (l : Fin 128), rowMax s (ix2 r l) = (ρ r : EReal) := by
  have h : ∀ r : Fin 1024, ∃ x : ℝ, rowMax s (ix2 r (0 : Fin 128)) = (x : EReal) := by
    intro r
    pointwise [rowMax, part0, part1, part2, part3, part4, part5, part6, part7, part8, part9, part10, part11, part12, part13, part14, part15, part16, part17, part18, part19, part20, part21]
    rw [ofBits_negInf]
    refine fold_max_real _ fun k => ?_
    repeat' first
      | exact hs _ _
      | apply max_real
  choose ρ hρ using h
  refine ⟨ρ, fun r l => ?_⟩
  rw [← hρ]
  pointwise [rowMax]

/-- The lane sums at an entry: the 22 columns of that lane. -/
theorem laneSum_at (s : FVec Ideal S1024x2816 .f32) (m : FVec Ideal S1024x128 .f32) (r : Fin 1024) (l : Fin 128) :
    laneSum s m (ix2 r l) = ∑ p : Fin 22, Ideal.exp2 (s (ix2 r ⟨p.val * 128 + l.val, by omega⟩) - m (ix2 r l)) := by
  pointwise [laneSum, ex, part0, part1, part2, part3, part4, part5, part6, part7, part8, part9, part10, part11, part12, part13, part14, part15, part16, part17, part18, part19, part20, part21]
  simp only [Fin.sum_univ_castSucc, Fin.sum_univ_zero, zero_add, Fin.val_castSucc, Fin.val_last, Nat.reduceMul, zero_mul]
  rfl

/-- `K` pieces of 128 columns span `128·K` columns. -/
theorem span (K : ℕ) : ((List.replicate K S1024x128).map fun t => if h : t.rank = S1024x2816.rank then t.size ((1 : Fin S1024x2816.rank).cast h.symm) else 0).sum = 128 * K := by
  rw [List.map_replicate, List.sum_replicate]
  show K * 128 = 128 * K
  ring

/-- The weights at a column of piece `K`. -/
theorem weights_piece (s : FVec Ideal S1024x2816 .f32) (m : FVec Ideal S1024x128 .f32) (r : Fin 1024) (c : Fin 2816) (K : ℕ) (hc : c.val / 128 = K)
    (p : FVec Ideal S1024x128 .f32) (hK : K < (pieces s m).length) (hp : (pieces s m)[K] = ⟨S1024x128, truncf .bf16 (ex p m) bitsLt_bf16_f32⟩)
    (hpre : ((pieces s m).take K).map (·.1) = List.replicate K S1024x128)
    (hv : p (ix2 r ⟨c.val % 128, by omega⟩) = s (ix2 r c)) :
    weights s m (ix2 r c) = Ideal.exp2 (s (ix2 r c) - m (ix2 r ⟨c.val % 128, by omega⟩)) := by
  refine (concatenate_apply_piece (1 : Fin S1024x2816.rank) (pieces s m) _ (ix2 r c) K hK S1024x128 _ hp rfl (128 * K) (by rw [hpre]; exact span K) (ix2 r ⟨c.val % 128, by omega⟩) ?_ ?_).trans ?_
  · intro b hb
    match b with
    | ⟨0, _⟩ => rfl
    | ⟨1, _⟩ => exact absurd rfl hb
  · show 128 * K + c.val % 128 = c.val
    omega
  · rw [← hv]; rfl

set_option maxHeartbeats 4000000 in
/-- Every entry of the weights: two to the power of its score less its lane's maximum. -/
theorem weights_at (s : FVec Ideal S1024x2816 .f32) (m : FVec Ideal S1024x128 .f32) (r : Fin 1024) (c : Fin 2816) :
    weights s m (ix2 r c) = Ideal.exp2 (s (ix2 r c) - m (ix2 r ⟨c.val % 128, by omega⟩)) := by
  obtain ⟨K, hc⟩ : ∃ K, c.val / 128 = K := ⟨_, rfl⟩
  have hK : K < 22 := by omega
  interval_cases K
  · refine weights_piece s m r c 0 hc (part0 s) (by show 0 < 22; omega) rfl rfl ?_
    pointwise [part0]
    exact congrArg (fun z => s (ix2 r z)) (Fin.ext (by show c.val % 128 = c.val; omega))
  · refine weights_piece s m r c 1 hc (part1 s) (by show 1 < 22; omega) rfl rfl ?_
    pointwise [part1]
    exact congrArg (fun z => s (ix2 r z)) (Fin.ext (by show 128 + c.val % 128 = c.val; omega))
  · refine weights_piece s m r c 2 hc (part2 s) (by show 2 < 22; omega) rfl rfl ?_
    pointwise [part2]
    exact congrArg (fun z => s (ix2 r z)) (Fin.ext (by show 256 + c.val % 128 = c.val; omega))
  · refine weights_piece s m r c 3 hc (part3 s) (by show 3 < 22; omega) rfl rfl ?_
    pointwise [part3]
    exact congrArg (fun z => s (ix2 r z)) (Fin.ext (by show 384 + c.val % 128 = c.val; omega))
  · refine weights_piece s m r c 4 hc (part4 s) (by show 4 < 22; omega) rfl rfl ?_
    pointwise [part4]
    exact congrArg (fun z => s (ix2 r z)) (Fin.ext (by show 512 + c.val % 128 = c.val; omega))
  · refine weights_piece s m r c 5 hc (part5 s) (by show 5 < 22; omega) rfl rfl ?_
    pointwise [part5]
    exact congrArg (fun z => s (ix2 r z)) (Fin.ext (by show 640 + c.val % 128 = c.val; omega))
  · refine weights_piece s m r c 6 hc (part6 s) (by show 6 < 22; omega) rfl rfl ?_
    pointwise [part6]
    exact congrArg (fun z => s (ix2 r z)) (Fin.ext (by show 768 + c.val % 128 = c.val; omega))
  · refine weights_piece s m r c 7 hc (part7 s) (by show 7 < 22; omega) rfl rfl ?_
    pointwise [part7]
    exact congrArg (fun z => s (ix2 r z)) (Fin.ext (by show 896 + c.val % 128 = c.val; omega))
  · refine weights_piece s m r c 8 hc (part8 s) (by show 8 < 22; omega) rfl rfl ?_
    pointwise [part8]
    exact congrArg (fun z => s (ix2 r z)) (Fin.ext (by show 1024 + c.val % 128 = c.val; omega))
  · refine weights_piece s m r c 9 hc (part9 s) (by show 9 < 22; omega) rfl rfl ?_
    pointwise [part9]
    exact congrArg (fun z => s (ix2 r z)) (Fin.ext (by show 1152 + c.val % 128 = c.val; omega))
  · refine weights_piece s m r c 10 hc (part10 s) (by show 10 < 22; omega) rfl rfl ?_
    pointwise [part10]
    exact congrArg (fun z => s (ix2 r z)) (Fin.ext (by show 1280 + c.val % 128 = c.val; omega))
  · refine weights_piece s m r c 11 hc (part11 s) (by show 11 < 22; omega) rfl rfl ?_
    pointwise [part11]
    exact congrArg (fun z => s (ix2 r z)) (Fin.ext (by show 1408 + c.val % 128 = c.val; omega))
  · refine weights_piece s m r c 12 hc (part12 s) (by show 12 < 22; omega) rfl rfl ?_
    pointwise [part12]
    exact congrArg (fun z => s (ix2 r z)) (Fin.ext (by show 1536 + c.val % 128 = c.val; omega))
  · refine weights_piece s m r c 13 hc (part13 s) (by show 13 < 22; omega) rfl rfl ?_
    pointwise [part13]
    exact congrArg (fun z => s (ix2 r z)) (Fin.ext (by show 1664 + c.val % 128 = c.val; omega))
  · refine weights_piece s m r c 14 hc (part14 s) (by show 14 < 22; omega) rfl rfl ?_
    pointwise [part14]
    exact congrArg (fun z => s (ix2 r z)) (Fin.ext (by show 1792 + c.val % 128 = c.val; omega))
  · refine weights_piece s m r c 15 hc (part15 s) (by show 15 < 22; omega) rfl rfl ?_
    pointwise [part15]
    exact congrArg (fun z => s (ix2 r z)) (Fin.ext (by show 1920 + c.val % 128 = c.val; omega))
  · refine weights_piece s m r c 16 hc (part16 s) (by show 16 < 22; omega) rfl rfl ?_
    pointwise [part16]
    exact congrArg (fun z => s (ix2 r z)) (Fin.ext (by show 2048 + c.val % 128 = c.val; omega))
  · refine weights_piece s m r c 17 hc (part17 s) (by show 17 < 22; omega) rfl rfl ?_
    pointwise [part17]
    exact congrArg (fun z => s (ix2 r z)) (Fin.ext (by show 2176 + c.val % 128 = c.val; omega))
  · refine weights_piece s m r c 18 hc (part18 s) (by show 18 < 22; omega) rfl rfl ?_
    pointwise [part18]
    exact congrArg (fun z => s (ix2 r z)) (Fin.ext (by show 2304 + c.val % 128 = c.val; omega))
  · refine weights_piece s m r c 19 hc (part19 s) (by show 19 < 22; omega) rfl rfl ?_
    pointwise [part19]
    exact congrArg (fun z => s (ix2 r z)) (Fin.ext (by show 2432 + c.val % 128 = c.val; omega))
  · refine weights_piece s m r c 20 hc (part20 s) (by show 20 < 22; omega) rfl rfl ?_
    pointwise [part20]
    exact congrArg (fun z => s (ix2 r z)) (Fin.ext (by show 2560 + c.val % 128 = c.val; omega))
  · refine weights_piece s m r c 21 hc (part21 s) (by show 21 < 22; omega) rfl rfl ?_
    pointwise [part21]
    exact congrArg (fun z => s (ix2 r z)) (Fin.ext (by show 2688 + c.val % 128 = c.val; omega))

/-- The running output at an entry: the rescaled previous one and the block's weighted values. -/
theorem aStep_at (s : FVec Ideal S1024x2816 .f32) (mp ap : FVec Ideal S1x1024x128 .f32) (v : FVec Ideal S1x2816x128 .bf16) (r : Fin 1024) (l : Fin 128) :
    aStep s mp ap v (ix3 0 r l) = Ideal.exp2 (mp (ix3 0 r l) - mNew s mp (ix2 r l)) * ap (ix3 0 r l)
      + ∑ c : Fin 2816, weights s (mNew s mp) (ix2 r c) * v (ix3 0 c l) := by
  pointwise [aStep, plane, flat, ex]
  rfl

/-- The running lane sums at an entry: the rescaled previous ones and the block's. -/
theorem lStep_at (s : FVec Ideal S1024x2816 .f32) (mp lp : FVec Ideal S1x1024x128 .f32) (r : Fin 1024) (l : Fin 128) :
    lStep s mp lp (ix3 0 r l) = Ideal.exp2 (mp (ix3 0 r l) - mNew s mp (ix2 r l)) * lp (ix3 0 r l) + laneSum s (mNew s mp) (ix2 r l) := by
  pointwise [lStep, plane, flat, ex]
  rfl

/-- The stored maximum at an entry. -/
theorem mStep_at (s : FVec Ideal S1024x2816 .f32) (mp : FVec Ideal S1x1024x128 .f32) (r : Fin 1024) (l : Fin 128) :
    mStep s mp (ix3 0 r l) = mNew s mp (ix2 r l) := by
  pointwise [mStep, plane]

/-- The new maximum at an entry: the larger of the previous one and the block's row maximum. -/
theorem mNew_at (s : FVec Ideal S1024x2816 .f32) (mp : FVec Ideal S1x1024x128 .f32) (r : Fin 1024) (l : Fin 128) :
    mNew s mp (ix2 r l) = max (mp (ix3 0 r l)) (rowMax s (ix2 r l)) := by
  pointwise [mNew, flat]

/-- The block's output at an entry: the running output over the lane sums' total. -/
theorem finish_at (a l : FVec Ideal S1x1024x128 .f32) (r : Fin 1024) (d : Fin 128) :
    finish a l (ix2 r d) = Ideal.div (a (ix3 0 r d)) (∑ x : Fin 128, l (ix3 0 r x)) := by
  pointwise [finish, flat]

end Cert.KernelIdeal.Step

end
-- ==== Proof.Online.lean ====
/- Three steps of the online softmax, from empty planes: the weighted values over the weights' sum, with one shift per
   row for all three blocks. -/
module

public import proofs.«01_k».proof.Proof.StepRead

@[expose] public section

set_option maxRecDepth 16384

noncomputable section

namespace Cert.KernelIdeal.Step

open Cert.KernelIdeal Cert.KernelIdeal.Gen Idealize.ShloMosaic Idealize.ShloMosaic.TcCoe Cert.Attn

/-- A sum over `a·b` terms, taken `b` at a time. -/
theorem sum_split {a b n : ℕ} (h : a * b = n) (f : Fin n → EReal) :
    ∑ p : Fin a, ∑ l : Fin b, f ⟨p.val * b + l.val, by
      have := p.isLt; have := l.isLt; subst h
      calc p.val * b + l.val < p.val * b + b := by omega
        _ = (p.val + 1) * b := by ring
        _ ≤ a * b := Nat.mul_le_mul_right _ p.isLt⟩ = ∑ k, f k := by
  subst h
  rw [← Equiv.sum_comp finProdFinEquiv f, Fintype.sum_prod_type]
  refine Finset.sum_congr rfl fun p _ => Finset.sum_congr rfl fun l _ => congrArg f (Fin.ext ?_)
  show p.val * b + l.val = l.val + b * p.val
  ring

/-- A block's lane sums with the shift `μ`. -/
def L (σ : Fin 2816 → ℝ) (μ : ℝ) (l : Fin 128) : EReal := ∑ p : Fin 22, (wt μ (σ ⟨p.val * 128 + l.val, by omega⟩) : EReal)

/-- A block's weighted values with the shift `μ`. -/
def A (σ : Fin 2816 → ℝ) (v : Fin 2816 → EReal) (μ : ℝ) : EReal := ∑ c : Fin 2816, (wt μ (σ c) : EReal) * v c

/-- Changing the shift of the lane sums. -/
theorem L_rescale (σ : Fin 2816 → ℝ) (μ μ' : ℝ) (l : Fin 128) : (wt μ' μ : EReal) * L σ μ l = L σ μ' l :=
  rescale_sum _ _ _ _

/-- Changing the shift of the weighted values. -/
theorem A_rescale (σ : Fin 2816 → ℝ) (v : Fin 2816 → EReal) (μ μ' : ℝ) : (wt μ' μ : EReal) * A σ v μ = A σ v μ' :=
  rescale _ _ _ _ _

/-- A weight distributes over a sum, whatever the terms. -/
theorem wt_add (m s : ℝ) (x y : EReal) : (wt m s : EReal) * (x + y) = (wt m s : EReal) * x + (wt m s : EReal) * y :=
  EReal.left_distrib_of_nonneg_of_ne_top (by exact_mod_cast (wt_pos m s).le) (EReal.coe_ne_top _) x y

/-- The lanes' sums add up to the sum over the block. -/
theorem L_total (σ : Fin 2816 → ℝ) (μ : ℝ) : ∑ l : Fin 128, L σ μ l = ∑ c : Fin 2816, (wt μ (σ c) : EReal) := by
  unfold L
  rw [Finset.sum_comm]
  exact sum_split (by norm_num) fun c => (wt μ (σ c) : EReal)

section one
variable {s : FVec Ideal S1024x2816 .f32} {σ : Fin 1024 → Fin 2816 → ℝ} (hs : ∀ r c, s (ix2 r c) = (σ r c : EReal))
include hs

/-- The kernel's lane sums of real scores under a real maximum. -/
theorem laneSum_eq {m : FVec Ideal S1024x128 .f32} {μ : ℝ} (r : Fin 1024) (l : Fin 128) (hm : m (ix2 r l) = (μ : EReal)) :
    laneSum s m (ix2 r l) = L (σ r) μ l := by
  rw [laneSum_at, hm]
  refine Finset.sum_congr rfl fun p _ => ?_
  rw [hs, exp2_sub]

/-- The kernel's weighted values of real scores under a real maximum. -/
theorem weightsSum_eq {m : FVec Ideal S1024x128 .f32} {μ : ℝ} (v : FVec Ideal S1x2816x128 .bf16) (r : Fin 1024) (hm : ∀ l, m (ix2 r l) = (μ : EReal)) (d : Fin 128) :
    ∑ c : Fin 2816, weights s m (ix2 r c) * v (ix3 0 c d) = A (σ r) (fun c => v (ix3 0 c d)) μ := by
  refine Finset.sum_congr rfl fun c _ => ?_
  rw [weights_at, hm, hs, exp2_sub]

/-- The new maximum, from an empty plane. -/
theorem first_max {mp : FVec Ideal S1x1024x128 .f32} (hp : ∀ r l, mp (ix3 0 r l) = (⊥ : EReal)) :
    ∃ μ : Fin 1024 → ℝ, ∀ r l, mNew s mp (ix2 r l) = (μ r : EReal) := by
  obtain ⟨ρ, hρ⟩ := rowMax_real s fun r c => ⟨_, hs r c⟩
  exact ⟨ρ, fun r l => by rw [mNew_at, hp, hρ, max_eq_right bot_le]⟩

/-- The new maximum, from a plane of reals. -/
theorem next_max {mp : FVec Ideal S1x1024x128 .f32} {ν : Fin 1024 → ℝ} (hp : ∀ r l, mp (ix3 0 r l) = (ν r : EReal)) :
    ∃ μ : Fin 1024 → ℝ, ∀ r l, mNew s mp (ix2 r l) = (μ r : EReal) := by
  obtain ⟨ρ, hρ⟩ := rowMax_real s fun r c => ⟨_, hs r c⟩
  have h : ∀ r, ∃ x : ℝ, max (ν r : EReal) (ρ r : EReal) = (x : EReal) := fun r => max_real ⟨_, rfl⟩ ⟨_, rfl⟩
  choose μ hμ using h
  exact ⟨μ, fun r l => by rw [mNew_at, hp, hρ, hμ]⟩

end one

/-- Three steps from empty planes: at each row one shift `μ`, and the output the weighted values over the weights' sum. -/
theorem online (s0 s1 s2 : FVec Ideal S1024x2816 .f32) (σ0 σ1 σ2 : Fin 1024 → Fin 2816 → ℝ)
    (h0 : ∀ r c, s0 (ix2 r c) = (σ0 r c : EReal)) (h1 : ∀ r c, s1 (ix2 r c) = (σ1 r c : EReal)) (h2 : ∀ r c, s2 (ix2 r c) = (σ2 r c : EReal))
    (v0 v1 v2 : FVec Ideal S1x2816x128 .bf16) (m0 l0 a0 m1 l1 a1 m2 l2 a2 : FVec Ideal S1x1024x128 .f32)
    (hm : ∀ r l, m0 (ix3 0 r l) = (⊥ : EReal)) (hl : ∀ r l, l0 (ix3 0 r l) = (0 : EReal)) (ha : ∀ r l, a0 (ix3 0 r l) = (0 : EReal))
    (em1 : m1 = mStep s0 m0) (el1 : l1 = lStep s0 m0 l0) (ea1 : a1 = aStep s0 m0 a0 v0)
    (em2 : m2 = mStep s1 m1) (el2 : l2 = lStep s1 m1 l1) (ea2 : a2 = aStep s1 m1 a1 v1) (r : Fin 1024) :
    ∃ μ : ℝ, ∀ d : Fin 128, finish (aStep s2 m2 a2 v2) (lStep s2 m2 l2) (ix2 r d)
      = Ideal.div (A (σ0 r) (fun c => v0 (ix3 0 c d)) μ + A (σ1 r) (fun c => v1 (ix3 0 c d)) μ + A (σ2 r) (fun c => v2 (ix3 0 c d)) μ)
          (∑ c, (wt μ (σ0 r c) : EReal) + ∑ c, (wt μ (σ1 r c) : EReal) + ∑ c, (wt μ (σ2 r c) : EReal)) := by
  obtain ⟨μ1, k1⟩ := first_max h0 hm
  have j1 : ∀ r l, m1 (ix3 0 r l) = (μ1 r : EReal) := fun r l => by rw [em1, mStep_at, k1]
  have hl1 : ∀ l, l1 (ix3 0 r l) = L (σ0 r) (μ1 r) l := fun l => by
    rw [el1, lStep_at, hl, mul_zero, zero_add, laneSum_eq h0 r l (k1 r l)]
  have ha1 : ∀ d, a1 (ix3 0 r d) = A (σ0 r) (fun c => v0 (ix3 0 c d)) (μ1 r) := fun d => by
    rw [ea1, aStep_at, ha, mul_zero, zero_add, weightsSum_eq h0 v0 r (k1 r) d]
  obtain ⟨μ2, k2⟩ := next_max h1 j1
  have j2 : ∀ r l, m2 (ix3 0 r l) = (μ2 r : EReal) := fun r l => by rw [em2, mStep_at, k2]
  have hl2 : ∀ l, l2 (ix3 0 r l) = L (σ0 r) (μ2 r) l + L (σ1 r) (μ2 r) l := fun l => by
    rw [el2, lStep_at, j1, k2, exp2_sub, hl1, L_rescale, laneSum_eq h1 r l (k2 r l)]
  have ha2 : ∀ d, a2 (ix3 0 r d) = A (σ0 r) (fun c => v0 (ix3 0 c d)) (μ2 r) + A (σ1 r) (fun c => v1 (ix3 0 c d)) (μ2 r) := fun d => by
    rw [ea2, aStep_at, j1, k2, exp2_sub, ha1, A_rescale, weightsSum_eq h1 v1 r (k2 r) d]
  obtain ⟨μ3, k3⟩ := next_max h2 j2
  refine ⟨μ3 r, fun d => ?_⟩
  rw [finish_at, aStep_at, j2, k3, exp2_sub, ha2, wt_add, A_rescale, A_rescale, weightsSum_eq h2 v2 r (k3 r) d]
  refine congrArg (Ideal.div _) ?_
  rw [← L_total, ← L_total, ← L_total, ← Finset.sum_add_distrib, ← Finset.sum_add_distrib]
  refine Finset.sum_congr rfl fun l _ => ?_
  rw [lStep_at, j2, k3, exp2_sub, hl2, wt_add, L_rescale, L_rescale, laneSum_eq h2 r l (k3 r l)]

end Cert.KernelIdeal.Step

end
-- ==== Proof.Stack.lean ====
/- The stacked queries read at an entry, the scores of real queries and keys, and with them the two ways the kernel takes
   the attention: of the context rows in one pass over their 256 keys, of the latent rows in three steps over all keys. -/
module

public import proofs.«01_k».proof.Proof.Gen.KernelIdeal.Frame
public import Idealize.ShloMosaic.Lib.Pointwise
public import proofs.«01_k».proof.Proof.Online

@[expose] public section

set_option maxRecDepth 16384

noncomputable section

namespace Cert.KernelIdeal.Step

open Cert.KernelIdeal Cert.KernelIdeal.Gen Idealize.ShloMosaic Idealize.ShloMosaic.TcCoe Idealize.SL.Sem Cert.Attn

/-- The factor of the queries: one over the root of 128 and over the logarithm of 2. -/
def c0 : ℝ := (Real.sqrt 128)⁻¹ * (Real.log 2)⁻¹

/-- The named constant is that factor. -/
theorem named_c0 : (Named.named κ "scale_log2e" 0x3E0293EE#32 : Ideal .f32) = (c0 : EReal) := rfl

/-- The second group's queries are stacked like the first one's. -/
theorem pay2_eq : k0_pay2 (F := Ideal) = k0_pay1 (F := Ideal) := rfl

/-- The second group's context rows are attended like the first one's. -/
theorem pay16_eq : k0_pay16 (F := Ideal) = k0_pay10 (F := Ideal) := rfl

/-- Row `r` of the stacked queries: query `r % 256` of head `r / 256`, times the factor. -/
theorem stack_at (x : Vec Ideal S1x256x512 .f32) (r : Fin 1024) (d : Fin 128) :
    k0_pay1 x (ix2 r d) = x (ix3 0 ⟨r.val % 256, by omega⟩ ⟨r.val / 256 * 128 + d.val, by omega⟩) * (c0 : EReal) := by
  pointwise [k0_pay1]
  have key : ∀ (a : Fin 256) (b : Fin 512), a.val = r.val % 256 → b.val = r.val / 256 * 128 + d.val →
      x (ix3 0 a b) * (Named.named κ "scale_log2e" 0x3E0293EE#32 : Ideal .f32)
        = x (ix3 0 ⟨r.val % 256, by omega⟩ ⟨r.val / 256 * 128 + d.val, by omega⟩) * (c0 : EReal) := by
    intro a b ha hb
    rw [named_c0, show a = ⟨r.val % 256, by omega⟩ from Fin.ext ha, show b = ⟨r.val / 256 * 128 + d.val, by omega⟩ from Fin.ext hb]
  split_ifs
  all_goals exact key _ _ (by dsimp only; omega) (by dsimp only; omega)

/-- A score of scaled real queries and real keys: the score proper over the logarithm of 2. -/
theorem score_real (q k : Fin 128 → EReal) (Q K : Fin 128 → ℝ) (hq : ∀ x, q x = (Q x : EReal) * (c0 : EReal)) (hk : ∀ x, k x = (K x : EReal)) :
    ∑ x, q x * k x = ((dot Q K * (Real.log 2)⁻¹ : ℝ) : EReal) := by
  have h : ∀ x, q x * k x = ((Q x * c0 * K x : ℝ) : EReal) := fun x => by
    rw [hq, hk, ← EReal.coe_mul, ← EReal.coe_mul]
  simp only [h]
  rw [coe_sum]
  refine congrArg _ ?_
  unfold dot c0
  rw [mul_assoc, Finset.sum_mul]
  exact Finset.sum_congr rfl fun x _ => by ring

/-- THE CONTEXT ROWS. One pass over 256 keys is the attention over them. -/
theorem ctx_at (q : FVec Ideal S1024x128 .bf16) (k v : FVec Ideal S1x256x128 .bf16) (r : Fin 1024) (d : Fin 128)
    (Q : Fin 128 → ℝ) (K : Fin 256 → Fin 128 → ℝ) (hq : ∀ x, q (ix2 r x) = (Q x : EReal) * (c0 : EReal))
    (hk : ∀ c x, k (ix3 0 c x) = (K c x : EReal)) :
    k0_pay10 q k v (ix2 r d) = att (fun c => dot Q (K c)) (fun c => v (ix3 0 c d)) := by
  have hs : ∀ c : Fin 256, ∑ x, q (ix2 r x) * k (ix3 0 c x) = ((dot Q (K c) * (Real.log 2)⁻¹ : ℝ) : EReal) :=
    fun c => score_real _ _ Q (K c) hq (hk c)
  pointwise [k0_pay10]
  simp only [hs, ofBits_negInf]
  obtain ⟨M, hM⟩ := fold_max_real (n := 128) (fun l => max (((dot Q (K ⟨l.val, by omega⟩) * (Real.log 2)⁻¹ : ℝ) : EReal))
    ((dot Q (K ⟨128 + l.val, by omega⟩) * (Real.log 2)⁻¹ : ℝ) : EReal)) (fun l => max_real ⟨_, rfl⟩ ⟨_, rfl⟩)
  rw [hM]
  have he : ∀ x : Ideal .f32, FloatOps.exp2 x = Ideal.exp2 x := fun _ => rfl
  simp only [he, exp2_sub]
  rw [← att_of_wt _ _ M, ← sum_split (a := 2) (b := 128) rfl, ← sum_split (a := 2) (b := 128) rfl, Fin.sum_univ_two, Fin.sum_univ_two,
    Finset.sum_add_distrib]
  simp only [Fin.val_zero, Fin.val_one, zero_mul, one_mul, zero_add]

/-- A sum over all keys, block by block. -/
theorem sum_blocks (f : Fin 8448 → EReal) :
    ∑ k, f k = ∑ c : Fin 2816, f ⟨c.val, by omega⟩ + ∑ c : Fin 2816, f ⟨2816 + c.val, by omega⟩ + ∑ c : Fin 2816, f ⟨5632 + c.val, by omega⟩ := by
  rw [← sum_split (a := 3) (b := 2816) rfl, Fin.sum_univ_three]
  simp only [Fin.val_zero, Fin.val_one, Fin.val_two, zero_mul, one_mul, zero_add, Nat.reduceMul]

/-- THE LATENT ROWS. Three steps of the online softmax over three blocks of keys are the attention over all of them. -/
theorem lat_at (q : FVec Ideal S1024x128 .bf16) (k0 k1 k2 v0 v1 v2 : FVec Ideal S1x2816x128 .bf16)
    (Q : Fin 1024 → Fin 128 → ℝ) (K : Fin 8448 → Fin 128 → ℝ) (V : Fin 8448 → Fin 128 → EReal)
    (hq : ∀ r x, q (ix2 r x) = (Q r x : EReal) * (c0 : EReal))
    (hk0 : ∀ c x, k0 (ix3 0 c x) = (K ⟨c.val, by omega⟩ x : EReal)) (hk1 : ∀ c x, k1 (ix3 0 c x) = (K ⟨2816 + c.val, by omega⟩ x : EReal))
    (hk2 : ∀ c x, k2 (ix3 0 c x) = (K ⟨5632 + c.val, by omega⟩ x : EReal))
    (hv0 : ∀ c x, v0 (ix3 0 c x) = V ⟨c.val, by omega⟩ x) (hv1 : ∀ c x, v1 (ix3 0 c x) = V ⟨2816 + c.val, by omega⟩ x)
    (hv2 : ∀ c x, v2 (ix3 0 c x) = V ⟨5632 + c.val, by omega⟩ x)
    (m0 l0 a0 m1 l1 a1 m2 l2 a2 : FVec Ideal S1x1024x128 .f32)
    (hm : ∀ r l, m0 (ix3 0 r l) = (⊥ : EReal)) (hl : ∀ r l, l0 (ix3 0 r l) = (0 : EReal)) (ha : ∀ r l, a0 (ix3 0 r l) = (0 : EReal))
    (em1 : m1 = mStep (score q k0) m0) (el1 : l1 = lStep (score q k0) m0 l0) (ea1 : a1 = aStep (score q k0) m0 a0 v0)
    (em2 : m2 = mStep (score q k1) m1) (el2 : l2 = lStep (score q k1) m1 l1) (ea2 : a2 = aStep (score q k1) m1 a1 v1)
    (r : Fin 1024) (d : Fin 128) :
    finish (aStep (score q k2) m2 a2 v2) (lStep (score q k2) m2 l2) (ix2 r d) = att (fun k => dot (Q r) (K k)) (fun k => V k d) := by
  have hs : ∀ (kb : FVec Ideal S1x2816x128 .bf16) (f : Fin 2816 → Fin 8448) (_ : ∀ c x, kb (ix3 0 c x) = (K (f c) x : EReal)) (r : Fin 1024) (c : Fin 2816),
      score q kb (ix2 r c) = ((dot (Q r) (K (f c)) * (Real.log 2)⁻¹ : ℝ) : EReal) := fun kb f h r c => by
    rw [score_at]
    exact score_real _ _ (Q r) (K (f c)) (hq r) (h c)
  obtain ⟨μ, h⟩ := online (score q k0) (score q k1) (score q k2) _ _ _ (hs k0 _ hk0) (hs k1 _ hk1) (hs k2 _ hk2) v0 v1 v2
    m0 l0 a0 m1 l1 a1 m2 l2 a2 hm hl ha em1 el1 ea1 em2 el2 ea2 r
  rw [h d, ← att_of_wt _ _ μ, sum_blocks, sum_blocks]
  simp only [A, hv0, hv1, hv2]

end Cert.KernelIdeal.Step

end
-- ==== Proof.Point.lean ====
/- A point's block as the eight heads of two groups' outputs: in a context's point the one-pass attention, in a latents'
   point what the third step of the online softmax leaves. -/
module

public import proofs.«01_k».proof.Proof.Words
public import proofs.«01_k».proof.Proof.Block
public import proofs.«01_k».proof.Proof.Stack

@[expose] public section

set_option maxRecDepth 16384

noncomputable section

namespace Cert.KernelIdeal.Step

open Cert.KernelIdeal Cert.KernelIdeal.Gen Idealize.ShloMosaic Idealize.ShloMosaic.TcCoe Idealize.SL.Sem Cert.Attn

variable (c : Dev nD) (i : grid0.Coords) (arg2 : Memref sig .tc .vmem S1x256x1024 .f32) (harg2 : arg2.IsWhole) (arg3 : Memref sig .tc .vmem S1x8448x256 .bf16) (harg3 : arg3.IsWhole) (arg4 : Memref sig .tc .vmem S1x8448x256 .bf16) (harg4 : arg4.IsWhole) (arg5 : Memref sig .tc .vmem S1x256x1024 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole)
  (x0 : Vec Ideal S1x256x1024 .f32) (x1 : Vec Ideal S1x8448x256 .bf16) (x2 : Vec Ideal S1x8448x256 .bf16)

/-- A load's entry: the buffer's entry at the load's corner plus the index. -/
theorem ld_unit {S : Shape} {e : EltTy} (X : S.Idx → Elt Ideal e) (off size : Fin S.rank → ℕ) (h : ∀ a, off a + size a ≤ S.size a)
    (i : (Rect.unit (s := S) off size h).shape.Idx) (y : S.Idx) (hy : ∀ a, (y a).val = off a + (i a).val) :
    View.ld X (Rect.unit (s := S) off size h) i = X y := by
  refine congrArg X (funext fun a => Fin.ext ?_)
  rw [hy]
  simp [Rect.unit]

/-- The first group's 512 query columns of a block. -/
def left (x : Vec Ideal S1x256x1024 .f32) : Vec Ideal S1x256x512 .f32 :=
  View.ld x (Rect.unit (s := S1x256x1024) ![0, 0, 0] S1x256x512.size inb_S1x256x1024_S1x256x512_0_0_0)

/-- It, read at an entry. -/
theorem left_at (x : Vec Ideal S1x256x1024 .f32) (a : Fin 256) (b : Fin 512) : left x (ix3 0 a b) = x (ix3 0 ⟨a.val, by omega⟩ ⟨0 + b.val, by omega⟩) :=
  ld_unit x _ _ _ _ _ fun k => match k with
    | ⟨0, _⟩ => rfl
    | ⟨1, _⟩ => (Nat.zero_add _).symm
    | ⟨2, _⟩ => rfl

/-- The second group's 512 query columns of a block. -/
def right (x : Vec Ideal S1x256x1024 .f32) : Vec Ideal S1x256x512 .f32 :=
  View.ld x (Rect.unit (s := S1x256x1024) ![0, 0, 512] S1x256x512.size inb_S1x256x1024_S1x256x512_0_0_512)

/-- It, read at an entry. -/
theorem right_at (x : Vec Ideal S1x256x1024 .f32) (a : Fin 256) (b : Fin 512) : right x (ix3 0 a b) = x (ix3 0 ⟨a.val, by omega⟩ ⟨512 + b.val, by omega⟩) :=
  ld_unit x _ _ _ _ _ fun k => match k with
    | ⟨0, _⟩ => rfl
    | ⟨1, _⟩ => (Nat.zero_add _).symm
    | ⟨2, _⟩ => rfl

/-- The first group's 256 context keys (or values). -/
def ctx0 (x : Vec Ideal S1x8448x256 .bf16) : Vec Ideal S1x256x128 .bf16 :=
  View.ld x (Rect.unit (s := S1x8448x256) ![0, 0, 0] S1x256x128.size inb_S1x8448x256_S1x256x128_0_0_0)

/-- It, read at an entry. -/
theorem ctx0_at (x : Vec Ideal S1x8448x256 .bf16) (a : Fin 256) (b : Fin 128) : ctx0 x (ix3 0 a b) = x (ix3 0 ⟨a.val, by omega⟩ ⟨0 + b.val, by omega⟩) :=
  ld_unit x _ _ _ _ _ fun k => match k with
    | ⟨0, _⟩ => rfl
    | ⟨1, _⟩ => (Nat.zero_add _).symm
    | ⟨2, _⟩ => rfl

/-- The second group's 256 context keys (or values). -/
def ctx1 (x : Vec Ideal S1x8448x256 .bf16) : Vec Ideal S1x256x128 .bf16 :=
  View.ld x (Rect.unit (s := S1x8448x256) ![0, 0, 128] S1x256x128.size inb_S1x8448x256_S1x256x128_0_0_128)

/-- It, read at an entry. -/
theorem ctx1_at (x : Vec Ideal S1x8448x256 .bf16) (a : Fin 256) (b : Fin 128) : ctx1 x (ix3 0 a b) = x (ix3 0 ⟨a.val, by omega⟩ ⟨128 + b.val, by omega⟩) :=
  ld_unit x _ _ _ _ _ fun k => match k with
    | ⟨0, _⟩ => rfl
    | ⟨1, _⟩ => (Nat.zero_add _).symm
    | ⟨2, _⟩ => rfl

/-- A key block, read at an entry. -/
theorem blk_at (arg : Memref sig .tc .vmem S1x8448x256 .bf16) (harg : arg.IsWhole) (x : Vec Ideal S1x8448x256 .bf16) (o p : ℕ)
    (h : ∀ a, (![0, o, p] : Fin 3 → ℕ) a + S1x2816x128.size a ≤ S1x8448x256.size a) (a : Fin 2816) (b : Fin 128) (A : Fin 8448) (B : Fin 256)
    (hA : A.val = o + a.val) (hB : B.val = p + b.val) : blk arg harg x ![0, o, p] h (ix3 0 a b) = x (ix3 0 A B) := by
  unfold blk
  rw [View.readAt_eq_ld, harg.read_unread]
  exact ld_unit x _ _ _ _ _ fun k => match k with
    | ⟨0, _⟩ => rfl
    | ⟨1, _⟩ => hA
    | ⟨2, _⟩ => hB

/-- The first group's stacked queries, as loaded. -/
theorem q0_eq : q0 arg2 harg2 x0 = k0_pay1 (left x0) := by
  unfold q0
  rw [View.readAt_eq_ld, harg2.read_unread]
  rfl

/-- The second group's stacked queries, as loaded. -/
theorem q1_eq : q1 arg2 harg2 x0 = k0_pay1 (right x0) := by
  unfold q1
  rw [View.readAt_eq_ld, harg2.read_unread]
  rfl

/-- The planes of maxima start at −∞. -/
theorem pay19_idx (y : S2x1024x128.Idx) : k0_pay19 (F := Ideal) y = (⊥ : EReal) := by
  idx_vars y
  pointwise [k0_pay19]
  exact ofBits_negInf

/-- The planes of lane sums start at zero. -/
theorem pay20_idx (y : S2x1024x128.Idx) : k0_pay20 (F := Ideal) y = (0 : EReal) := by
  idx_vars y
  pointwise [k0_pay20]

/-- The planes of outputs start at zero. -/
theorem pay21_idx (y : S2x1024x128.Idx) : k0_pay21 (F := Ideal) y = (0 : EReal) := by
  idx_vars y
  pointwise [k0_pay21]

/-- A context's point: both groups in one pass. -/
theorem out_A (hc0 : cond0_0 i) (hc1 : ¬cond0_1 i) :
    out0_A_3 c i arg2 harg2 arg3 harg3 arg4 harg4 arg5 harg5 arg6 harg6 arg7 harg7 arg8 harg8 hc0 hc1 x0 x1 x2
      = heads (k0_pay10 (k0_pay1 (left x0)) (ctx0 x1) (ctx0 x2)) (k0_pay10 (k0_pay1 (right x0)) (ctx1 x1) (ctx1 x2)) := by
  frame_out
  rfl

/-- A latents' point: both groups in three steps. -/
theorem out_B (hc0 : ¬cond0_0 i) (hc1 : cond0_1 i) :
    out0_B_3 c i arg2 harg2 arg3 harg3 arg4 harg4 arg5 harg5 arg6 harg6 arg7 harg7 arg8 harg8 hc0 hc1 x0 x1 x2
      = heads
          (finish (kernelRun0_B.sl.v1028 (F := Ideal) c i arg2 harg2 arg3 harg3 arg4 harg4 arg6 arg8 hc1 x0 x1 x2) (kernelRun0_B.sl.v1030 (F := Ideal) c i arg2 harg2 arg3 harg3 arg6 arg7 hc1 x0 x1))
          (finish (kernelRun0_B.sl.v1056 (F := Ideal) c i arg2 harg2 arg3 harg3 arg4 harg4 arg6 arg8 hc1 x0 x1 x2) (kernelRun0_B.sl.v1058 (F := Ideal) c i arg2 harg2 arg3 harg3 arg6 arg7 hc1 x0 x1)) := by
  unfold out0_B_3
  rw [View.read_writes_junk_eq_canon]
  rfl

end Cert.KernelIdeal.Step

end
-- ==== Proof.Entry.lean ====
/- What a point's block holds at each entry, of real queries and keys: the attention of that query's head over the group's
   keys, the 256 context keys in a context's point and all of them in a latents' point. -/
module

public import proofs.«01_k».proof.Proof.Point

@[expose] public section

set_option maxRecDepth 16384

noncomputable section

namespace Cert.Attn

/-- The 128 columns of the head that column `j` lies in. -/
def headOf {α : Type} (q : Fin 1024 → α) (j : Fin 1024) : Fin 128 → α := fun x => q ⟨j.val / 128 * 128 + x.val, by omega⟩

/-- The 128 columns of the group of heads that column `j` lies in. -/
def groupOf {α : Type} (k : Fin 256 → α) (j : Fin 1024) : Fin 128 → α := fun x => k ⟨j.val / 512 * 128 + x.val, by omega⟩

/-- Column `j`'s own column among its group's values. -/
def valCol (j : Fin 1024) : Fin 256 := ⟨j.val / 512 * 128 + j.val % 128, by omega⟩

end Cert.Attn

namespace Cert.KernelIdeal.Step

open Cert.KernelIdeal Cert.KernelIdeal.Gen Idealize.ShloMosaic Idealize.ShloMosaic.TcCoe Idealize.SL.Sem Cert.Attn

variable (c : Dev nD) (i : grid0.Coords) (arg2 : Memref sig .tc .vmem S1x256x1024 .f32) (harg2 : arg2.IsWhole) (arg3 : Memref sig .tc .vmem S1x8448x256 .bf16) (harg3 : arg3.IsWhole) (arg4 : Memref sig .tc .vmem S1x8448x256 .bf16) (harg4 : arg4.IsWhole) (arg5 : Memref sig .tc .vmem S1x256x1024 .bf16) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole)
  (x0 : Vec Ideal S1x256x1024 .f32) (x1 : Vec Ideal S1x8448x256 .bf16) (x2 : Vec Ideal S1x8448x256 .bf16)
  (Q : Fin 256 → Fin 1024 → ℝ) (hQ : ∀ r j, x0 (ix3 0 r j) = (Q r j : EReal))
  (K : Fin 8448 → Fin 256 → ℝ) (hK : ∀ k x, x1 (ix3 0 k x) = (K k x : EReal))

/-- The queries of the stacked row `ρ`, the group's columns starting at `o`. -/
def rowQ (o : ℕ) (ho : o ≤ 512) (ρ : Fin 1024) (x : Fin 128) : ℝ := Q ⟨ρ.val % 256, by omega⟩ ⟨o + (ρ.val / 256 * 128 + x.val), by omega⟩

/-- The stacked row of column `j` and query `r` holds the head's queries. -/
theorem rowQ_eq (o : ℕ) (ho : o ≤ 512) (r : Fin 256) (j : Fin 1024) (hj : j.val / 512 * 512 = o) :
    rowQ Q o ho ⟨j.val / 128 % 4 * 256 + r.val, by omega⟩ = headOf (Q r) j := by
  funext x
  unfold rowQ headOf
  rw [show (⟨(j.val / 128 % 4 * 256 + r.val) % 256, by omega⟩ : Fin 256) = r from Fin.ext (by dsimp only; omega)]
  exact congrArg (Q r) (Fin.ext (by dsimp only; omega))

include hQ

/-- The first group's stacked queries are the scaled real ones. -/
theorem left_real (ρ : Fin 1024) (x : Fin 128) : k0_pay1 (left x0) (ix2 ρ x) = (rowQ Q 0 (by omega) ρ x : EReal) * (c0 : EReal) := by
  rw [stack_at, left_at, hQ]; rfl

/-- The second group's stacked queries are the scaled real ones. -/
theorem right_real (ρ : Fin 1024) (x : Fin 128) : k0_pay1 (right x0) (ix2 ρ x) = (rowQ Q 512 le_rfl ρ x : EReal) * (c0 : EReal) := by
  rw [stack_at, right_at, hQ]; rfl

include hK

/-- THE CONTEXT'S POINT, at an entry. -/
theorem out_A_at (hc0 : cond0_0 i) (hc1 : ¬cond0_1 i) (r : Fin 256) (j : Fin 1024) :
    out0_A_3 c i arg2 harg2 arg3 harg3 arg4 harg4 arg5 harg5 arg6 harg6 arg7 harg7 arg8 harg8 hc0 hc1 x0 x1 x2 (ix3 0 r j)
      = att (fun k : Fin 256 => dot (headOf (Q r) j) (groupOf (K ⟨k.val, by omega⟩) j)) (fun k : Fin 256 => x2 (ix3 0 ⟨k.val, by omega⟩ (valCol j))) := by
  rw [out_A, heads_at]
  split_ifs with h
  · rw [ctx_at _ _ _ _ _ (rowQ Q 0 (by omega) _) (fun k : Fin 256 => fun x => K ⟨k.val, by omega⟩ ⟨x.val, by omega⟩) (left_real x0 Q hQ _)
      (fun k x => by rw [ctx0_at, hK]; exact congrArg (fun z => ((K _ z : ℝ) : EReal)) (Fin.ext (Nat.zero_add _))), rowQ_eq Q 0 _ r j (by omega)]
    refine congrArg₂ att (funext fun k => congrArg (dot _) (funext fun x => ?_)) (funext fun k => ?_)
    · exact congrArg (K _) (Fin.ext (by dsimp only; omega))
    · rw [ctx0_at]
      exact congrArg (fun z => x2 (ix3 0 _ z)) (Fin.ext (by dsimp only [valCol]; omega))
  · rw [ctx_at _ _ _ _ _ (rowQ Q 512 le_rfl _) (fun k : Fin 256 => fun x => K ⟨k.val, by omega⟩ ⟨128 + x.val, by omega⟩) (right_real x0 Q hQ _)
      (fun k x => by rw [ctx1_at, hK]), rowQ_eq Q 512 _ r j (by omega)]
    refine congrArg₂ att (funext fun k => congrArg (dot _) (funext fun x => ?_)) (funext fun k => ?_)
    · exact congrArg (K _) (Fin.ext (by dsimp only; omega))
    · rw [ctx1_at]
      exact congrArg (fun z => x2 (ix3 0 _ z)) (Fin.ext (by dsimp only [valCol]; omega))

/-- The first group's output after the third step, at an entry. -/
theorem lat0_at (hc1 : cond0_1 i) (ρ : Fin 1024) (e : Fin 128) :
    finish (kernelRun0_B.sl.v1028 (F := Ideal) c i arg2 harg2 arg3 harg3 arg4 harg4 arg6 arg8 hc1 x0 x1 x2) (kernelRun0_B.sl.v1030 (F := Ideal) c i arg2 harg2 arg3 harg3 arg6 arg7 hc1 x0 x1) (ix2 ρ e)
      = att (fun k : Fin 8448 => dot (rowQ Q 0 (by omega) ρ) (fun x => K k ⟨0 + x.val, by omega⟩)) (fun k : Fin 8448 => x2 (ix3 0 k ⟨0 + e.val, by omega⟩)) := by
  rw [v1028_eq, v1030_eq]
  exact lat_at (q0 arg2 harg2 x0) (blk arg3 harg3 x1 ![0, 0, 0] inb00) (blk arg3 harg3 x1 ![0, 2816, 0] inb10) (blk arg3 harg3 x1 ![0, 5632, 0] inb20)
    (blk arg4 harg4 x2 ![0, 0, 0] inb00) (blk arg4 harg4 x2 ![0, 2816, 0] inb10) (blk arg4 harg4 x2 ![0, 5632, 0] inb20)
    (rowQ Q 0 (by omega)) (fun k x => K k ⟨0 + x.val, by omega⟩) (fun k x => x2 (ix3 0 k ⟨0 + x.val, by omega⟩))
    (fun r x => by rw [q0_eq]; exact left_real x0 Q hQ r x)
    (fun k x => (blk_at arg3 harg3 x1 0 0 inb00 k x _ _ (Nat.zero_add _).symm rfl).trans (hK _ _))
    (fun k x => (blk_at arg3 harg3 x1 2816 0 inb10 k x _ _ rfl rfl).trans (hK _ _))
    (fun k x => (blk_at arg3 harg3 x1 5632 0 inb20 k x _ _ rfl rfl).trans (hK _ _))
    (fun k x => blk_at arg4 harg4 x2 0 0 inb00 k x _ _ (Nat.zero_add _).symm rfl)
    (fun k x => blk_at arg4 harg4 x2 2816 0 inb10 k x _ _ rfl rfl)
    (fun k x => blk_at arg4 harg4 x2 5632 0 inb20 k x _ _ rfl rfl)
    _ _ _ _ _ _ _ _ _
    (fun r l => by rw [v87_eq]; exact pay19_idx _)
    (fun r l => by rw [v160_eq]; exact pay20_idx _)
    (fun r l => by rw [v190_eq]; exact pay21_idx _)
    (v417_eq c i arg2 harg2 arg3 harg3  arg6 hc1 x0 x1) (v490_eq c i arg2 harg2 arg3 harg3 arg6 arg7 hc1 x0 x1) (v520_eq c i arg2 harg2 arg3 harg3 arg4 harg4 arg6 arg8 hc1 x0 x1 x2)
    (v747_eq c i arg2 harg2 arg3 harg3  arg6 hc1 x0 x1) (v820_eq c i arg2 harg2 arg3 harg3 arg6 arg7 hc1 x0 x1) (v850_eq c i arg2 harg2 arg3 harg3 arg4 harg4 arg6 arg8 hc1 x0 x1 x2) ρ e

/-- The second group's output after the third step, at an entry. -/
theorem lat1_at (hc1 : cond0_1 i) (ρ : Fin 1024) (e : Fin 128) :
    finish (kernelRun0_B.sl.v1056 (F := Ideal) c i arg2 harg2 arg3 harg3 arg4 harg4 arg6 arg8 hc1 x0 x1 x2) (kernelRun0_B.sl.v1058 (F := Ideal) c i arg2 harg2 arg3 harg3 arg6 arg7 hc1 x0 x1) (ix2 ρ e)
      = att (fun k : Fin 8448 => dot (rowQ Q 512 le_rfl ρ) (fun x => K k ⟨128 + x.val, by omega⟩)) (fun k : Fin 8448 => x2 (ix3 0 k ⟨128 + e.val, by omega⟩)) := by
  rw [v1056_eq, v1058_eq]
  exact lat_at (q1 arg2 harg2 x0) (blk arg3 harg3 x1 ![0, 0, 128] inb01) (blk arg3 harg3 x1 ![0, 2816, 128] inb11) (blk arg3 harg3 x1 ![0, 5632, 128] inb21)
    (blk arg4 harg4 x2 ![0, 0, 128] inb01) (blk arg4 harg4 x2 ![0, 2816, 128] inb11) (blk arg4 harg4 x2 ![0, 5632, 128] inb21)
    (rowQ Q 512 le_rfl) (fun k x => K k ⟨128 + x.val, by omega⟩) (fun k x => x2 (ix3 0 k ⟨128 + x.val, by omega⟩))
    (fun r x => by rw [q1_eq]; exact right_real x0 Q hQ r x)
    (fun k x => (blk_at arg3 harg3 x1 0 128 inb01 k x _ _ (Nat.zero_add _).symm rfl).trans (hK _ _))
    (fun k x => (blk_at arg3 harg3 x1 2816 128 inb11 k x _ _ rfl rfl).trans (hK _ _))
    (fun k x => (blk_at arg3 harg3 x1 5632 128 inb21 k x _ _ rfl rfl).trans (hK _ _))
    (fun k x => blk_at arg4 harg4 x2 0 128 inb01 k x _ _ (Nat.zero_add _).symm rfl)
    (fun k x => blk_at arg4 harg4 x2 2816 128 inb11 k x _ _ rfl rfl)
    (fun k x => blk_at arg4 harg4 x2 5632 128 inb21 k x _ _ rfl rfl)
    _ _ _ _ _ _ _ _ _
    (fun r l => by rw [v251_eq]; exact pay19_idx _)
    (fun r l => by rw [v324_eq]; exact pay20_idx _)
    (fun r l => by rw [v354_eq]; exact pay21_idx _)
    (v581_eq c i arg2 harg2 arg3 harg3  arg6 hc1 x0 x1) (v654_eq c i arg2 harg2 arg3 harg3 arg6 arg7 hc1 x0 x1) (v684_eq c i arg2 harg2 arg3 harg3 arg4 harg4 arg6 arg8 hc1 x0 x1 x2)
    (v911_eq c i arg2 harg2 arg3 harg3  arg6 hc1 x0 x1) (v984_eq c i arg2 harg2 arg3 harg3 arg6 arg7 hc1 x0 x1) (v1014_eq c i arg2 harg2 arg3 harg3 arg4 harg4 arg6 arg8 hc1 x0 x1 x2) ρ e

/-- THE LATENTS' POINT, at an entry. -/
theorem out_B_at (hc0 : ¬cond0_0 i) (hc1 : cond0_1 i) (r : Fin 256) (j : Fin 1024) :
    out0_B_3 c i arg2 harg2 arg3 harg3 arg4 harg4 arg5 harg5 arg6 harg6 arg7 harg7 arg8 harg8 hc0 hc1 x0 x1 x2 (ix3 0 r j)
      = att (fun k : Fin 8448 => dot (headOf (Q r) j) (groupOf (K k) j)) (fun k : Fin 8448 => x2 (ix3 0 k (valCol j))) := by
  rw [out_B, heads_at]
  split_ifs with h
  · rw [lat0_at c i arg2 harg2 arg3 harg3 arg4 harg4 arg6 arg7 arg8 x0 x1 x2 Q hQ K hK hc1, rowQ_eq Q 0 _ r j (by omega)]
    refine congrArg₂ att (funext fun k => congrArg (dot _) (funext fun x => ?_)) (funext fun k => ?_)
    · exact congrArg (K _) (Fin.ext (by dsimp only; omega))
    · exact congrArg (fun z => x2 (ix3 0 _ z)) (Fin.ext (by dsimp only [valCol]; omega))
  · rw [lat1_at c i arg2 harg2 arg3 harg3 arg4 harg4 arg6 arg7 arg8 x0 x1 x2 Q hQ K hK hc1, rowQ_eq Q 512 _ r j (by omega)]
    refine congrArg₂ att (funext fun k => congrArg (dot _) (funext fun x => ?_)) (funext fun k => ?_)
    · exact congrArg (K _) (Fin.ext (by dsimp only; omega))
    · exact congrArg (fun z => x2 (ix3 0 _ z)) (Fin.ext (by dsimp only [valCol]; omega))

end Cert.KernelIdeal.Step

end
-- ==== Proof.Array.lean ====
/- What the kernel's output array holds: at each entry the attention of its query, over the context's keys where the query
   is one of the context's and over all keys where it is a latent's. -/
module

public import proofs.«01_k».proof.Proof.Entry
public import proofs.«01_k».proof.Proof.Gen.KernelIdeal.Value

@[expose] public section

set_option maxRecDepth 16384

noncomputable section

namespace Cert.Attn

/-- THE ATTENTION of the layer: batch `b`, query `q`, column `j`. -/
def attend (Q : Fin 2 → Fin 8448 → Fin 1024 → ℝ) (K : Fin 2 → Fin 8448 → Fin 256 → ℝ) (V : Fin 2 → Fin 8448 → Fin 256 → EReal)
    (b : Fin 2) (q : Fin 8448) (j : Fin 1024) : EReal :=
  if q.val < 256 then att (fun k : Fin 256 => dot (headOf (Q b q) j) (groupOf (K b ⟨k.val, by omega⟩) j)) (fun k : Fin 256 => V b ⟨k.val, by omega⟩ (valCol j))
  else att (fun k : Fin 8448 => dot (headOf (Q b q) j) (groupOf (K b k) j)) (fun k : Fin 8448 => V b k (valCol j))

end Cert.Attn

namespace Cert.KernelIdeal.Step

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ) (c : Dev nD)

/-- Which block each window has at a point: the batch is `t / 33`, the tile of queries `t % 33`. -/
theorem idx : ∀ t : Fin cfg0.N, win0_0.index t = ![t.val / 33, t.val % 33, 0] ∧ win0_1.index t = ![t.val / 33, 0, 0] ∧ win0_2.index t = ![t.val / 33, 0, 0]
    ∧ win0_3.index t = ![t.val / 33, t.val % 33, 0] := (by decide +kernel : ∀ t : Fin grid0.N, _)

/-- The queries the region stages. -/
def argQ : Fin 2 → Fin 8448 → Fin 1024 → EReal := fun b q j => m ((c : Thread nD τ).loc main_arg0) (ix3 b q j)
/-- The keys. -/
def argK : Fin 2 → Fin 8448 → Fin 256 → EReal := fun b q j => m ((c : Thread nD τ).loc main_arg1) (ix3 b q j)
/-- The values. -/
def argV : Fin 2 → Fin 8448 → Fin 256 → EReal := fun b q j => m ((c : Thread nD τ).loc main_arg2) (ix3 b q j)

/-- The grid has 66 points. -/
theorem lt_N (t : Fin cfg0.N) : t.val < 66 := lt_of_lt_of_eq t.isLt N_0

/-- A point's query block: 256 rows of its batch. -/
theorem qblk_at (t : Fin cfg0.N) (r : Fin 256) (j : Fin 1024) :
    (iblk m c 0 t : Vec Ideal S1x256x1024 .f32) (ix3 0 r j) = argQ m c ⟨t.val / 33, by have := lt_N t; omega⟩ ⟨t.val % 33 * 256 + r.val, by omega⟩ j := by
  unfold argQ
  blk_point [iblk, V, idx t]

/-- A point's keys: all of its batch. -/
theorem kblk_at (t : Fin cfg0.N) (k : Fin 8448) (j : Fin 256) :
    (iblk m c 1 t : Vec Ideal S1x8448x256 .bf16) (ix3 0 k j) = argK m c ⟨t.val / 33, by have := lt_N t; omega⟩ k j := by
  unfold argK
  blk_simp [iblk]
  entry_read
  pointwise
  blk_ext [idx t]

/-- A point's values: all of its batch. -/
theorem vblk_at (t : Fin cfg0.N) (k : Fin 8448) (j : Fin 256) :
    (iblk m c 2 t : Vec Ideal S1x8448x256 .bf16) (ix3 0 k j) = argV m c ⟨t.val / 33, by have := lt_N t; omega⟩ k j := by
  unfold argV
  blk_simp [iblk]
  entry_read
  pointwise
  blk_ext [idx t]

variable (Q : Fin 2 → Fin 8448 → Fin 1024 → ℝ) (K : Fin 2 → Fin 8448 → Fin 256 → ℝ)
  (hQ : ∀ b q j, argQ m c b q j = (Q b q j : EReal)) (hK : ∀ b q j, argK m c b q j = (K b q j : EReal))
include hQ hK

/-- What a point leaves in its block, at an entry. -/
theorem point (t : Fin cfg0.N) (r : Fin 256) (j : Fin 1024) :
    outsAt0 m c t.val t.isLt (ix3 0 r j)
      = attend Q K (argV m c) ⟨t.val / 33, by have := lt_N t; omega⟩ ⟨t.val % 33 * 256 + r.val, by omega⟩ j := by
  have hq := fun r j => (qblk_at m c t r j).trans (hQ _ _ _)
  have hk := fun k x => (kblk_at m c t k x).trans (hK _ _ _)
  unfold attend
  by_cases h0 : t.val % 33 = 0
  · rw [outsAt0_A m c t h0 (by omega), out_A_at (hQ := hq) (hK := hk), if_pos (by dsimp only; omega)]
    exact congrArg (att _) (funext fun k => vblk_at m c t _ _)
  · rw [outsAt0_B m c t h0 (by omega), out_B_at (hQ := hq) (hK := hk), if_neg (by dsimp only; omega)]
    exact congrArg (att _) (funext fun k => vblk_at m c t _ _)

/-- THE OUTPUT ARRAY is the attention. -/
theorem final : (dats m 0 c).arrAt 3 cfg0.N = fun y => attend Q K (argV m c) (y 0) (y 1) (y 2) := by
  refine (dats m 0 c).arrAt_eq_of_covers 3 _ (by decide +kernel) fun t hf y => ?_
  rw [after0_3]
  blk_simp
  idx_vars y
  obtain rfl : y0 = 0 := Subsingleton.elim _ _
  rw [point m c Q K hQ hK]
  have ht := lt_N t
  have e : ∀ (b : Fin 2) (q : Fin 8448) (j : Fin 1024) (b' : Fin 2) (q' : Fin 8448) (j' : Fin 1024), b.val = b'.val → q.val = q'.val → j.val = j'.val →
      attend Q K (argV m c) b q j = attend Q K (argV m c) b' q' j' := by
    intro b q j b' q' j' h0 h1 h2
    rw [Fin.ext h0, Fin.ext h1, Fin.ext h2]
  apply e
  · blk_simp [idx t]
    rfl
  all_goals (blk_simp [idx t] <;> try omega)

end Cert.KernelIdeal.Step

end
-- ==== Proof.Precond.lean ====
/- What the precondition says: every query and every key is a real number. -/
module

public import proofs.«01_k».proof.Defs
public import Idealize.ShloMosaic.Lib.ReduceAll
public import Idealize.ShloMosaic.Lib.Pointwise

@[expose] public section

set_option maxRecDepth 16384

noncomputable section

namespace Cert.Pre_finite

open Cert.Pre_finite Idealize.ShloMosaic Idealize.ShloMosaic.TcCoe

/-- The word 0x7F800000 is +∞. -/
theorem ofBits_inf : Ideal.ofBits .f32 0x7F800000#32 = ⊤ := by simp [Ideal.ofBits, Ideal.ieee]

/-- A number whose absolute value compares below +∞ is real. -/
theorem real_of_lt {S : Shape} (X Y : FVec Ideal S .f32) (i : S.Idx) (hY : Y i = (⊤ : EReal)) (h : cmpf .olt (Host.absf X) Y i = 1#1) :
    ∃ r : ℝ, X i = (r : EReal) := by
  have h1 : Ideal.cmp .olt (max (X i) (-(X i))) (Y i) = 1#1 := h
  rw [hY] at h1
  have h2 : max (X i) (-(X i)) < (⊤ : EReal) := by
    by_contra hn
    have h3 : Ideal.cmp .olt (max (X i) (-(X i))) (⊤ : EReal) = 0#1 := by simp [Ideal.cmp, hn]
    rw [h3] at h1
    exact absurd h1 (by decide)
  have h4 : X i ≠ ⊤ := fun e => by rw [e] at h2; simp at h2
  have h5 : X i ≠ ⊥ := fun e => by rw [e] at h2; simp at h2
  exact ⟨(X i).toReal, (EReal.coe_toReal h4 h5).symm⟩

/-- Where the precondition holds the queries and the keys are real. -/
theorem finite [Facts] (Q : FVec Ideal S2x8448x1024 .f32) (K V : FVec Ideal S2x8448x256 .f32) (h : fn (F := Ideal) Q K V = fun _ => 1#1) :
    (∀ i, ∃ r : ℝ, Q i = (r : EReal)) ∧ (∀ i, ∃ r : ℝ, K i = (r : EReal)) := by
  have h0 := congrFun h (Shape.Idx.first Facts.h_S_)
  unfold fn at h0
  dsimp only at h0
  have split : ∀ a b : BitVec 1, a &&& b = 1#1 → a = 1#1 ∧ b = 1#1 := by decide
  obtain ⟨hq, hk⟩ := split _ _ h0
  haveI : Subsingleton S_.Idx := ⟨fun a b => funext fun k => k.elim0⟩
  exact ⟨fun i => real_of_lt Q _ i ofBits_inf (Host.reduce_andi_all _ _ _ _ _ hq i),
    fun i => real_of_lt K _ i ofBits_inf (Host.reduce_andi_all _ _ _ _ _ hk i)⟩

end Cert.Pre_finite

end
-- ==== Proof.RefTerm.lean ====
/- The reference's result, in named parts: scores, their row maximum, the exponentials, the weighted values. -/
module

public import proofs.«01_k».proof.Proof.Gen.ReferenceIdeal.Run
public import Idealize.ShloMosaic.Lib.Pointwise
public import proofs.«01_k».proof.Proof.Softmax

@[expose] public section

set_option maxRecDepth 16384

noncomputable section

namespace Cert.ReferenceIdeal.Term

open Cert.ReferenceIdeal Cert.ReferenceIdeal.Gen Idealize.ShloMosaic Idealize.ShloMosaic.TcCoe Idealize.SL.Sem

/-- The latents' scores: every latent query against every key, over √128. -/
def latScore (Q : FVec Ideal S2x8448x1024 .f32) (K : FVec Ideal S2x8448x256 .f32) : FVec Ideal S2x2x4x8192x8448 .f32 :=
  Host.divf (transpose S2x2x4x8192x8448 [0, 1, 4, 3, 2] (Host.dotGeneral dot_S2x8448x2x128_S2x8192x2x4x128_S2x2x8448x8192x4_3_4_1_13_02_02 none (shapeCast S2x8448x2x128 K shapeCasts_S2x8448x256_S2x8448x2x128) (shapeCast S2x8192x2x4x128 (extractStridedSlice S2x8192x8x128 ![0, 256, 0, 0] (shapeCast S2x8448x8x128 Q shapeCasts_S2x8448x1024_S2x8448x8x128) slices_S2x8448x8x128_S2x8192x8x128_0_256_0_0) shapeCasts_S2x8192x8x128_S2x8192x2x4x128)) transposes_S2x2x8448x8192x4_S2x2x4x8192x8448_0_1_4_3_2) (broadcastInDim S2x2x4x8192x8448 ![] bcast_S_S2x2x4x8192x8448 (Host.sqrt (constant S_ .f32 0x43000000#32)))

/-- The row maximum of the latents' scores. -/
def latMax (s : FVec Ideal S2x2x4x8192x8448 .f32) : FVec Ideal S2x2x4x8192 .f32 :=
  maximumf (broadcastInDim S2x2x4x8192 ![] bcast_S_S2x2x4x8192 (constant S_ .f32 0xFF800000#32)) (Host.reduce FloatOps.maximumf s (constant S_ .f32 0xFF800000#32) reducesTo_S2x2x4x8192x8448_S2x2x4x8192_d4 h_S_)

/-- The exponentials of the latents' scores less their row's shift `M`. -/
def latExp (s : FVec Ideal S2x2x4x8192x8448 .f32) (M : FVec Ideal S2x2x4x8192 .f32) : FVec Ideal S2x2x4x8192x8448 .f32 :=
  Host.exp (subf s (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 M)))

/-- The latents' output from the exponentials: each divided by its row's sum, times the values, the heads side by side. -/
def latOut (e : FVec Ideal S2x2x4x8192x8448 .f32) (V : FVec Ideal S2x8448x256 .f32) : FVec Ideal S2x8192x1024 .f32 :=
  shapeCast S2x8192x1024 (transpose S2x8192x2x4x128 [0, 4, 1, 3, 2] (Host.dotGeneral dot_S2x8448x2x128_S2x2x4x8192x8448_S2x2x128x4x8192_1_4_3_23_02_01 none (shapeCast S2x8448x2x128 V shapeCasts_S2x8448x256_S2x8448x2x128) (Host.divf e (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 (Host.reduceAdd e (constant S_ .f32 0x00000000#32) reducesTo_S2x2x4x8192x8448_S2x2x4x8192_d4 h_S_))))) transposes_S2x2x128x4x8192_S2x8192x2x4x128_0_4_1_3_2) shapeCasts_S2x8192x2x4x128_S2x8192x1024

/-- The context's scores: every context query against every context key, over √128. -/
def ctxScore (Q : FVec Ideal S2x8448x1024 .f32) (K : FVec Ideal S2x8448x256 .f32) : FVec Ideal S2x2x4x256x256 .f32 :=
  Host.divf (transpose S2x2x4x256x256 [0, 1, 4, 3, 2] (Host.dotGeneral dot_S2x256x2x128_S2x256x2x4x128_S2x2x256x256x4_3_4_1_13_02_02 none (extractStridedSlice S2x256x2x128 ![0, 0, 0, 0] (shapeCast S2x8448x2x128 K shapeCasts_S2x8448x256_S2x8448x2x128) slices_S2x8448x2x128_S2x256x2x128_0_0_0_0) (shapeCast S2x256x2x4x128 (extractStridedSlice S2x256x8x128 ![0, 0, 0, 0] (shapeCast S2x8448x8x128 Q shapeCasts_S2x8448x1024_S2x8448x8x128) slices_S2x8448x8x128_S2x256x8x128_0_0_0_0) shapeCasts_S2x256x8x128_S2x256x2x4x128)) transposes_S2x2x256x256x4_S2x2x4x256x256_0_1_4_3_2) (broadcastInDim S2x2x4x256x256 ![] bcast_S_S2x2x4x256x256 (Host.sqrt (constant S_ .f32 0x43000000#32)))

/-- The row maximum of the context's scores. -/
def ctxMax (s : FVec Ideal S2x2x4x256x256 .f32) : FVec Ideal S2x2x4x256 .f32 :=
  maximumf (broadcastInDim S2x2x4x256 ![] bcast_S_S2x2x4x256 (constant S_ .f32 0xFF800000#32)) (Host.reduce FloatOps.maximumf s (constant S_ .f32 0xFF800000#32) reducesTo_S2x2x4x256x256_S2x2x4x256_d4 h_S_)

/-- The exponentials of the context's scores less their row's shift `M`. -/
def ctxExp (s : FVec Ideal S2x2x4x256x256 .f32) (M : FVec Ideal S2x2x4x256 .f32) : FVec Ideal S2x2x4x256x256 .f32 :=
  Host.exp (subf s (broadcastInDim S2x2x4x256x256 ![0, 1, 2, 3, 4] bcast_S2x2x4x256x1_S2x2x4x256x256_0_1_2_3_4 (broadcastInDim S2x2x4x256x1 ![0, 1, 2, 3] bcast_S2x2x4x256_S2x2x4x256x1_0_1_2_3 M)))

/-- The context's output from the exponentials. -/
def ctxOut (e : FVec Ideal S2x2x4x256x256 .f32) (V : FVec Ideal S2x8448x256 .f32) : FVec Ideal S2x256x1024 .f32 :=
  shapeCast S2x256x1024 (transpose S2x256x2x4x128 [0, 4, 1, 3, 2] (Host.dotGeneral dot_S2x256x2x128_S2x2x4x256x256_S2x2x128x4x256_1_4_3_23_02_01 none (extractStridedSlice S2x256x2x128 ![0, 0, 0, 0] (shapeCast S2x8448x2x128 V shapeCasts_S2x8448x256_S2x8448x2x128) slices_S2x8448x2x128_S2x256x2x128_0_0_0_0) (Host.divf e (broadcastInDim S2x2x4x256x256 ![0, 1, 2, 3, 4] bcast_S2x2x4x256x1_S2x2x4x256x256_0_1_2_3_4 (broadcastInDim S2x2x4x256x1 ![0, 1, 2, 3] bcast_S2x2x4x256_S2x2x4x256x1_0_1_2_3 (Host.reduceAdd e (constant S_ .f32 0x00000000#32) reducesTo_S2x2x4x256x256_S2x2x4x256_d4 h_S_))))) transposes_S2x2x128x4x256_S2x256x2x4x128_0_4_1_3_2) shapeCasts_S2x256x2x4x128_S2x256x1024

/-- The reference's result from its three arguments. -/
def ref (Q : FVec Ideal S2x8448x1024 .f32) (K V : FVec Ideal S2x8448x256 .f32) : FVec Ideal S2x8448x1024 .bf16 :=
  truncf .bf16 (concatenate S2x8448x1024 1 [⟨S2x256x1024, ctxOut (ctxExp (ctxScore Q K) (ctxMax (ctxScore Q K))) V⟩,
    ⟨S2x8192x1024, latOut (latExp (latScore Q K) (latMax (latScore Q K))) V⟩] concatenates_S2x256x1024_S2x8192x1024_S2x8448x1024_d1) bitsLt_bf16_f32

/-- The run's composed term is `ref` of the argument arrays. -/
theorem res_eq (m : (ℓ : Loc nD τ sig) → Buf (Elt Ideal) ℓ) (c : Dev nD) :
    Value.res_main_v48 m c = ref (m ((c.tc : Thread nD τ).loc main_arg0)) (m ((c.tc : Thread nD τ).loc main_arg1)) (m ((c.tc : Thread nD τ).loc main_arg2)) := by
  unfold Value.res_main_v48; rfl

end Cert.ReferenceIdeal.Term

end
-- ==== Proof.RefRead.lean ====
/- The reference's parts read at an entry. -/
module

public import proofs.«01_k».proof.Proof.RefTerm

@[expose] public section

set_option maxRecDepth 16384

noncomputable section

namespace Cert.ReferenceIdeal.Term

open Cert.ReferenceIdeal Cert.ReferenceIdeal.Gen Idealize.ShloMosaic Idealize.ShloMosaic.TcCoe Idealize.SL.Sem

/-- The word 0xFF800000 is −∞. -/
theorem ofBits_negInf : Ideal.ofBits .f32 0xFF800000#32 = ⊥ := by simp [Ideal.ofBits, Ideal.ieee]

/-- The word 0x43000000 is 128. -/
theorem ofBits_128 : Ideal.ofBits .f32 0x43000000#32 = ((128 : ℝ) : EReal) := by
  simp [Ideal.ofBits, Ideal.ieee, -EReal.coe_mul]; norm_num

/-- A maximum along the last of five axes, from −∞, is a real when every entry is one. -/
theorem hostMax_real {n0 n1 n2 n3 n4 : ℕ} {t u : Shape} (h : (⟨5, ![n0, n1, n2, n3, n4]⟩ : Shape).ReducesTo [4] t) (hn : 0 < n4) (hu : 0 < u.numel)
    (x : FVec Ideal ⟨5, ![n0, n1, n2, n3, n4]⟩ .f32) (c : FVec Ideal u .f32) (hc : c (Shape.Idx.first hu) = (⊥ : EReal))
    (hx : ∀ i, ∃ r : ℝ, x i = (r : EReal)) (b : FVec Ideal t .f32) (hb : ∀ j, b j = (⊥ : EReal)) (j : t.Idx) :
    ∃ r : ℝ, maximumf b (Host.reduce FloatOps.maximumf x c h hu) j = (r : EReal) := by
  haveI : NeZero n4 := ⟨hn.ne'⟩
  obtain ⟨r, hr⟩ : ∃ r : ℝ, Host.reduce FloatOps.maximumf x c h hu j = (r : EReal) := by
    rw [Host.reduce_eq_fold, h.fold_fiber_r5_a4, hc]
    exact Cert.Attn.fold_max_real _ fun k => hx _
  refine ⟨r, ?_⟩
  show max (b j) (Host.reduce FloatOps.maximumf x c h hu j) = _
  rw [hr, hb, max_eq_right bot_le]

/-- The maximum of real latent scores over the keys is real. -/
theorem latMax_real (s : FVec Ideal S2x2x4x8192x8448 .f32) (hs : ∀ i, ∃ r : ℝ, s i = (r : EReal)) (j : S2x2x4x8192.Idx) :
    ∃ r : ℝ, latMax s j = (r : EReal) := by
  unfold latMax
  exact hostMax_real _ (by norm_num) _ s _ ofBits_negInf hs _ (fun _ => ofBits_negInf) j

/-- The maximum of real context scores over the keys is real. -/
theorem ctxMax_real (s : FVec Ideal S2x2x4x256x256 .f32) (hs : ∀ i, ∃ r : ℝ, s i = (r : EReal)) (j : S2x2x4x256.Idx) :
    ∃ r : ℝ, ctxMax s j = (r : EReal) := by
  unfold ctxMax
  exact hostMax_real _ (by norm_num) _ s _ ofBits_negInf hs _ (fun _ => ofBits_negInf) j

end Cert.ReferenceIdeal.Term

end
-- ==== Proof.RefRead2.lean ====
/- The reference's result read at an entry. -/
module

public import proofs.«01_k».proof.Proof.RefRead

@[expose] public section

set_option maxRecDepth 16384

noncomputable section

namespace Cert.ReferenceIdeal.Term

open Cert.ReferenceIdeal Cert.ReferenceIdeal.Gen Idealize.ShloMosaic Idealize.ShloMosaic.TcCoe Idealize.SL.Sem

/-- A latent's score: the product of its query with the key, divided by the root of 128. -/
theorem latScore_at (Q : FVec Ideal S2x8448x1024 .f32) (K : FVec Ideal S2x8448x256 .f32) (b : Fin 2) (g : Fin 2) (r : Fin 4) (q : Fin 8192) (k : Fin 8448) :
    latScore Q K (ix5 b g r q k) = Ideal.div (∑ x : Fin 128, K (ix3 b k ⟨g.val * 128 + x.val, by omega⟩)
      * Q (ix3 b ⟨256 + q.val, by omega⟩ ⟨(g.val * 4 + r.val) * 128 + x.val, by omega⟩)) (Ideal.sqrt (Ideal.ofBits .f32 0x43000000#32)) := by
  pointwise [latScore]

/-- A context query's score: the product of the query with the key, divided by the root of 128. -/
theorem ctxScore_at (Q : FVec Ideal S2x8448x1024 .f32) (K : FVec Ideal S2x8448x256 .f32) (b : Fin 2) (g : Fin 2) (r : Fin 4) (q : Fin 256) (k : Fin 256) :
    ctxScore Q K (ix5 b g r q k) = Ideal.div (∑ x : Fin 128, K (ix3 b ⟨k.val, by omega⟩ ⟨g.val * 128 + x.val, by omega⟩)
      * Q (ix3 b ⟨q.val, by omega⟩ ⟨(g.val * 4 + r.val) * 128 + x.val, by omega⟩)) (Ideal.sqrt (Ideal.ofBits .f32 0x43000000#32)) := by
  pointwise [ctxScore]

/-- A latent's weight before it is normalised: the exponential of the score less the row's maximum. -/
theorem latExp_at (s : FVec Ideal S2x2x4x8192x8448 .f32) (M : FVec Ideal S2x2x4x8192 .f32) (b : Fin 2) (g : Fin 2) (r : Fin 4) (q : Fin 8192) (k : Fin 8448)  :
    latExp s M (ix5 b g r q k) = Ideal.exp (s (ix5 b g r q k) - M (ix4 b g r q)) := by
  pointwise [latExp]

/-- A context query's weight before it is normalised: the exponential of the score less the row's maximum. -/
theorem ctxExp_at (s : FVec Ideal S2x2x4x256x256 .f32) (M : FVec Ideal S2x2x4x256 .f32) (b : Fin 2) (g : Fin 2) (r : Fin 4) (q : Fin 256) (k : Fin 256)  :
    ctxExp s M (ix5 b g r q k) = Ideal.exp (s (ix5 b g r q k) - M (ix4 b g r q)) := by
  pointwise [ctxExp]

/-- A latent's result at a column: the values of the column weighted by the normalised weights. -/
theorem latOut_at (s : FVec Ideal S2x2x4x8192x8448 .f32) (V : FVec Ideal S2x8448x256 .f32) (b : Fin 2) (q : Fin 8192) (k : Fin 1024)  :
    latOut s V (ix3 b q k) = ∑ x : Fin 8448, V (ix3 b x ⟨k.val / 512 * 128 + k.val % 128, by omega⟩) *
        Ideal.div (s (ix5 b ⟨k.val / 512, by omega⟩ ⟨k.val / 128 % 4, by omega⟩ q x))
          (∑ y : Fin 8448, s (ix5 b ⟨k.val / 512, by omega⟩ ⟨k.val / 128 % 4, by omega⟩ q y)) := by
  pointwise [latOut]

/-- A context query's result at a column: the values of the column weighted by the normalised weights. -/
theorem ctxOut_at (s : FVec Ideal S2x2x4x256x256 .f32) (V : FVec Ideal S2x8448x256 .f32) (b : Fin 2) (q : Fin 256) (k : Fin 1024)  :
    ctxOut s V (ix3 b q k) = ∑ x : Fin 256, V (ix3 b ⟨x.val, by omega⟩ ⟨k.val / 512 * 128 + k.val % 128, by omega⟩) *
        Ideal.div (s (ix5 b ⟨k.val / 512, by omega⟩ ⟨k.val / 128 % 4, by omega⟩ q x))
          (∑ y : Fin 256, s (ix5 b ⟨k.val / 512, by omega⟩ ⟨k.val / 128 % 4, by omega⟩ q y)) := by
  pointwise [ctxOut]

/-- The reference at an element: the context's attention in the first 256 rows, the latents' below. -/
theorem ref_at (Q : FVec Ideal S2x8448x1024 .f32) (K V : FVec Ideal S2x8448x256 .f32) (b : Fin 2) (q : Fin 8448) (k : Fin 1024)  :
    ref Q K V (ix3 b q k) = if h : q.val < 256 then ctxOut (ctxExp (ctxScore Q K) (ctxMax (ctxScore Q K))) V (ix3 b ⟨q.val, h⟩ k)
    else latOut (latExp (latScore Q K) (latMax (latScore Q K))) V (ix3 b ⟨q.val - 256, by omega⟩ k) := by
  pointwise [ref]

end Cert.ReferenceIdeal.Term

end
-- ==== Proof.Equation.lean ====
/- The reference's result is the attention, where the queries and the keys are real. -/
module

public import proofs.«01_k».proof.Proof.RefRead2
public import proofs.«01_k».proof.Proof.Array

@[expose] public section

set_option maxRecDepth 16384

noncomputable section

namespace Cert.ReferenceIdeal.Term

open Cert.ReferenceIdeal Cert.ReferenceIdeal.Gen Idealize.ShloMosaic Idealize.ShloMosaic.TcCoe Idealize.SL.Sem Cert.Attn

/-- The reference's score of real queries and keys. -/
theorem div_dot (q k : Fin 128 → EReal) (Q K : Fin 128 → ℝ) (hq : ∀ x, q x = (Q x : EReal)) (hk : ∀ x, k x = (K x : EReal)) :
    Ideal.div (∑ x, k x * q x) (Ideal.sqrt (Ideal.ofBits .f32 0x43000000#32)) = (dot Q K : EReal) := by
  have h : ∀ x, k x * q x = ((K x * Q x : ℝ) : EReal) := fun x => by rw [hq, hk, ← EReal.coe_mul]
  have hs : (0 : ℝ) < Real.sqrt 128 := Real.sqrt_pos.2 (by norm_num)
  simp only [h]
  rw [ofBits_128, Ideal.sqrt_coe, if_neg (by norm_num), coe_sum, Ideal.div_coe hs.ne']
  unfold dot
  rw [← EReal.coe_mul, one_div]

variable (X : FVec Ideal S2x8448x1024 .f32) (Y Z : FVec Ideal S2x8448x256 .f32)
  (Q : Fin 2 → Fin 8448 → Fin 1024 → ℝ) (K : Fin 2 → Fin 8448 → Fin 256 → ℝ)
  (hQ : ∀ b q j, X (ix3 b q j) = (Q b q j : EReal)) (hK : ∀ b q j, Y (ix3 b q j) = (K b q j : EReal))
include hQ hK

/-- A latent's score at the head of column `j`. -/
theorem latScore_real (b : Fin 2) (g : Fin 2) (r : Fin 4) (q : Fin 8192) (k : Fin 8448) (j : Fin 1024) (hg : g.val = j.val / 512) (hr : r.val = j.val / 128 % 4) :
    latScore X Y (ix5 b g r q k) = (dot (headOf (Q b ⟨256 + q.val, by omega⟩) j) (groupOf (K b k) j) : EReal) := by
  rw [latScore_at]
  refine div_dot _ _ _ _ (fun x => ?_) (fun x => ?_)
  · rw [hQ]; exact congrArg (fun z => ((Q b _ z : ℝ) : EReal)) (Fin.ext (by dsimp only; omega))
  · rw [hK]; exact congrArg (fun z => ((K b k z : ℝ) : EReal)) (Fin.ext (by dsimp only; omega))

/-- A context query's score at the head of column `j`. -/
theorem ctxScore_real (b : Fin 2) (g : Fin 2) (r : Fin 4) (q : Fin 256) (k : Fin 256) (j : Fin 1024) (hg : g.val = j.val / 512) (hr : r.val = j.val / 128 % 4) :
    ctxScore X Y (ix5 b g r q k) = (dot (headOf (Q b ⟨q.val, by omega⟩) j) (groupOf (K b ⟨k.val, by omega⟩) j) : EReal) := by
  rw [ctxScore_at]
  refine div_dot _ _ _ _ (fun x => ?_) (fun x => ?_)
  · rw [hQ]; exact congrArg (fun z => ((Q b _ z : ℝ) : EReal)) (Fin.ext (by dsimp only; omega))
  · rw [hK]; exact congrArg (fun z => ((K b _ z : ℝ) : EReal)) (Fin.ext (by dsimp only; omega))

/-- Every latent's score is real. -/
theorem latScore_all (i : S2x2x4x8192x8448.Idx) : ∃ x : ℝ, latScore X Y i = (x : EReal) := by
  idx_vars i
  exact ⟨_, latScore_real X Y Q K hQ hK i0 i1 i2 i3 i4 ⟨i1.val * 512 + i2.val * 128, by omega⟩ (by dsimp only; omega) (by dsimp only; omega)⟩

/-- Every context query's score is real. -/
theorem ctxScore_all (i : S2x2x4x256x256.Idx) : ∃ x : ℝ, ctxScore X Y i = (x : EReal) := by
  idx_vars i
  exact ⟨_, ctxScore_real X Y Q K hQ hK i0 i1 i2 i3 i4 ⟨i1.val * 512 + i2.val * 128, by omega⟩ (by dsimp only; omega) (by dsimp only; omega)⟩

/-- THE REFERENCE is the attention. -/
theorem ref_attend (b : Fin 2) (q : Fin 8448) (j : Fin 1024) : ref X Y Z (ix3 b q j) = attend Q K (fun b k d => Z (ix3 b k d)) b q j := by
  rw [ref_at]
  unfold attend
  split_ifs with h
  · obtain ⟨M, hM⟩ := ctxMax_real _ (ctxScore_all X Y Q K hQ hK) (ix4 b ⟨j.val / 512, by omega⟩ ⟨j.val / 128 % 4, by omega⟩ ⟨q.val, h⟩)
    rw [ctxOut_at, ← att_of_exp _ _ M]
    have hs : ∀ k, ctxScore X Y (ix5 b ⟨j.val / 512, by omega⟩ ⟨j.val / 128 % 4, by omega⟩ ⟨q.val, h⟩ k)
        = (dot (headOf (Q b q) j) (groupOf (K b ⟨k.val, by omega⟩) j) : EReal) := fun k =>
      ctxScore_real X Y Q K hQ hK b ⟨j.val / 512, by omega⟩ ⟨j.val / 128 % 4, by omega⟩ ⟨q.val, h⟩ k j rfl rfl
    simp only [ctxExp_at, hM, hs]
    exact Finset.sum_congr rfl fun k _ => rfl
  · obtain ⟨M, hM⟩ := latMax_real _ (latScore_all X Y Q K hQ hK) (ix4 b ⟨j.val / 512, by omega⟩ ⟨j.val / 128 % 4, by omega⟩ ⟨q.val - 256, by omega⟩)
    rw [latOut_at, ← att_of_exp _ _ M]
    have hq : (⟨256 + (q.val - 256), by omega⟩ : Fin 8448) = q := Fin.ext (by dsimp only; omega)
    have hs : ∀ k, latScore X Y (ix5 b ⟨j.val / 512, by omega⟩ ⟨j.val / 128 % 4, by omega⟩ ⟨q.val - 256, by omega⟩ k)
        = (dot (headOf (Q b q) j) (groupOf (K b k) j) : EReal) := fun k => by
      have e := latScore_real X Y Q K hQ hK b ⟨j.val / 512, by omega⟩ ⟨j.val / 128 % 4, by omega⟩ ⟨q.val - 256, by omega⟩ k j rfl rfl
      simpa only [hq] using e
    simp only [latExp_at, hM, hs]
    exact Finset.sum_congr rfl fun k _ => rfl

end Cert.ReferenceIdeal.Term

end
-- ==== Proof.Outproj.lean ====
/- The even layer's output projection: the result at an entry, and that the reference's is this. -/
module

public import proofs.«01_k».proof.Proof.Gen.Reference2Ideal.Run
public import Idealize.ShloMosaic.Lib.Pointwise

@[expose] public section

set_option maxRecDepth 16384

noncomputable section

namespace Cert.Outproj

/-- The result at an entry: the residual's entry and, gated, the row's product with the weights, the state-space half's
    columns before the attention's. The first 256 rows are the context's, with the context's residual and gate. -/
def result (A B : Fin 2 → Fin 8448 → Fin 1024 → EReal) (C : Fin 2 → Fin 256 → Fin 1024 → EReal) (X : Fin 2 → Fin 8192 → Fin 1024 → EReal)
    (M : Fin 2 → Fin 2 → Fin 6 → Fin 1024 → EReal) (W : Fin 2048 → Fin 1024 → EReal) (b : Fin 2) (q : Fin 8448) (j : Fin 1024) : EReal :=
  (if h : q.val < 256 then C b ⟨q.val, h⟩ j else X b ⟨q.val - 256, by omega⟩ j)
    + (if q.val < 256 then M b 0 2 j else M b 1 2 j)
      * (∑ k : Fin 1024, A b q k * W ⟨k.val, by omega⟩ j + ∑ k : Fin 1024, B b q k * W ⟨1024 + k.val, by omega⟩ j)

end Cert.Outproj

namespace Cert.Reference2Ideal.Term

open Cert.Reference2Ideal Cert.Reference2Ideal.Gen Idealize.ShloMosaic Idealize.ShloMosaic.TcCoe Idealize.SL.Sem

/-- The reference's composed term. -/
def ref (A B : FVec Ideal S2x8448x1024 .f32) (C : FVec Ideal S2x256x1024 .f32) (X : FVec Ideal S2x8192x1024 .f32) (M : FVec Ideal S2x2x6x1024 .f32)
    (W : FVec Ideal S2048x1024 .f32) : FVec Ideal S2x8448x1024 .f32 :=
  concatenate S2x8448x1024 1 [⟨S2x256x1024, (addf C (mulf (broadcastInDim S2x256x1024 ![0, 1, 2] bcast_S2x1x1024_S2x256x1024_0_1_2 (broadcastInDim S2x1x1024 ![0, 2] bcast_S2x1024_S2x1x1024_0_2 (shapeCast _ (extractStridedSlice S2x1x1x1024 ![0, 0, 2, 0] M slices_S2x2x6x1024_S2x1x1x1024_0_0_2_0) shapeCasts_S2x1x1x1024_S2x1024))) (Host.dotGeneral dot_S2x256x2048_S2048x1024_S2x256x1024_2_0_01_1_n_n none (extractStridedSlice S2x256x2048 ![0, 0, 0] (concatenate S2x8448x2048 2 [⟨S2x8448x1024, A⟩, ⟨S2x8448x1024, B⟩] concatenates_S2x8448x1024_S2x8448x1024_S2x8448x2048_d2) slices_S2x8448x2048_S2x256x2048_0_0_0) W)))⟩, ⟨S2x8192x1024, (addf X (mulf (broadcastInDim S2x8192x1024 ![0, 1, 2] bcast_S2x1x1024_S2x8192x1024_0_1_2 (broadcastInDim S2x1x1024 ![0, 2] bcast_S2x1024_S2x1x1024_0_2 (shapeCast _ (extractStridedSlice S2x1x1x1024 ![0, 1, 2, 0] M slices_S2x2x6x1024_S2x1x1x1024_0_1_2_0) shapeCasts_S2x1x1x1024_S2x1024))) (Host.dotGeneral dot_S2x8192x2048_S2048x1024_S2x8192x1024_2_0_01_1_n_n none (extractStridedSlice S2x8192x2048 ![0, 256, 0] (concatenate S2x8448x2048 2 [⟨S2x8448x1024, A⟩, ⟨S2x8448x1024, B⟩] concatenates_S2x8448x1024_S2x8448x1024_S2x8448x2048_d2) slices_S2x8448x2048_S2x8192x2048_0_256_0) W)))⟩] concatenates_S2x256x1024_S2x8192x1024_S2x8448x1024_d1

/-- The reference's result at an entry. -/
theorem ref_at (A B : FVec Ideal S2x8448x1024 .f32) (C : FVec Ideal S2x256x1024 .f32) (X : FVec Ideal S2x8192x1024 .f32) (M : FVec Ideal S2x2x6x1024 .f32)
    (W : FVec Ideal S2048x1024 .f32) (b : Fin 2) (q : Fin 8448) (j : Fin 1024) :
    ref A B C X M W (ix3 b q j) = Outproj.result (fun b q k => A (ix3 b q k)) (fun b q k => B (ix3 b q k)) (fun b q k => C (ix3 b q k)) (fun b q k => X (ix3 b q k))
      (fun b s i k => M (ix4 b s i k)) (fun k j => W (ix2 k j)) b q j := by
  pointwise [ref]
  unfold Outproj.result
  by_cases h : q.val < 256
  · simp only [dif_pos h, if_pos h]
  · have e : (⟨256 + (q.val - 256), by omega⟩ : Fin 8448) = q := Fin.ext (by dsimp only; omega)
    simp only [dif_neg h, if_neg h, e]

end Cert.Reference2Ideal.Term

end
-- ==== Proof.Tile.lean ====
/- The two tests by which a point of the projections' grid tells the context's rows from the latents': the tile's number
   below one, and the row's number below 256. -/
module

public import Idealize.ShloMosaic.Lib.Pointwise

@[expose] public section

noncomputable section

namespace Cert.Tile

open Idealize.ShloMosaic

/-- The tile's test, as a word. -/
theorem tile_word : ∀ n : Fin 33, Scalar.cmpi CmpIPredicate.slt (Scalar.addi (BitVec.ofNat 32 n.val) 0#32) 1#32 = if n.val = 0 then 1#1 else 0#1 := by
  decide +kernel

/-- The row's test, as a word. -/
theorem row_word : ∀ (n : Fin 33) (r : Fin 256), IntOp.cmpi CmpIPredicate.slt
    (IntOp.addi (Scalar.muli (Scalar.addi (BitVec.ofNat 32 n.val) 0#32) 256#32) (BitVec.ofNat 32 r.val)) 256#32 = if n.val = 0 then 1#1 else 0#1 := by
  decide +kernel

/-- A value chosen by the tile's test. -/
theorem tile_select {α : Type} (n : ℕ) (hn : n < 33) (a b : α) :
    Scalar.select (Scalar.cmpi CmpIPredicate.slt (Scalar.addi (BitVec.ofNat 32 n) 0#32) 1#32) a b = if n = 0 then a else b := by
  rw [tile_word ⟨n, hn⟩]
  by_cases h : n = 0 <;> simp [h, Scalar.select]

/-- A value chosen by the row's test. -/
theorem row_select {α : Type} (n : ℕ) (hn : n < 33) (r : Fin 256) (a b : α) :
    Scalar.select (IntOp.cmpi CmpIPredicate.slt
      (IntOp.addi (Scalar.muli (Scalar.addi (BitVec.ofNat 32 n) 0#32) 256#32) (BitVec.ofNat 32 r.val)) 256#32) a b = if n = 0 then a else b := by
  rw [row_word ⟨n, hn⟩ r]
  by_cases h : n = 0 <;> simp [h, Scalar.select]

/-- The row's test of a tile past the context's, as a word. -/
theorem past_word : ∀ (n : Fin 32) (r : Fin 256), IntOp.cmpi CmpIPredicate.slt
    (IntOp.addi (Scalar.muli (Scalar.addi (BitVec.ofNat 32 n.val) 1#32) 256#32) (BitVec.ofNat 32 r.val)) 256#32 = 0#1 := by
  decide +kernel

/-- A value chosen by the row's test, of a tile past the context's. -/
theorem past_select {α : Type} (n : ℕ) (hn : n < 32) (r : Fin 256) (a b : α) :
    Scalar.select (IntOp.cmpi CmpIPredicate.slt
      (IntOp.addi (Scalar.muli (Scalar.addi (BitVec.ofNat 32 n) 1#32) 256#32) (BitVec.ofNat 32 r.val)) 256#32) a b = b := by
  rw [past_word ⟨n, hn⟩ r]
  simp [Scalar.select]

/-- A word with nothing added. -/
theorem add_none (x : BitVec 32) : Scalar.addi x 0#32 = x := BitVec.add_zero x

/-- A value chosen by the tile's test: the first at tile 0, else the second. -/
theorem tile_choice {α : Type} (n : ℕ) (hn : n < 33) (a b : α) :
    Scalar.select (Scalar.cmpi .slt (BitVec.ofNat 32 n) 1#32) a b = if n = 0 then a else b := by
  rw [← tile_select n hn a b, add_none]

/-- A value chosen by the row's test: every row of tile 0 is a context row, no other row is. -/
theorem row_choice {α : Type} (n : ℕ) (hn : n < 33) (r : Fin 256) (a b : α) :
    Scalar.select (IntOp.cmpi CmpIPredicate.slt (IntOp.addi (Scalar.muli (BitVec.ofNat 32 n) 256#32) (BitVec.ofNat 32 r.val)) 256#32) a b
      = if n = 0 then a else b := by
  rw [← row_select n hn r a b, add_none]

end Cert.Tile

end
-- ==== Proof.OutprojKernel.lean ====
/- The output projection's kernel: what a point writes, and the array it leaves. -/
module

public import proofs.«01_k».proof.Proof.Gen.Kernel2Ideal.Value
public import Idealize.ShloMosaic.Lib.Pipeline.ValueKit
public import proofs.«01_k».proof.Proof.Outproj
public import proofs.«01_k».proof.Proof.Tile

@[expose] public section

set_option maxRecDepth 16384

noncomputable section

namespace Cert.Kernel2Ideal.Out

open Cert.Kernel2Ideal Cert.Kernel2Ideal.Gen Idealize.ShloMosaic Idealize.ShloMosaic.TcCoe Idealize.SL.Sem
open Idealize.ShloMosaic.Pipeline (Dat)

/-- What a point writes, at an entry of its block, from the blocks it reads. -/
theorem out_at (i : grid0.Coords) (a b : Vec Ideal S1x256x1024 .bf16) (u v : Vec Ideal S1x256x1024 .f32) (g : Vec Ideal S1x2x6x1024 .f32)
    (w : Vec Ideal S2048x1024 .bf16) (r : Fin 256) (j : Fin 1024) :
    out0_6 i a b u v g w (ix3 0 r j)
      = (if (i 1).val = 0 then u (ix3 0 r j) else v (ix3 0 r j)) + (if (i 1).val = 0 then g (ix4 0 0 2 j) else g (ix4 0 1 2 j))
        * (∑ k : Fin 1024, a (ix3 0 r k) * w (ix2 ⟨k.val, by omega⟩ j) + ∑ k : Fin 1024, b (ix3 0 r k) * w (ix2 ⟨1024 + k.val, by omega⟩ j)) := by
  have hi : (i 1).val < 33 := (i 1).isLt
  unfold out0_6
  canon_tiles x h
  idx_vars x
  pointwise [k0_pay1, k0_pay2, k0_pay3]
  obtain rfl : x1 = r := Fin.ext h1.symm
  obtain rfl : x2 = j := Fin.ext h2.symm
  rw [Tile.tile_select _ hi, Tile.row_select _ hi]

variable (m : (ℓ : Loc nD τ sig) → Buf (Elt Ideal) ℓ) (c : Dev nD)

/-- Which block each window has at a point: the batch is `t / 33`, the tile of rows `t % 33`, the latents' tile one less. -/
theorem idx : ∀ t : Fin cfg0.N, win0_0.index t = ![t.val / 33, t.val % 33, 0] ∧ win0_1.index t = ![t.val / 33, t.val % 33, 0] ∧ win0_2.index t = ![t.val / 33, 0, 0]
    ∧ win0_3.index t = ![t.val / 33, t.val % 33 - 1, 0] ∧ win0_4.index t = ![t.val / 33, 0, 0, 0] ∧ win0_5.index t = ![0, 0]
    ∧ win0_6.index t = ![t.val / 33, t.val % 33, 0] ∧ (grid0.coords t 1).val = t.val % 33 := (by decide +kernel : ∀ t : Fin grid0.N, _)

/-- The grid has 66 points. -/
theorem lt_N (t : Fin cfg0.N) : t.val < 66 := lt_of_lt_of_eq t.isLt N_0

/-- The state-space layer's output. -/
def argA : Fin 2 → Fin 8448 → Fin 1024 → EReal := fun b q j => m ((c : Thread nD τ).loc main_arg0) (ix3 b q j)
/-- The attention's output. -/
def argB : Fin 2 → Fin 8448 → Fin 1024 → EReal := fun b q j => m ((c : Thread nD τ).loc main_arg1) (ix3 b q j)
/-- The context's residual. -/
def argC : Fin 2 → Fin 256 → Fin 1024 → EReal := fun b q j => m ((c : Thread nD τ).loc main_arg2) (ix3 b q j)
/-- The latents' residual. -/
def argX : Fin 2 → Fin 8192 → Fin 1024 → EReal := fun b q j => m ((c : Thread nD τ).loc main_arg3) (ix3 b q j)
/-- The modulation. -/
def argM : Fin 2 → Fin 2 → Fin 6 → Fin 1024 → EReal := fun b s i j => m ((c : Thread nD τ).loc main_arg4) (ix4 b s i j)
/-- The weights. -/
def argW : Fin 2048 → Fin 1024 → EReal := fun k j => m ((c : Thread nD τ).loc main_arg5) (ix2 k j)

/-- A point's rows of the state-space layer's output. -/
theorem a_at (t : Fin cfg0.N) (r : Fin 256) (j : Fin 1024) :
    (iblk m c 0 t : Vec Ideal S1x256x1024 .bf16) (ix3 0 r j) = argA m c ⟨t.val / 33, by have := lt_N t; omega⟩ ⟨t.val % 33 * 256 + r.val, by omega⟩ j := by
  unfold argA
  blk_simp [iblk]
  entry_read
  pointwise
  blk_ext [idx t]

/-- A point's rows of the attention's output. -/
theorem b_at (t : Fin cfg0.N) (r : Fin 256) (j : Fin 1024) :
    (iblk m c 1 t : Vec Ideal S1x256x1024 .bf16) (ix3 0 r j) = argB m c ⟨t.val / 33, by have := lt_N t; omega⟩ ⟨t.val % 33 * 256 + r.val, by omega⟩ j := by
  unfold argB
  blk_simp [iblk]
  entry_read
  pointwise
  blk_ext [idx t]

/-- A point's context rows: all of its batch. -/
theorem c_at (t : Fin cfg0.N) (r : Fin 256) (j : Fin 1024) :
    (iblk m c 2 t : Vec Ideal S1x256x1024 .f32) (ix3 0 r j) = argC m c ⟨t.val / 33, by have := lt_N t; omega⟩ r j := by
  unfold argC
  blk_point [iblk, V, idx t]

/-- A point's latent rows: one tile before the point's. -/
theorem x_at (t : Fin cfg0.N) (r : Fin 256) (j : Fin 1024) :
    (iblk m c 3 t : Vec Ideal S1x256x1024 .f32) (ix3 0 r j) = argX m c ⟨t.val / 33, by have := lt_N t; omega⟩ ⟨(t.val % 33 - 1) * 256 + r.val, by omega⟩ j := by
  unfold argX
  blk_point [iblk, V, idx t]

/-- A point's modulation: all of its batch. -/
theorem m_at (t : Fin cfg0.N) (s : Fin 2) (i : Fin 6) (j : Fin 1024) :
    (iblk m c 4 t : Vec Ideal S1x2x6x1024 .f32) (ix4 0 s i j) = argM m c ⟨t.val / 33, by have := lt_N t; omega⟩ s i j := by
  unfold argM
  blk_point [iblk, V, idx t]

/-- A point's weights: all of them. -/
theorem w_at (t : Fin cfg0.N) (k : Fin 2048) (j : Fin 1024) : (iblk m c 5 t : Vec Ideal S2048x1024 .bf16) (ix2 k j) = argW m c k j := by
  unfold argW
  blk_simp [iblk]
  entry_read
  pointwise
  blk_ext [idx t]

/-- THE OUTPUT ARRAY is the projection. -/
theorem final : (dats m 0 c).arrAt 6 cfg0.N
    = fun y => Outproj.result (argA m c) (argB m c) (argC m c) (argX m c) (argM m c) (argW m c) (y 0) (y 1) (y 2) := by
  refine (dats m 0 c).arrAt_eq_of_covers 6 _ (by decide +kernel) fun t hf y => ?_
  rw [after0_6]
  blk_simp
  idx_vars y
  obtain rfl : y0 = 0 := Subsingleton.elim _ _
  have ht := lt_N t
  rw [out_at]
  have e : ∀ (b : Fin 2) (q : Fin 8448) (j : Fin 1024) (b' : Fin 2) (q' : Fin 8448) (j' : Fin 1024), b.val = b'.val → q.val = q'.val → j.val = j'.val →
      Outproj.result (argA m c) (argB m c) (argC m c) (argX m c) (argM m c) (argW m c) b q j
        = Outproj.result (argA m c) (argB m c) (argC m c) (argX m c) (argM m c) (argW m c) b' q' j' := by
    intro b q j b' q' j' h0 h1 h2
    rw [Fin.ext h0, Fin.ext h1, Fin.ext h2]
  refine Eq.trans ?_ (e ⟨t.val / 33, by omega⟩ ⟨t.val % 33 * 256 + y1.val, by omega⟩ y2 _ _ _ ?_ ?_ ?_)
  · have hg := (idx t).2.2.2.2.2.2.2
    unfold Outproj.result
    simp only [a_at, b_at, c_at, x_at, m_at, w_at, hg]
    refine congrArg₂ (· + ·) ?_ (congrArg (· * _) ?_)
    · by_cases h0 : t.val % 33 = 0
      · rw [if_pos h0, dif_pos (by omega)]
        exact congrArg (fun z => argC m c _ z y2) (Fin.ext (by dsimp only; omega))
      · rw [if_neg h0, dif_neg (by omega)]
        exact congrArg (fun z => argX m c _ z y2) (Fin.ext (by dsimp only; omega))
    · by_cases h0 : t.val % 33 = 0
      · rw [if_pos h0, if_pos (by omega)]
      · rw [if_neg h0, if_neg (by omega)]
  · blk_simp [idx t]
    rfl
  all_goals (blk_simp [idx t] <;> try omega)

end Cert.Kernel2Ideal.Out

end
-- ==== Proof.Inproj.lean ====
/- The mathematics of the input projections: the modulated norm, the product, the heads' norm, the rotation and the scale. -/
module

public import proofs.«01_k».proof.Proof.RefRead

@[expose] public section

noncomputable section

namespace Cert.Inproj

open Idealize.ShloMosaic Cert.ReferenceIdeal.Term

/-- The reciprocal root of a vector's mean square and a little; the word is the length. -/
def rms (w : BitVec 32) {n : ℕ} (v : Fin n → EReal) : EReal :=
  Ideal.rsqrt (Ideal.div (∑ x, v x * v x) (Ideal.ofBits .f32 w) + Ideal.ofBits .f32 0x358637BD#32)

/-- A row normed, gained and modulated. -/
def row (x g s t : Fin 1024 → EReal) (k : Fin 1024) : EReal := x k * rms 0x44800000#32 x * g k * (1 + s k) + t k

/-- A row's product with a column. -/
def dot (h w : Fin 1024 → EReal) : EReal := ∑ k, h k * w k

/-- A head normed and gained. -/
def head (g v : Fin 128 → EReal) (d : Fin 128) : EReal := v d * rms 0x43000000#32 v * g d

/-- A head turned by tables of 128 cosines and signed sines. -/
def turn (c s v : Fin 128 → EReal) (d : Fin 128) : EReal := v d * c d + v ⟨(d.val + 128 - 64) % 128, by omega⟩ * s d

/-- The cosines' table: 1 at the context's rows, the cosines twice at the latents'. -/
def cosT (cos : Fin 8192 → Fin 64 → EReal) (q : Fin 8448) (d : Fin 128) : EReal :=
  if q.val < 256 then 1 else cos ⟨q.val - 256, by omega⟩ ⟨d.val % 64, by omega⟩

/-- The sines' table: 0 at the context's rows, the sines, negated in the first half, at the latents'. -/
def sinT (sin : Fin 8192 → Fin 64 → EReal) (q : Fin 8448) (d : Fin 128) : EReal :=
  if q.val < 256 then 0 else if d.val < 64 then -(sin ⟨q.val - 256, by omega⟩ ⟨d.val % 64, by omega⟩) else sin ⟨q.val - 256, by omega⟩ ⟨d.val % 64, by omega⟩

/-- A head rotated: unchanged at the context's rows, its halves turned at the latents'. -/
def rope (cos sin : Fin 8192 → Fin 64 → EReal) (q : Fin 8448) (v : Fin 128 → EReal) (d : Fin 128) : EReal :=
  if q.val < 256 then v d
  else if h : d.val < 64 then v d * cos ⟨q.val - 256, by omega⟩ ⟨d.val, h⟩ - v ⟨64 + d.val, by omega⟩ * sin ⟨q.val - 256, by omega⟩ ⟨d.val, h⟩
  else v ⟨d.val - 64, by omega⟩ * sin ⟨q.val - 256, by omega⟩ ⟨d.val - 64, by omega⟩ + v d * cos ⟨q.val - 256, by omega⟩ ⟨d.val - 64, by omega⟩

/-- The rotation at a context row. -/
theorem rope_ctx (cos sin : Fin 8192 → Fin 64 → EReal) (q : Fin 8448) (v : Fin 128 → EReal) (d : Fin 128) (hq : q.val < 256) :
    rope cos sin q v d = v d := if_pos hq

/-- The rotation's first half at a latent row. -/
theorem rope_lo (cos sin : Fin 8192 → Fin 64 → EReal) (q : Fin 8448) (v : Fin 128 → EReal) (d : Fin 128) (hq : ¬ q.val < 256) (h : d.val < 64) :
    rope cos sin q v d = v d * cos ⟨q.val - 256, by omega⟩ ⟨d.val, h⟩ - v ⟨64 + d.val, by omega⟩ * sin ⟨q.val - 256, by omega⟩ ⟨d.val, h⟩ := by
  unfold rope
  rw [if_neg hq, dif_pos h]

/-- The rotation's second half at a latent row. -/
theorem rope_hi (cos sin : Fin 8192 → Fin 64 → EReal) (q : Fin 8448) (v : Fin 128 → EReal) (d : Fin 128) (hq : ¬ q.val < 256) (h : ¬ d.val < 64) :
    rope cos sin q v d = v ⟨d.val - 64, by omega⟩ * sin ⟨q.val - 256, by omega⟩ ⟨d.val - 64, by omega⟩
      + v d * cos ⟨q.val - 256, by omega⟩ ⟨d.val - 64, by omega⟩ := by
  unfold rope
  rw [if_neg hq, dif_neg h]

/-- Turning by the tables is the rotation. -/
theorem turn_eq (cos sin : Fin 8192 → Fin 64 → EReal) (q : Fin 8448) (v : Fin 128 → EReal) (d : Fin 128) :
    turn (cosT cos q) (sinT sin q) v d = rope cos sin q v d := by
  unfold turn cosT sinT rope
  have hd := d.isLt
  by_cases hq : q.val < 256
  · simp only [if_pos hq, mul_one, mul_zero, add_zero]
  · simp only [if_neg hq]
    by_cases h : d.val < 64
    · have e1 : (⟨d.val % 64, by omega⟩ : Fin 64) = ⟨d.val, h⟩ := Fin.ext (by dsimp only; omega)
      have e2 : (⟨(d.val + 128 - 64) % 128, by omega⟩ : Fin 128) = ⟨64 + d.val, by omega⟩ := Fin.ext (by dsimp only; omega)
      rw [if_pos h, dif_pos h, e1, e2, mul_neg, sub_eq_add_neg]
    · have e1 : (⟨d.val % 64, by omega⟩ : Fin 64) = ⟨d.val - 64, by omega⟩ := Fin.ext (by dsimp only; omega)
      have e2 : (⟨(d.val + 128 - 64) % 128, by omega⟩ : Fin 128) = ⟨d.val - 64, by omega⟩ := Fin.ext (by dsimp only; omega)
      rw [if_neg h, dif_neg h, e1, e2, add_comm]

/-- The word 0x40000000 is 2. -/
theorem ofBits_2 : Ideal.ofBits .f32 0x40000000#32 = ((2 : ℝ) : EReal) := by
  simp [Ideal.ofBits, Ideal.ieee, -EReal.coe_mul]; norm_num

/-- A query scaled: over the root of 128, and over the logarithm of 2. -/
def scaled (t : EReal) : EReal :=
  Ideal.div (Ideal.div t (Ideal.sqrt (Ideal.ofBits .f32 0x43000000#32))) (Ideal.log (Ideal.ofBits .f32 0x40000000#32))

/-- That is the product with the named constant's value. -/
theorem scaled_eq (t : EReal) : t * (((Real.sqrt 128)⁻¹ * (Real.log 2)⁻¹ : ℝ) : EReal) = scaled t := by
  have hs : (0 : ℝ) < Real.sqrt 128 := Real.sqrt_pos.2 (by norm_num)
  have hl : (0 : ℝ) < Real.log 2 := Real.log_pos (by norm_num)
  have e : Ideal.log ((2 : ℝ) : EReal) = ((Real.log 2 : ℝ) : EReal) := by
    show (if (2 : ℝ) ≤ 0 then (⊥ : EReal) else _) = _
    rw [if_neg (by norm_num)]
  unfold scaled
  rw [ofBits_128, ofBits_2, Ideal.sqrt_coe, if_neg (by norm_num), e]
  unfold Ideal.div
  rw [if_neg (by exact_mod_cast hl.ne'), if_neg (by exact_mod_cast hs.ne'), mul_assoc, EReal.coe_mul, EReal.coe_inv, EReal.coe_inv]

/-- The modulated row `q` of batch `b`: the context's rows by the first half of the modulation, the latents' by the second. -/
def hid (X : Fin 2 → Fin 8448 → Fin 1024 → EReal) (G : Fin 1024 → EReal) (M : Fin 2 → Fin 2 → Fin 6 → Fin 1024 → EReal)
    (b : Fin 2) (q : Fin 8448) : Fin 1024 → EReal :=
  row (X b q) G (if q.val < 256 then M b 0 1 else M b 1 1) (if q.val < 256 then M b 0 0 else M b 1 0)

/-- The context's rows, then the latents'. -/
def rows (C : Fin 2 → Fin 256 → Fin 1024 → EReal) (X : Fin 2 → Fin 8192 → Fin 1024 → EReal) (b : Fin 2) (q : Fin 8448) : Fin 1024 → EReal :=
  if h : q.val < 256 then C b ⟨q.val, h⟩ else X b ⟨q.val - 256, by omega⟩

/-- A gate's entry from a row: the first 1024 columns. -/
def gate (h : Fin 1024 → EReal) (W : Fin 1024 → Fin 3872 → EReal) (j : Fin 1024) : EReal := dot h fun k => W k ⟨j.val, by omega⟩

/-- An entry of the recurrence's input from a row: the next 1280 columns. -/
def mixed (h : Fin 1024 → EReal) (W : Fin 1024 → Fin 3872 → EReal) (j : Fin 1280) : EReal := dot h fun k => W k ⟨1024 + j.val, by omega⟩

/-- A value's entry from a row: the last 256 columns. -/
def value (h : Fin 1024 → EReal) (W : Fin 1024 → Fin 3872 → EReal) (j : Fin 256) : EReal := dot h fun k => W k ⟨3616 + j.val, by omega⟩

/-- A step size's entry from a row: the two directions' 16 columns, each among 112 zeros. -/
def steps (h : Fin 1024 → EReal) (W : Fin 1024 → Fin 3872 → EReal) (j : Fin 256) : EReal :=
  if j.val % 128 < 16 then dot h fun k => W k ⟨2304 + (j.val / 128 * 16 + j.val % 128) % 32, by omega⟩ else 0

/-- An even layer's query entry, before its scale, from a row: its head normed and rotated. -/
def query (cos sin : Fin 8192 → Fin 64 → EReal) (q : Fin 8448) (g : Fin 128 → EReal) (h : Fin 1024 → EReal) (W : Fin 1024 → Fin 3872 → EReal) (j : Fin 1024) : EReal :=
  rope cos sin q (head g fun d => dot h fun k => W k ⟨2336 + (j.val / 128 * 128 + d.val), by omega⟩) ⟨j.val % 128, by omega⟩

/-- An even layer's key entry, from a row: its head normed and rotated. -/
def key (cos sin : Fin 8192 → Fin 64 → EReal) (q : Fin 8448) (g : Fin 128 → EReal) (h : Fin 1024 → EReal) (W : Fin 1024 → Fin 3872 → EReal) (j : Fin 256) : EReal :=
  rope cos sin q (head g fun d => dot h fun k => W k ⟨3360 + (j.val / 128 * 128 + d.val), by omega⟩) ⟨j.val % 128, by omega⟩

end Cert.Inproj

end
-- ==== Proof.InprojPoint.lean ====
/- What a point of the even layer's input projection writes, from the blocks it reads. -/
module

public import proofs.«01_k».proof.Proof.Gen.Kernel3Ideal.Value
public import Idealize.ShloMosaic.Lib.Pipeline.ValueKit
public import Idealize.ShloMosaic.Lib.Pointwise
public import proofs.«01_k».proof.Proof.Tile
public import proofs.«01_k».proof.Proof.Inproj

@[expose] public section

set_option maxRecDepth 16384

noncomputable section

namespace Cert.Kernel3Ideal.Out

open Cert.Kernel3Ideal Cert.Kernel3Ideal.Gen Idealize.ShloMosaic Idealize.ShloMosaic.TcCoe Idealize.SL.Sem

/-- The modulated row `r` of a point. -/
def hrow (i : grid0.Coords) (a u : Vec Ideal S1x256x1024 .f32) (g : Vec Ideal S1x1024 .f32) (md : Vec Ideal S1x2x6x1024 .f32) (r : Fin 256) :
    Fin 1024 → EReal :=
  Inproj.row (fun k => if (i 1).val = 0 then a (ix3 0 r k) else u (ix3 0 r k)) (fun k => g (ix2 0 k))
    (fun k => if (i 1).val = 0 then md (ix4 0 0 1 k) else md (ix4 0 1 1 k)) (fun k => if (i 1).val = 0 then md (ix4 0 0 0 k) else md (ix4 0 1 0 k))

variable (i : grid0.Coords) (a u : Vec Ideal S1x256x1024 .f32) (g : Vec Ideal S1x1024 .f32) (md : Vec Ideal S1x2x6x1024 .f32)
  (w : Vec Ideal S1024x2304 .bf16) (wd : Vec Ideal S1024x256 .bf16) (wq : Vec Ideal S1024x1536 .bf16) (qg kg : Vec Ideal S1x128 .f32)
  (cs sn : Vec Ideal S256x128 .f32)

/-- The three products side by side. -/
def wide (r : Fin 256) (j : Fin 4096) : EReal :=
  if h : j.val < 2304 then Inproj.dot (hrow i a u g md r) (fun k => w (ix2 k ⟨j.val, h⟩))
  else if h : j.val - 2304 < 256 then Inproj.dot (hrow i a u g md r) (fun k => wd (ix2 k ⟨j.val - 2304, h⟩))
  else Inproj.dot (hrow i a u g md r) (fun k => wq (ix2 k ⟨j.val - 2304 - 256, by omega⟩))

/-- The point's product at an entry. -/
theorem wide_at (r : Fin 256) (j : Fin 4096) : k0_pay39 i a u g md w wd wq qg kg cs sn (ix2 r j) = wide i a u g md w wd wq r j := by
  have hi : (i 1).val < 33 := (i 1).isLt
  pointwise [k0_pay39, k0_pay38, k0_pay37, k0_pay36, k0_pay35, k0_pay34, k0_pay3, k0_pay4, k0_pay5, k0_pay6, k0_pay7, k0_pay8]
  simp only [Tile.tile_choice _ hi, Tile.row_choice _ hi]
  rfl

/-- What a point writes of the gate. -/
theorem z_at (r : Fin 256) (j : Fin 1024) : out0_11 i a u g md w wd wq qg kg cs sn (ix3 0 r j) = wide i a u g md w wd wq r ⟨j.val, by omega⟩ := by
  unfold out0_11
  canon_tiles x h
  idx_vars x
  pointwise [k0_pay9]
  obtain rfl : x1 = r := Fin.ext h1.symm
  obtain rfl : x2 = j := Fin.ext h2.symm
  exact wide_at i a u g md w wd wq qg kg cs sn _ _

/-- What a point writes of the recurrence's input. -/
theorem xbc_at (r : Fin 256) (j : Fin 1280) : out0_12 i a u g md w wd wq qg kg cs sn (ix3 0 r j) = wide i a u g md w wd wq r ⟨1024 + j.val, by omega⟩ := by
  unfold out0_12
  canon_tiles x h
  idx_vars x
  pointwise [k0_pay10, k0_pay11]
  obtain rfl : x1 = r := Fin.ext h1.symm
  obtain rfl : x2 = j := Fin.ext h2.symm
  exact wide_at i a u g md w wd wq qg kg cs sn _ _

/-- What a point writes of the step sizes. -/
theorem dt_at (r : Fin 256) (j : Fin 256) : out0_13 i a u g md w wd wq qg kg cs sn (ix3 0 r j) = wide i a u g md w wd wq r ⟨2304 + j.val, by omega⟩ := by
  unfold out0_13
  canon_tiles x h
  idx_vars x
  pointwise [k0_pay12]
  obtain rfl : x1 = r := Fin.ext h1.symm
  obtain rfl : x2 = j := Fin.ext h2.symm
  exact wide_at i a u g md w wd wq qg kg cs sn _ _

/-- What a point writes of the values. -/
theorem v_at (r : Fin 256) (j : Fin 256) : out0_16 i a u g md w wd wq qg kg cs sn (ix3 0 r j) = wide i a u g md w wd wq r ⟨3840 + j.val, by omega⟩ := by
  unfold out0_16
  canon_tiles x h
  idx_vars x
  pointwise [k0_pay2]
  obtain rfl : x1 = r := Fin.ext h1.symm
  obtain rfl : x2 = j := Fin.ext h2.symm
  exact wide_at i a u g md w wd wq qg kg cs sn _ _

/-- The scale's value. -/
theorem named_scale : (Named.named κ "scale_log2e" 0x3E0293EE#32 : Ideal .f32) = (((Real.sqrt 128)⁻¹ * (Real.log 2)⁻¹ : ℝ) : EReal) := rfl

/-- A head from column `o` of the point's product, normed and turned. -/
def turned (P : FVec Ideal S256x4096 .f32) (gn : Vec Ideal S1x128 .f32) (C S : FVec Ideal S256x128 .f32) (r : Fin 256) (o : Fin 3969) (d : Fin 128) : EReal :=
  Inproj.turn (fun d => C (ix2 r d)) (fun d => S (ix2 r d)) (Inproj.head (fun d => gn (ix2 0 d)) fun d => P (ix2 r ⟨o.val + d.val, by omega⟩)) d

/-- What a point writes of the queries: every head's, from its columns. -/
theorem q_at (r : Fin 256) (h : Fin 8) (d : Fin 128) : out0_14 i a u g md w wd wq qg kg cs sn (ix3 0 r ⟨h.val * 128 + d.val, by omega⟩)
    = Inproj.scaled (turned (k0_pay39 i a u g md w wd wq qg kg cs sn) qg cs sn r ⟨2560 + h.val * 128, by omega⟩ d) := by
  rw [← Inproj.scaled_eq, ← named_scale]
  unfold out0_14
  canon_tiles x e
  all_goals idx_vars x
  all_goals obtain rfl : x1 = r := Fin.ext e1.symm
  all_goals obtain rfl : x2 = d := Fin.ext (by omega)
  · obtain rfl : h = 7 := Fin.ext (by show h.val = 7; omega)
    pointwise [k0_pay28, k0_pay29, k0_pay40, k0_pay41, k0_pay13, k0_pay14]
    rfl
  · obtain rfl : h = 6 := Fin.ext (by show h.val = 6; omega)
    pointwise [k0_pay26, k0_pay27, k0_pay40, k0_pay41, k0_pay13, k0_pay14]
    rfl
  · obtain rfl : h = 5 := Fin.ext (by show h.val = 5; omega)
    pointwise [k0_pay25, k0_pay40, k0_pay41, k0_pay13, k0_pay14]
    rfl
  · obtain rfl : h = 4 := Fin.ext (by show h.val = 4; omega)
    pointwise [k0_pay24, k0_pay23, k0_pay22, k0_pay21, k0_pay40, k0_pay41, k0_pay13, k0_pay14]
    rfl
  · obtain rfl : h = 3 := Fin.ext (by show h.val = 3; omega)
    pointwise [k0_pay20, k0_pay40, k0_pay41, k0_pay13, k0_pay14]
    rfl
  · obtain rfl : h = 2 := Fin.ext (by show h.val = 2; omega)
    pointwise [k0_pay18, k0_pay19, k0_pay40, k0_pay41, k0_pay13, k0_pay14]
    rfl
  · obtain rfl : h = 1 := Fin.ext (by show h.val = 1; omega)
    pointwise [k0_pay16, k0_pay17, k0_pay40, k0_pay41, k0_pay13, k0_pay14]
    rfl
  · obtain rfl : h = 0 := Fin.ext (by show h.val = 0; omega)
    pointwise [k0_pay15, k0_pay40, k0_pay41, k0_pay13, k0_pay14]
    rfl

/-- What a point writes of the keys: both heads', from their columns. -/
theorem k_at (r : Fin 256) (h : Fin 2) (d : Fin 128) : out0_15 i a u g md w wd wq qg kg cs sn (ix3 0 r ⟨h.val * 128 + d.val, by omega⟩)
    = turned (k0_pay39 i a u g md w wd wq qg kg cs sn) kg cs sn r ⟨3584 + h.val * 128, by omega⟩ d := by
  unfold out0_15
  canon_tiles x e
  all_goals idx_vars x
  all_goals obtain rfl : x1 = r := Fin.ext e1.symm
  all_goals obtain rfl : x2 = d := Fin.ext (by omega)
  · obtain rfl : h = 1 := Fin.ext (by show h.val = 1; omega)
    pointwise [k0_pay1, k0_pay31, k0_pay32, k0_pay33, k0_pay40, k0_pay41, k0_pay13, k0_pay14]
    rfl
  · obtain rfl : h = 0 := Fin.ext (by show h.val = 0; omega)
    pointwise [k0_pay30, k0_pay40, k0_pay41, k0_pay13, k0_pay14]
    rfl

end Cert.Kernel3Ideal.Out

end
-- ==== Proof.InprojBlocks.lean ====
/- The blocks a point of the even layer's input projection reads, as parts of the arguments. -/
module

public import proofs.«01_k».proof.Proof.InprojPoint

@[expose] public section

set_option maxRecDepth 16384

noncomputable section

namespace Cert.Kernel3Ideal.Out

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- Which block each window has at a point: the batch is `t / 33`, the tile `t % 33`; the latents' rows are one tile later than their array's. -/
theorem idx : ∀ t : Fin cfg0.N, win0_0.index t = ![t.val / 33, 0, 0] ∧ win0_1.index t = ![t.val / 33, t.val % 33 - 1, 0] ∧ win0_2.index t = ![0, 0]
    ∧ win0_3.index t = ![t.val / 33, 0, 0, 0] ∧ win0_4.index t = ![0, 0] ∧ win0_5.index t = ![0, 0] ∧ win0_6.index t = ![0, 0] ∧ win0_7.index t = ![0, 0]
    ∧ win0_8.index t = ![0, 0] ∧ win0_9.index t = ![t.val % 33, 0] ∧ win0_10.index t = ![t.val % 33, 0]
    ∧ win0_11.index t = ![t.val / 33, t.val % 33, 0] ∧ win0_12.index t = ![t.val / 33, t.val % 33, 0] ∧ win0_13.index t = ![t.val / 33, t.val % 33, 0]
    ∧ win0_14.index t = ![t.val / 33, t.val % 33, 0] ∧ win0_15.index t = ![t.val / 33, t.val % 33, 0] ∧ win0_16.index t = ![t.val / 33, t.val % 33, 0]
    ∧ (grid0.coords t 1).val = t.val % 33 := (by decide +kernel : ∀ t : Fin grid0.N, _)

/-- The tile's coordinate at a point. -/
theorem tile (t : Fin cfg0.N) : (grid0.coords t 1).val = t.val % 33 := (idx t).2.2.2.2.2.2.2.2.2.2.2.2.2.2.2.2.2

/-- The grid has 66 points. -/
theorem lt_N (t : Fin cfg0.N) : t.val < 66 := lt_of_lt_of_eq t.isLt N_0

/-- A point's batch. -/
def bat (t : Fin cfg0.N) : Fin 2 := ⟨t.val / 33, by have := lt_N t; omega⟩
/-- A point's row among all of its batch's. -/
def at' (t : Fin cfg0.N) (r : Fin 256) : Fin 8448 := ⟨t.val % 33 * 256 + r.val, by omega⟩

/-- The context. -/
def argC : Fin 2 → Fin 256 → Fin 1024 → EReal := fun b q j => m ((c : Thread nD τ).loc main_arg0) (ix3 b q j)
/-- The latents. -/
def argX : Fin 2 → Fin 8192 → Fin 1024 → EReal := fun b q j => m ((c : Thread nD τ).loc main_arg1) (ix3 b q j)
/-- The norm's gain. -/
def argG : Fin 1024 → EReal := fun k => m ((c : Thread nD τ).loc main_arg2) (ix1 k)
/-- The modulation. -/
def argM : Fin 2 → Fin 2 → Fin 6 → Fin 1024 → EReal := fun b s i j => m ((c : Thread nD τ).loc main_arg3) (ix4 b s i j)
/-- The weights. -/
def argW : Fin 1024 → Fin 3872 → EReal := fun k j => m ((c : Thread nD τ).loc main_arg4) (ix2 k j)
/-- The queries' gain. -/
def argQ : Fin 128 → EReal := fun k => m ((c : Thread nD τ).loc main_arg5) (ix1 k)
/-- The keys' gain. -/
def argK : Fin 128 → EReal := fun k => m ((c : Thread nD τ).loc main_arg6) (ix1 k)
/-- The cosines. -/
def argCos : Fin 8192 → Fin 64 → EReal := fun q d => m ((c : Thread nD τ).loc main_arg7) (ix2 q d)
/-- The sines. -/
def argSin : Fin 8192 → Fin 64 → EReal := fun q d => m ((c : Thread nD τ).loc main_arg8) (ix2 q d)

/-- A point's context rows: all of its batch. -/
theorem c_at (t : Fin cfg0.N) (r : Fin 256) (j : Fin 1024) : (iblk m c 0 t : Vec Ideal S1x256x1024 .f32) (ix3 0 r j) = argC m c (bat t) r j := by
  unfold argC bat
  blk_point [iblk, V, idx t]

/-- A point's latent rows: one tile before the point's. -/
theorem x_at (t : Fin cfg0.N) (r : Fin 256) (j : Fin 1024) :
    (iblk m c 1 t : Vec Ideal S1x256x1024 .f32) (ix3 0 r j) = argX m c (bat t) ⟨(t.val % 33 - 1) * 256 + r.val, by omega⟩ j := by
  unfold argX bat
  blk_point [iblk, V, idx t]

/-- A point's modulation: all of its batch. -/
theorem m_at (t : Fin cfg0.N) (s : Fin 2) (i : Fin 6) (j : Fin 1024) :
    (iblk m c 3 t : Vec Ideal S1x2x6x1024 .f32) (ix4 0 s i j) = argM m c (bat t) s i j := by
  unfold argM bat
  blk_point [iblk, V, idx t]

/-- A point's norm gain: all of it. -/
theorem g_at (t : Fin cfg0.N) (k : Fin 1024) : (iblk m c 2 t : Vec Ideal S1x1024 .f32) (ix2 0 k) = argG m c k := by
  unfold argG
  blk_simp [iblk]
  entry_read
  pointwise
  blk_ext [idx t]

/-- A point's query gain: all of it. -/
theorem qg_at (t : Fin cfg0.N) (k : Fin 128) : (iblk m c 7 t : Vec Ideal S1x128 .f32) (ix2 0 k) = argQ m c k := by
  unfold argQ
  blk_simp [iblk]
  entry_read
  pointwise
  blk_ext [idx t]

/-- A point's key gain: all of it. -/
theorem kg_at (t : Fin cfg0.N) (k : Fin 128) : (iblk m c 8 t : Vec Ideal S1x128 .f32) (ix2 0 k) = argK m c k := by
  unfold argK
  blk_simp [iblk]
  entry_read
  pointwise
  blk_ext [idx t]

/-- A point's first weights: the first 2304 columns. -/
theorem w_at (t : Fin cfg0.N) (k : Fin 1024) (j : Fin 2304) : (iblk m c 4 t : Vec Ideal S1024x2304 .bf16) (ix2 k j) = argW m c k ⟨j.val, by omega⟩ := by
  unfold argW
  blk_simp [iblk]
  entry_read
  pointwise
  blk_ext [idx t]

/-- A point's last weights: the last 1536 columns. -/
theorem wq_at (t : Fin cfg0.N) (k : Fin 1024) (j : Fin 1536) :
    (iblk m c 6 t : Vec Ideal S1024x1536 .bf16) (ix2 k j) = argW m c k ⟨2336 + j.val, by omega⟩ := by
  unfold argW
  blk_simp [iblk]
  entry_read
  pointwise
  blk_ext [idx t]

/-- The cosines' table as the host lays it out. -/
def cosTab (x : FVec Ideal S8192x64 .f32) : FVec Ideal S8448x128 .f32 :=
  concatenate S8448x128 0 [⟨S256x128, broadcastInDim S256x128 ![] bcast_S_S256x128 (constant S_ .f32 0x3F800000#32)⟩,
    ⟨S8192x128, concatenate S8192x128 1 [⟨S8192x64, x⟩, ⟨S8192x64, x⟩] concatenates_S8192x64_S8192x64_S8192x128_d1⟩] concatenates_S256x128_S8192x128_S8448x128_d0

/-- The sines' table as the host lays it out. -/
def sinTab (x : FVec Ideal S8192x64 .f32) : FVec Ideal S8448x128 .f32 :=
  concatenate S8448x128 0 [⟨S256x128, broadcastInDim S256x128 ![] bcast_S_S256x128 (constant S_ .f32 0x00000000#32)⟩,
    ⟨S8192x128, concatenate S8192x128 1 [⟨S8192x64, Host.negf x⟩, ⟨S8192x64, x⟩] concatenates_S8192x64_S8192x64_S8192x128_d1⟩] concatenates_S256x128_S8192x128_S8448x128_d0

/-- The zeros between the step sizes' columns. -/
def zeros : FVec Ideal S1024x112 .f32 := broadcastInDim S1024x112 ![] bcast_S_S1024x112 (constant S_ .f32 0x00000000#32)

/-- The step sizes' weights as the host lays them out. -/
def dtTab (x : FVec Ideal S1024x3872 .f32) : FVec Ideal S1024x256 .bf16 :=
  truncf .bf16 (concatenate S1024x256 1 [⟨S1024x16, extractStridedSlice S1024x16 ![0, 2304] x slices_S1024x3872_S1024x16_0_2304⟩, ⟨S1024x112, zeros⟩,
    ⟨S1024x16, extractStridedSlice S1024x16 ![0, 2320] x slices_S1024x3872_S1024x16_0_2320⟩, ⟨S1024x112, zeros⟩]
    concatenates_S1024x16_S1024x112_S1024x16_S1024x112_S1024x256_d1) bitsLt_bf16_f32

/-- An entry of the cosines' table. -/
theorem cosTab_at (x : FVec Ideal S8192x64 .f32) (q : Fin 8448) (d : Fin 128) : cosTab x (ix2 q d) = Inproj.cosT (fun q d => x (ix2 q d)) q d := by
  have hd := d.isLt
  pointwise [cosTab]
  unfold Inproj.cosT
  by_cases hq : q.val < 256
  · rw [dif_pos hq, if_pos hq]
  · rw [dif_neg hq, if_neg hq]
    by_cases h : d.val < 64
    · rw [dif_pos h]
      exact congrArg (fun z => x (ix2 _ z)) (Fin.ext (by dsimp only; omega))
    · rw [dif_neg h]
      exact congrArg (fun z => x (ix2 _ z)) (Fin.ext (by dsimp only; omega))

/-- An entry of the sines' table. -/
theorem sinTab_at (x : FVec Ideal S8192x64 .f32) (q : Fin 8448) (d : Fin 128) : sinTab x (ix2 q d) = Inproj.sinT (fun q d => x (ix2 q d)) q d := by
  have hd := d.isLt
  pointwise [sinTab]
  unfold Inproj.sinT
  by_cases hq : q.val < 256
  · rw [dif_pos hq, if_pos hq]
  · rw [dif_neg hq, if_neg hq]
    by_cases h : d.val < 64
    · rw [dif_pos h, if_pos h]
      exact congrArg (fun z => -(x (ix2 _ z) : EReal)) (Fin.ext (by dsimp only; omega))
    · rw [dif_neg h, if_neg h]
      exact congrArg (fun z => x (ix2 _ z)) (Fin.ext (by dsimp only; omega))

/-- An entry of the step sizes' weights. -/
theorem dtTab_at (x : FVec Ideal S1024x3872 .f32) (k : Fin 1024) (j : Fin 256) :
    dtTab x (ix2 k j) = if j.val % 128 < 16 then x (ix2 k ⟨2304 + (j.val / 128 * 16 + j.val % 128) % 32, by omega⟩) else 0 := by
  have hj := j.isLt
  pointwise [dtTab, zeros]
  by_cases h0 : j.val < 16
  · rw [dif_pos h0]
    refine Eq.trans ?_ (if_pos (by omega)).symm
    exact congrArg (fun z => x (ix2 k z)) (Fin.ext (by dsimp only; omega))
  · rw [dif_neg h0]
    by_cases h1 : j.val - 16 < 112
    · rw [dif_pos h1]
      exact (if_neg (by omega)).symm
    · rw [dif_neg h1]
      by_cases h2 : j.val - 16 - 112 < 16
      · rw [dif_pos h2]
        refine Eq.trans ?_ (if_pos (by omega)).symm
        exact congrArg (fun z => x (ix2 k z)) (Fin.ext (by dsimp only; omega))
      · rw [dif_neg h2]
        exact (if_neg (by omega)).symm

/-- The cosines' table when the grid starts. -/
theorem V_cos : V m c main_v2 = cosTab (m ((c : Thread nD τ).loc main_arg7)) := by
  unfold V
  after_results
  rfl

/-- The sines' table when the grid starts. -/
theorem V_sin : V m c main_v6 = sinTab (m ((c : Thread nD τ).loc main_arg8)) := by
  unfold V
  after_results
  rfl

/-- The step sizes' weights when the grid starts. -/
theorem V_dt : V m c main_v13 = dtTab (m ((c : Thread nD τ).loc main_arg4)) := by
  unfold V
  after_results
  rfl

/-- A point's cosines. -/
theorem cs_at (t : Fin cfg0.N) (r : Fin 256) (d : Fin 128) : (iblk m c 9 t : Vec Ideal S256x128 .f32) (ix2 r d) = Inproj.cosT (argCos m c) (at' t r) d := by
  blk_simp [iblk]
  rw [V_cos]
  refine Eq.trans (congrArg (cosTab _) (?_ : _ = ix2 (at' t r) d)) (cosTab_at _ _ _)
  unfold at'
  blk_ext [idx t]

/-- A point's signed sines. -/
theorem sn_at (t : Fin cfg0.N) (r : Fin 256) (d : Fin 128) : (iblk m c 10 t : Vec Ideal S256x128 .f32) (ix2 r d) = Inproj.sinT (argSin m c) (at' t r) d := by
  blk_simp [iblk]
  rw [V_sin]
  refine Eq.trans (congrArg (sinTab _) (?_ : _ = ix2 (at' t r) d)) (sinTab_at _ _ _)
  unfold at'
  blk_ext [idx t]

/-- A point's step-size weights: two groups of 16 columns, each followed by 112 zeros. -/
theorem wd_at (t : Fin cfg0.N) (k : Fin 1024) (j : Fin 256) : (iblk m c 5 t : Vec Ideal S1024x256 .bf16) (ix2 k j)
    = if j.val % 128 < 16 then argW m c k ⟨2304 + (j.val / 128 * 16 + j.val % 128) % 32, by omega⟩ else 0 := by
  blk_simp [iblk]
  rw [V_dt]
  refine Eq.trans (congrArg (dtTab _) (?_ : _ = ix2 k j)) (dtTab_at _ _ _)
  blk_ext [idx t]

/-- A point's modulated rows. -/
def H (t : Fin cfg0.N) (r : Fin 256) : Fin 1024 → EReal := Inproj.hid (Inproj.rows (argC m c) (argX m c)) (argG m c) (argM m c) (bat t) (at' t r)

/-- They are what the point computes. -/
theorem hrow_eq (t : Fin cfg0.N) (r : Fin 256) : hrow (grid0.coords t) (iblk m c 0 t) (iblk m c 1 t) (iblk m c 2 t) (iblk m c 3 t) r = H m c t r := by
  have hv : (at' t r).val = t.val % 33 * 256 + r.val := rfl
  unfold hrow H Inproj.hid Inproj.rows
  simp only [tile t, c_at, x_at, g_at, m_at]
  by_cases h0 : t.val % 33 = 0
  · have hq : (at' t r).val < 256 := by omega
    have e : (⟨(at' t r).val, hq⟩ : Fin 256) = r := Fin.ext (by dsimp only; omega)
    simp only [if_pos h0, if_pos hq, dif_pos hq, e]
  · have hq : ¬ (at' t r).val < 256 := by omega
    have e : (⟨(at' t r).val - 256, by omega⟩ : Fin 8192) = ⟨(t.val % 33 - 1) * 256 + r.val, by omega⟩ := Fin.ext (by dsimp only; omega)
    simp only [if_neg h0, if_neg hq, dif_neg hq, e]

/-- A point's product. -/
abbrev W (t : Fin cfg0.N) (r : Fin 256) (j : Fin 4096) : EReal :=
  wide (grid0.coords t) (iblk m c 0 t) (iblk m c 1 t) (iblk m c 2 t) (iblk m c 3 t) (iblk m c 4 t) (iblk m c 5 t) (iblk m c 6 t) r j

/-- Its first 2304 columns. -/
theorem wide_lo (t : Fin cfg0.N) (r : Fin 256) (j : Fin 4096) (hj : j.val < 2304) :
    W m c t r j = Inproj.dot (H m c t r) fun k => argW m c k ⟨j.val, by omega⟩ := by
  unfold W wide
  rw [dif_pos hj, hrow_eq]
  simp only [w_at]

/-- Its last 1536 columns. -/
theorem wide_hi (t : Fin cfg0.N) (r : Fin 256) (j : Fin 4096) (hj : 2560 ≤ j.val) :
    W m c t r j = Inproj.dot (H m c t r) fun k => argW m c k ⟨j.val - 224, by omega⟩ := by
  unfold W wide
  rw [dif_neg (by omega), dif_neg (by omega), hrow_eq]
  simp only [wq_at]
  have e : ∀ h, (⟨2336 + (j.val - 2304 - 256), h⟩ : Fin 3872) = ⟨j.val - 224, by omega⟩ := fun _ => Fin.ext (by dsimp only; omega)
  simp only [e]

/-- Its step-size columns: the groups' first 16, and zeros. -/
theorem wide_dt (t : Fin cfg0.N) (r : Fin 256) (j : Fin 256) : W m c t r ⟨2304 + j.val, by omega⟩
    = if j.val % 128 < 16 then Inproj.dot (H m c t r) fun k => argW m c k ⟨2304 + (j.val / 128 * 16 + j.val % 128) % 32, by omega⟩ else 0 := by
  have e : (⟨2304 + j.val - 2304, by omega⟩ : Fin 256) = j := Fin.ext (by dsimp only; omega)
  unfold W wide
  rw [dif_neg (by dsimp only; omega), dif_pos (by dsimp only; omega), hrow_eq]
  simp only [e, wd_at]
  by_cases h : j.val % 128 < 16
  · simp only [if_pos h]
  · simp only [if_neg h]
    unfold Inproj.dot
    simp only [mul_zero, Finset.sum_const_zero]

end Cert.Kernel3Ideal.Out

end
-- ==== Proof.InprojKernel.lean ====
/- The arrays the even layer's input projection leaves. -/
module

public import proofs.«01_k».proof.Proof.InprojBlocks

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The modulated row of an entry. -/
def R (b : Fin 2) (q : Fin 8448) : Fin 1024 → EReal := Inproj.hid (Inproj.rows (argC m c) (argX m c)) (argG m c) (argM m c) b q

/-- A function of batch, row and column at equal places. -/
theorem same {n : ℕ} (f : Fin 2 → Fin 8448 → Fin n → EReal) (b b' : Fin 2) (q q' : Fin 8448) (j j' : Fin n) (h0 : b.val = b'.val) (h1 : q.val = q'.val)
    (h2 : j.val = j'.val) : f b q j = f b' q' j' := by
  rw [Fin.ext h0, Fin.ext h1, Fin.ext h2]

/-- THE GATE is the first 1024 columns. -/
theorem final_z : (dats m 0 c).arrAt 11 cfg0.N = fun y => (fun b q j => Inproj.gate (R m c b q) (argW m c) j : Fin 2 → Fin 8448 → Fin 1024 → EReal) (y 0) (y 1) (y 2) := by
  refine (dats m 0 c).arrAt_eq_of_covers 11 _ (by decide +kernel) fun t hf y => ?_
  rw [after0_11]
  blk_simp
  idx_vars y
  obtain rfl : y0 = 0 := Subsingleton.elim _ _
  refine Eq.trans ?_ (same (fun b q j => Inproj.gate (R m c b q) (argW m c) j : Fin 2 → Fin 8448 → Fin 1024 → EReal) (bat t) _ (at' t y1) _ y2 _ ?_ ?_ ?_)
  · rw [z_at]
    exact wide_lo m c t y1 _ (by dsimp only; omega)
  · unfold bat
    blk_simp [idx t]
    rfl
  · unfold at'
    blk_simp [idx t] <;> try omega
  · blk_simp [idx t] <;> try omega

/-- THE RECURRENCE'S INPUT is the next 1280 columns. -/
theorem final_xbc : (dats m 0 c).arrAt 12 cfg0.N = fun y => (fun b q j => Inproj.mixed (R m c b q) (argW m c) j : Fin 2 → Fin 8448 → Fin 1280 → EReal) (y 0) (y 1) (y 2) := by
  refine (dats m 0 c).arrAt_eq_of_covers 12 _ (by decide +kernel) fun t hf y => ?_
  rw [after0_12]
  blk_simp
  idx_vars y
  obtain rfl : y0 = 0 := Subsingleton.elim _ _
  refine Eq.trans ?_ (same (fun b q j => Inproj.mixed (R m c b q) (argW m c) j : Fin 2 → Fin 8448 → Fin 1280 → EReal) (bat t) _ (at' t y1) _ y2 _ ?_ ?_ ?_)
  · rw [xbc_at]
    exact wide_lo m c t y1 _ (by dsimp only; omega)
  · unfold bat
    blk_simp [idx t]
    rfl
  · unfold at'
    blk_simp [idx t] <;> try omega
  · blk_simp [idx t] <;> try omega

/-- THE STEP SIZES are the next columns, each direction's 16 among zeros. -/
theorem final_dt : (dats m 0 c).arrAt 13 cfg0.N = fun y => (fun b q j => Inproj.steps (R m c b q) (argW m c) j : Fin 2 → Fin 8448 → Fin 256 → EReal) (y 0) (y 1) (y 2) := by
  refine (dats m 0 c).arrAt_eq_of_covers 13 _ (by decide +kernel) fun t hf y => ?_
  rw [after0_13]
  blk_simp
  idx_vars y
  obtain rfl : y0 = 0 := Subsingleton.elim _ _
  refine Eq.trans ?_ (same (fun b q j => Inproj.steps (R m c b q) (argW m c) j : Fin 2 → Fin 8448 → Fin 256 → EReal) (bat t) _ (at' t y1) _ y2 _ ?_ ?_ ?_)
  · rw [dt_at]
    exact wide_dt m c t y1 y2
  · unfold bat
    blk_simp [idx t]
    rfl
  · unfold at'
    blk_simp [idx t] <;> try omega
  · blk_simp [idx t] <;> try omega

/-- THE VALUES are the last columns. -/
theorem final_v : (dats m 0 c).arrAt 16 cfg0.N = fun y => (fun b q j => Inproj.value (R m c b q) (argW m c) j : Fin 2 → Fin 8448 → Fin 256 → EReal) (y 0) (y 1) (y 2) := by
  refine (dats m 0 c).arrAt_eq_of_covers 16 _ (by decide +kernel) fun t hf y => ?_
  rw [after0_16]
  blk_simp
  idx_vars y
  obtain rfl : y0 = 0 := Subsingleton.elim _ _
  refine Eq.trans ?_ (same (fun b q j => Inproj.value (R m c b q) (argW m c) j : Fin 2 → Fin 8448 → Fin 256 → EReal) (bat t) _ (at' t y1) _ y2 _ ?_ ?_ ?_)
  · rw [v_at]
    refine (wide_hi m c t y1 _ (by dsimp only; omega)).trans (congrArg (Inproj.dot _) (funext fun k => congrArg (argW m c k) (Fin.ext ?_)))
    dsimp only
    omega
  · unfold bat
    blk_simp [idx t]
    rfl
  · unfold at'
    blk_simp [idx t] <;> try omega
  · blk_simp [idx t] <;> try omega

/-- THE QUERIES are their heads, normed, rotated and scaled. -/
theorem final_q : (dats m 0 c).arrAt 14 cfg0.N = fun y => (fun b q j => Inproj.scaled (Inproj.query (argCos m c) (argSin m c) q (argQ m c) (R m c b q) (argW m c) j) : Fin 2 → Fin 8448 → Fin 1024 → EReal) (y 0) (y 1) (y 2) := by
  refine (dats m 0 c).arrAt_eq_of_covers 14 _ (by decide +kernel) fun t hf y => ?_
  rw [after0_14]
  blk_simp
  idx_vars y
  obtain rfl : y0 = 0 := Subsingleton.elim _ _
  refine Eq.trans ?_ (same (fun b q j => Inproj.scaled (Inproj.query (argCos m c) (argSin m c) q (argQ m c) (R m c b q) (argW m c) j) : Fin 2 → Fin 8448 → Fin 1024 → EReal) (bat t) _ (at' t y1) _ y2 _ ?_ ?_ ?_)
  · have hy : y2 = ⟨(⟨y2.val / 128, by omega⟩ : Fin 8).val * 128 + (⟨y2.val % 128, by omega⟩ : Fin 128).val, by dsimp only; omega⟩ := Fin.ext (by dsimp only; omega)
    refine (congrArg (fun z => out0_14 _ _ _ _ _ _ _ _ _ _ _ _ (ix3 0 y1 z)) hy).trans ((q_at _ _ _ _ _ _ _ _ _ _ _ _ y1 _ _).trans (congrArg Inproj.scaled ?_))
    unfold Inproj.query turned
    rw [← Inproj.turn_eq]
    simp only [cs_at, sn_at, qg_at, wide_at]
    refine congrArg (fun f => Inproj.turn _ _ (Inproj.head _ f) _) (funext fun d => ?_)
    refine (wide_hi m c t y1 _ (by dsimp only; omega)).trans (congrArg (Inproj.dot _) (funext fun k => congrArg (argW m c k) (Fin.ext ?_)))
    dsimp only
    omega
  · unfold bat
    blk_simp [idx t]
    rfl
  · unfold at'
    blk_simp [idx t] <;> try omega
  · blk_simp [idx t] <;> try omega

/-- THE KEYS are their heads, normed and rotated. -/
theorem final_k : (dats m 0 c).arrAt 15 cfg0.N = fun y => (fun b q j => Inproj.key (argCos m c) (argSin m c) q (argK m c) (R m c b q) (argW m c) j : Fin 2 → Fin 8448 → Fin 256 → EReal) (y 0) (y 1) (y 2) := by
  refine (dats m 0 c).arrAt_eq_of_covers 15 _ (by decide +kernel) fun t hf y => ?_
  rw [after0_15]
  blk_simp
  idx_vars y
  obtain rfl : y0 = 0 := Subsingleton.elim _ _
  refine Eq.trans ?_ (same (fun b q j => Inproj.key (argCos m c) (argSin m c) q (argK m c) (R m c b q) (argW m c) j : Fin 2 → Fin 8448 → Fin 256 → EReal) (bat t) _ (at' t y1) _ y2 _ ?_ ?_ ?_)
  · have hy : y2 = ⟨(⟨y2.val / 128, by omega⟩ : Fin 2).val * 128 + (⟨y2.val % 128, by omega⟩ : Fin 128).val, by dsimp only; omega⟩ := Fin.ext (by dsimp only; omega)
    refine (congrArg (fun z => out0_15 _ _ _ _ _ _ _ _ _ _ _ _ (ix3 0 y1 z)) hy).trans ((k_at _ _ _ _ _ _ _ _ _ _ _ _ y1 _ _).trans ?_)
    unfold Inproj.key turned
    rw [← Inproj.turn_eq]
    simp only [cs_at, sn_at, kg_at, wide_at]
    refine congrArg (fun f => Inproj.turn _ _ (Inproj.head _ f) _) (funext fun d => ?_)
    refine (wide_hi m c t y1 _ (by dsimp only; omega)).trans (congrArg (Inproj.dot _) (funext fun k => congrArg (argW m c k) (Fin.ext ?_)))
    dsimp only
    omega
  · unfold bat
    blk_simp [idx t]
    rfl
  · unfold at'
    blk_simp [idx t] <;> try omega
  · blk_simp [idx t] <;> try omega

end Cert.Kernel3Ideal.Out

end
-- ==== Proof.InprojRef.lean ====
/- The even layer's input projection as the reference computes it, read at an entry. -/
module

public import proofs.«01_k».proof.Proof.Gen.Reference3Ideal.Run
public import Idealize.ShloMosaic.Lib.Pointwise
public import proofs.«01_k».proof.Proof.Inproj

@[expose] public section

set_option maxRecDepth 16384

noncomputable section

namespace Cert.Reference3Ideal.Term

open Cert.Reference3Ideal Cert.Reference3Ideal.Gen Cert.Reference3Ideal.Value Idealize.ShloMosaic Idealize.ShloMosaic.TcCoe Idealize.SL.Sem

variable (V0 : Valuation τ sig (Elt Ideal))

/-- The context. -/
def argC : Fin 2 → Fin 256 → Fin 1024 → EReal := fun b q j => V0 (Proc.devRef .tc main_arg0) (ix3 b q j)
/-- The latents. -/
def argX : Fin 2 → Fin 8192 → Fin 1024 → EReal := fun b q j => V0 (Proc.devRef .tc main_arg1) (ix3 b q j)
/-- The norm's gain. -/
def argG : Fin 1024 → EReal := fun k => V0 (Proc.devRef .tc main_arg2) (ix1 k)
/-- The modulation. -/
def argM : Fin 2 → Fin 2 → Fin 6 → Fin 1024 → EReal := fun b s i j => V0 (Proc.devRef .tc main_arg3) (ix4 b s i j)
/-- The weights. -/
def argW : Fin 1024 → Fin 3872 → EReal := fun k j => V0 (Proc.devRef .tc main_arg4) (ix2 k j)
/-- The queries' gain. -/
def argQ : Fin 128 → EReal := fun k => V0 (Proc.devRef .tc main_arg5) (ix1 k)
/-- The keys' gain. -/
def argK : Fin 128 → EReal := fun k => V0 (Proc.devRef .tc main_arg6) (ix1 k)
/-- The cosines. -/
def argCos : Fin 8192 → Fin 64 → EReal := fun q d => V0 (Proc.devRef .tc main_arg7) (ix2 q d)
/-- The sines. -/
def argSin : Fin 8192 → Fin 64 → EReal := fun q d => V0 (Proc.devRef .tc main_arg8) (ix2 q d)

/-- The modulated row of an entry. -/
def R (b : Fin 2) (q : Fin 8448) : Fin 1024 → EReal := Inproj.hid (Inproj.rows (argC V0) (argX V0)) (argG V0) (argM V0) b q

/-- A context row's product with the weights. -/
theorem ctx_at (b : Fin 2) (q : Fin 8448) (hq : q.val < 256) (j : Fin 3872) :
    (res_main_v50 V0 : FVec Ideal S2x256x3872 .f32) (ix3 b ⟨q.val, hq⟩ j) = Inproj.dot (R V0 b q) fun k => argW V0 k j := by
  unfold R Inproj.hid Inproj.rows
  simp only [if_pos hq, dif_pos hq]
  pointwise [res_main_v50]
  rfl

/-- A latent row's product with the weights. -/
theorem lat_at (b : Fin 2) (q : Fin 8448) (hq : ¬ q.val < 256) (j : Fin 3872) :
    (res_main_v99 V0 : FVec Ideal S2x8192x3872 .f32) (ix3 b ⟨q.val - 256, by omega⟩ j) = Inproj.dot (R V0 b q) fun k => argW V0 k j := by
  unfold R Inproj.hid Inproj.rows
  simp only [if_neg hq, dif_neg hq]
  pointwise [res_main_v99]
  rfl

/-- The gate. -/
theorem z_at (b : Fin 2) (q : Fin 8448) (j : Fin 1024) :
    (val4 V0 (Proc.devRef .tc main_v178) : FVec Ideal S2x8448x1024 .f32) (ix3 b q j) = Inproj.gate (R V0 b q) (argW V0) j := by
  rw [val4_main_v178]
  pointwise
  by_cases hq : q.val < 256
  · rw [dif_pos hq]
    exact ctx_at V0 b q hq _
  · rw [dif_neg hq]
    exact lat_at V0 b q hq _

/-- The recurrence's input. -/
theorem xbc_at (b : Fin 2) (q : Fin 8448) (j : Fin 1280) :
    (val4 V0 (Proc.devRef .tc main_v179) : FVec Ideal S2x8448x1280 .f32) (ix3 b q j) = Inproj.mixed (R V0 b q) (argW V0) j := by
  rw [val4_main_v179]
  pointwise
  by_cases hq : q.val < 256
  · rw [dif_pos hq]
    exact ctx_at V0 b q hq _
  · rw [dif_neg hq]
    exact lat_at V0 b q hq _

/-- The values. -/
theorem v_at (b : Fin 2) (q : Fin 8448) (j : Fin 256) :
    (val4 V0 (Proc.devRef .tc main_v183) : FVec Ideal S2x8448x256 .bf16) (ix3 b q j) = Inproj.value (R V0 b q) (argW V0) j := by
  rw [val4_main_v183]
  pointwise
  by_cases hq : q.val < 256
  · rw [dif_pos hq]
    exact ctx_at V0 b q hq _
  · rw [dif_neg hq]
    exact lat_at V0 b q hq _

/-- The padding's zero. -/
theorem sitofp_zero : (FloatOps.sitofp .f32 (0#32 : BitVec 32) : Ideal .f32) = (0 : EReal) := by
  show (((0#32 : BitVec 32).toInt : ℝ) : EReal) = 0
  simp

/-- The step sizes. -/
theorem dt_at (b : Fin 2) (q : Fin 8448) (j : Fin 256) :
    (val4 V0 (Proc.devRef .tc main_v180) : FVec Ideal S2x8448x256 .f32) (ix3 b q j) = Inproj.steps (R V0 b q) (argW V0) j := by
  rw [val4_main_v180]
  pointwise
  by_cases hq : q.val < 256
  · rw [dif_pos hq]
    unfold Inproj.steps
    by_cases h : j.val % 128 < 16
    · rw [dif_pos ⟨hq, by omega, h⟩]
      refine Eq.trans ?_ (if_pos h).symm
      exact (ctx_at V0 b q hq _).trans (congrArg (Inproj.dot _) (funext fun k => congrArg (argW V0 k) (Fin.ext (by dsimp only; omega))))
    · rw [dif_neg (fun e => h e.2.2)]
      exact sitofp_zero.trans (if_neg h).symm
  · rw [dif_neg hq]
    unfold Inproj.steps
    by_cases h : j.val % 128 < 16
    · rw [dif_pos ⟨by omega, by omega, h⟩]
      refine Eq.trans ?_ (if_pos h).symm
      exact (lat_at V0 b q hq _).trans (congrArg (Inproj.dot _) (funext fun k => congrArg (argW V0 k) (Fin.ext (by dsimp only; omega))))
    · rw [dif_neg (fun e => h e.2.2)]
      exact sitofp_zero.trans (if_neg h).symm

/-- A latent row's query head, normed. -/
theorem qlat_at (b : Fin 2) (q : Fin 8448) (hq : ¬ q.val < 256) (h : Fin 8) (d : Fin 128) :
    (res_main_v119 V0 : FVec Ideal S2x8192x8x128 .f32) (ix4 b ⟨q.val - 256, by omega⟩ h d)
      = Inproj.head (argQ V0) (fun d => Inproj.dot (R V0 b q) fun k => argW V0 k ⟨2336 + (h.val * 128 + d.val), by omega⟩) d := by
  have e := fun j => lat_at V0 b q hq j
  pointwise [res_main_v119, res_main_v106]
  simp only [e]
  rfl

/-- The queries. -/
theorem q_at (b : Fin 2) (q : Fin 8448) (j : Fin 1024) : (val4 V0 (Proc.devRef .tc main_v181) : FVec Ideal S2x8448x1024 .bf16) (ix3 b q j)
    = Inproj.scaled (Inproj.query (argCos V0) (argSin V0) q (argQ V0) (R V0 b q) (argW V0) j) := by
  have hj := j.isLt
  rw [val4_main_v181]
  pointwise [res_main_v57, res_main_v134, res_main_v135, res_main_v136, res_main_v137]
  unfold Inproj.query
  by_cases hq : q.val < 256
  · refine (dif_pos hq).trans (Eq.trans ?_ (congrArg Inproj.scaled (Inproj.rope_ctx _ _ _ _ _ hq)).symm)
    have e := fun j => ctx_at V0 b q hq j
    have ej : ∀ h, (⟨2336 + j.val, h⟩ : Fin 3872) = ⟨2336 + (j.val / 128 * 128 + j.val % 128), by omega⟩ := fun _ => Fin.ext (by dsimp only; omega)
    simp only [ej, e]
    rfl
  · refine (dif_neg hq).trans ?_
    have e := fun h d => qlat_at V0 b q hq h d
    simp only [e]
    by_cases h : j.val % 128 < 64
    · refine (congrArg Inproj.scaled (dif_pos h)).trans (Eq.trans ?_ (congrArg Inproj.scaled (Inproj.rope_lo _ _ _ _ _ hq h)).symm)
      rfl
    · refine (congrArg Inproj.scaled (dif_neg h)).trans (Eq.trans ?_ (congrArg Inproj.scaled (Inproj.rope_hi _ _ _ _ _ hq h)).symm)
      have e2 : ∀ h, (⟨64 + (j.val % 128 - 64), h⟩ : Fin 128) = ⟨j.val % 128, by omega⟩ := fun _ => Fin.ext (by dsimp only; omega)
      simp only [e2]
      rfl

/-- A latent row's key head, normed. -/
theorem klat_at (b : Fin 2) (q : Fin 8448) (hq : ¬ q.val < 256) (h : Fin 2) (d : Fin 128) :
    (res_main_v133 V0 : FVec Ideal S2x8192x2x128 .f32) (ix4 b ⟨q.val - 256, by omega⟩ h d)
      = Inproj.head (argK V0) (fun d => Inproj.dot (R V0 b q) fun k => argW V0 k ⟨3360 + (h.val * 128 + d.val), by omega⟩) d := by
  have e := fun j => lat_at V0 b q hq j
  pointwise [res_main_v133, res_main_v120]
  simp only [e]
  rfl

/-- The keys. -/
theorem k_at (b : Fin 2) (q : Fin 8448) (j : Fin 256) : (val4 V0 (Proc.devRef .tc main_v182) : FVec Ideal S2x8448x256 .bf16) (ix3 b q j)
    = Inproj.key (argCos V0) (argSin V0) q (argK V0) (R V0 b q) (argW V0) j := by
  have hj := j.isLt
  rw [val4_main_v182]
  pointwise [res_main_v71, res_main_v149, res_main_v150, res_main_v151, res_main_v152]
  unfold Inproj.key
  by_cases hq : q.val < 256
  · refine (dif_pos hq).trans (Eq.trans ?_ (Inproj.rope_ctx _ _ _ _ _ hq).symm)
    have e := fun j => ctx_at V0 b q hq j
    have ej : ∀ h, (⟨3360 + j.val, h⟩ : Fin 3872) = ⟨3360 + (j.val / 128 * 128 + j.val % 128), by omega⟩ := fun _ => Fin.ext (by dsimp only; omega)
    simp only [ej, e]
    rfl
  · refine (dif_neg hq).trans ?_
    have e := fun h d => klat_at V0 b q hq h d
    simp only [e]
    by_cases h : j.val % 128 < 64
    · refine (dif_pos h).trans (Eq.trans ?_ (Inproj.rope_lo _ _ _ _ _ hq h).symm)
      rfl
    · refine (dif_neg h).trans (Eq.trans ?_ (Inproj.rope_hi _ _ _ _ _ hq h).symm)
      have e2 : ∀ h, (⟨64 + (j.val % 128 - 64), h⟩ : Fin 128) = ⟨j.val % 128, by omega⟩ := fun _ => Fin.ext (by dsimp only; omega)
      simp only [e2]
      rfl

end Cert.Reference3Ideal.Term

end
-- ==== Proof.InprojEqual.lean ====
/- The even layer's input projection: the reference's results are the kernel's. -/
module

public import proofs.«01_k».proof.Proof.InprojKernel
public import proofs.«01_k».proof.Proof.InprojRef

@[expose] public section

set_option maxRecDepth 16384

noncomputable section

namespace Cert.Inproj

open Idealize.ShloMosaic Idealize.ShloMosaic.TcCoe Idealize.SL.Sem Idealize.ShloMosaic.StableHlo

/-- The two programs' arguments are equal. -/
def Agree (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
  ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
  ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
  ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
  ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
  ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
  ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)

variable (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
  (h : Agree m m' c)

include h

/-- The arguments as functions are equal. -/
theorem args_eq : Cert.Reference3Ideal.Term.argC (launchContents m' c) = Cert.Kernel3Ideal.Out.argC m c ∧ Cert.Reference3Ideal.Term.argX (launchContents m' c) = Cert.Kernel3Ideal.Out.argX m c ∧ Cert.Reference3Ideal.Term.argG (launchContents m' c) = Cert.Kernel3Ideal.Out.argG m c ∧ Cert.Reference3Ideal.Term.argM (launchContents m' c) = Cert.Kernel3Ideal.Out.argM m c ∧ Cert.Reference3Ideal.Term.argW (launchContents m' c) = Cert.Kernel3Ideal.Out.argW m c ∧ Cert.Reference3Ideal.Term.argQ (launchContents m' c) = Cert.Kernel3Ideal.Out.argQ m c ∧ Cert.Reference3Ideal.Term.argK (launchContents m' c) = Cert.Kernel3Ideal.Out.argK m c ∧ Cert.Reference3Ideal.Term.argCos (launchContents m' c) = Cert.Kernel3Ideal.Out.argCos m c ∧ Cert.Reference3Ideal.Term.argSin (launchContents m' c) = Cert.Kernel3Ideal.Out.argSin m c := by
  obtain ⟨h0, h1, h2, h3, h4, h5, h6, h7, h8⟩ := h
  refine ⟨?_, ?_, ?_, ?_, ?_, ?_, ?_, ?_, ?_⟩
  · funext a b e
    exact congrFun h0 (ix3 a b e)
  · funext a b e
    exact congrFun h1 (ix3 a b e)
  · funext a
    exact congrFun h2 (ix1 a)
  · funext a b e d
    exact congrFun h3 (ix4 a b e d)
  · funext a b
    exact congrFun h4 (ix2 a b)
  · funext a
    exact congrFun h5 (ix1 a)
  · funext a
    exact congrFun h6 (ix1 a)
  · funext a b
    exact congrFun h7 (ix2 a b)
  · funext a b
    exact congrFun h8 (ix2 a b)

/-- The modulated rows are equal. -/
theorem rows_eq : Cert.Reference3Ideal.Term.R (launchContents m' c) = Cert.Kernel3Ideal.Out.R m c := by
  obtain ⟨e0, e1, e2, e3, -⟩ := args_eq m m' c h
  unfold Cert.Reference3Ideal.Term.R Cert.Kernel3Ideal.Out.R
  rw [e0, e1, e2, e3]

/-- The gates are equal. -/
theorem z_eq : Cert.Reference3Ideal.Value.val4 (launchContents m' c) (Proc.devRef .tc Cert.Reference3Ideal.main_v178) = (Cert.Kernel3Ideal.Gen.dats m 0 c).arrAt 11 Cert.Kernel3Ideal.cfg0.N := by
  obtain ⟨-, -, -, -, e4, e5, e6, e7, e8⟩ := args_eq m m' c h
  have er := rows_eq m m' c h
  rw [Cert.Kernel3Ideal.Out.final_z m c]
  funext y
  idx_vars y
  refine (Cert.Reference3Ideal.Term.z_at (launchContents m' c) y0 y1 y2).trans ?_
  rw [er, e4]

/-- The recurrence's inputs are equal. -/
theorem xbc_eq : Cert.Reference3Ideal.Value.val4 (launchContents m' c) (Proc.devRef .tc Cert.Reference3Ideal.main_v179) = (Cert.Kernel3Ideal.Gen.dats m 0 c).arrAt 12 Cert.Kernel3Ideal.cfg0.N := by
  obtain ⟨-, -, -, -, e4, e5, e6, e7, e8⟩ := args_eq m m' c h
  have er := rows_eq m m' c h
  rw [Cert.Kernel3Ideal.Out.final_xbc m c]
  funext y
  idx_vars y
  refine (Cert.Reference3Ideal.Term.xbc_at (launchContents m' c) y0 y1 y2).trans ?_
  rw [er, e4]

/-- The step sizes are equal. -/
theorem dt_eq : Cert.Reference3Ideal.Value.val4 (launchContents m' c) (Proc.devRef .tc Cert.Reference3Ideal.main_v180) = (Cert.Kernel3Ideal.Gen.dats m 0 c).arrAt 13 Cert.Kernel3Ideal.cfg0.N := by
  obtain ⟨-, -, -, -, e4, e5, e6, e7, e8⟩ := args_eq m m' c h
  have er := rows_eq m m' c h
  rw [Cert.Kernel3Ideal.Out.final_dt m c]
  funext y
  idx_vars y
  refine (Cert.Reference3Ideal.Term.dt_at (launchContents m' c) y0 y1 y2).trans ?_
  rw [er, e4]

/-- The queries are equal. -/
theorem q_eq : Cert.Reference3Ideal.Value.val4 (launchContents m' c) (Proc.devRef .tc Cert.Reference3Ideal.main_v181) = (Cert.Kernel3Ideal.Gen.dats m 0 c).arrAt 14 Cert.Kernel3Ideal.cfg0.N := by
  obtain ⟨-, -, -, -, e4, e5, e6, e7, e8⟩ := args_eq m m' c h
  have er := rows_eq m m' c h
  rw [Cert.Kernel3Ideal.Out.final_q m c]
  funext y
  idx_vars y
  refine (Cert.Reference3Ideal.Term.q_at (launchContents m' c) y0 y1 y2).trans ?_
  rw [er, e4, e5, e7, e8]

/-- The keys are equal. -/
theorem k_eq : Cert.Reference3Ideal.Value.val4 (launchContents m' c) (Proc.devRef .tc Cert.Reference3Ideal.main_v182) = (Cert.Kernel3Ideal.Gen.dats m 0 c).arrAt 15 Cert.Kernel3Ideal.cfg0.N := by
  obtain ⟨-, -, -, -, e4, e5, e6, e7, e8⟩ := args_eq m m' c h
  have er := rows_eq m m' c h
  rw [Cert.Kernel3Ideal.Out.final_k m c]
  funext y
  idx_vars y
  refine (Cert.Reference3Ideal.Term.k_at (launchContents m' c) y0 y1 y2).trans ?_
  rw [er, e4, e6, e7, e8]

/-- The values are equal. -/
theorem v_eq : Cert.Reference3Ideal.Value.val4 (launchContents m' c) (Proc.devRef .tc Cert.Reference3Ideal.main_v183) = (Cert.Kernel3Ideal.Gen.dats m 0 c).arrAt 16 Cert.Kernel3Ideal.cfg0.N := by
  obtain ⟨-, -, -, -, e4, e5, e6, e7, e8⟩ := args_eq m m' c h
  have er := rows_eq m m' c h
  rw [Cert.Kernel3Ideal.Out.final_v m c]
  funext y
  idx_vars y
  refine (Cert.Reference3Ideal.Term.v_at (launchContents m' c) y0 y1 y2).trans ?_
  rw [er, e4]

end Cert.Inproj

end
-- ==== Proof.OddMath.lean ====
/- The mathematics of the odd layer's input projection: one product, split, with the queries' and keys' rotation and the queries' scale. -/
module

public import proofs.«01_k».proof.Proof.Inproj

@[expose] public section

noncomputable section

namespace Cert.Inproj.Odd

open Idealize.ShloMosaic Cert.Inproj

/-- The product's columns from `o` on, from a row. -/
def cut (h : Fin 1024 → EReal) (W : Fin 1024 → Fin 3584 → EReal) (o : ℕ) {n : ℕ} (ho : o + n ≤ 3584) (j : Fin n) : EReal :=
  dot h fun k => W k ⟨o + j.val, by omega⟩

/-- A gate's entry: the first 1024 columns. -/
def gate (h : Fin 1024 → EReal) (W : Fin 1024 → Fin 3584 → EReal) (j : Fin 1024) : EReal := cut h W 0 (by norm_num) j

/-- An entry of the recurrence's input: the next 1024 columns. -/
def mixed (h : Fin 1024 → EReal) (W : Fin 1024 → Fin 3584 → EReal) (j : Fin 1024) : EReal := cut h W 1024 (by norm_num) j

/-- A value's entry: the last 256 columns. -/
def value (h : Fin 1024 → EReal) (W : Fin 1024 → Fin 3584 → EReal) (j : Fin 256) : EReal := cut h W 3328 (by norm_num) j

/-- A query's entry before its scale: its head rotated. -/
def query (cos sin : Fin 8192 → Fin 64 → EReal) (q : Fin 8448) (h : Fin 1024 → EReal) (W : Fin 1024 → Fin 3584 → EReal) (j : Fin 1024) : EReal :=
  rope cos sin q (fun d => cut h W (2048 + j.val / 128 * 128) (by omega) d) ⟨j.val % 128, by omega⟩

/-- A key's entry: its head rotated. -/
def key (cos sin : Fin 8192 → Fin 64 → EReal) (q : Fin 8448) (h : Fin 1024 → EReal) (W : Fin 1024 → Fin 3584 → EReal) (j : Fin 256) : EReal :=
  rope cos sin q (fun d => cut h W (3072 + j.val / 128 * 128) (by omega) d) ⟨j.val % 128, by omega⟩

end Cert.Inproj.Odd

end
-- ==== Proof.OddPoint.lean ====
/- What a point of the odd layer's input projection writes, from the blocks it reads. -/
module

public import proofs.«01_k».proof.Proof.Gen.Kernel5Ideal.Value
public import Idealize.ShloMosaic.Lib.Pipeline.ValueKit
public import Idealize.ShloMosaic.Lib.Pointwise
public import proofs.«01_k».proof.Proof.Tile
public import proofs.«01_k».proof.Proof.OddMath

@[expose] public section

set_option maxRecDepth 16384

noncomputable section

namespace Cert.Kernel5Ideal.Out

open Cert.Kernel5Ideal Cert.Kernel5Ideal.Gen Idealize.ShloMosaic Idealize.ShloMosaic.TcCoe Idealize.SL.Sem

/-- The modulated row `r` of a point. -/
def hrow (i : grid0.Coords) (x : Vec Ideal S1x256x1024 .f32) (g : Vec Ideal S1x1024 .f32) (md : Vec Ideal S1x2x6x1024 .f32) (r : Fin 256) :
    Fin 1024 → EReal :=
  Inproj.row (fun k => x (ix3 0 r k)) (fun k => g (ix2 0 k))
    (fun k => if (i 1).val = 0 then md (ix4 0 0 1 k) else md (ix4 0 1 1 k)) (fun k => if (i 1).val = 0 then md (ix4 0 0 0 k) else md (ix4 0 1 0 k))

variable (i : grid0.Coords) (x : Vec Ideal S1x256x1024 .f32) (g : Vec Ideal S1x1024 .f32) (md : Vec Ideal S1x2x6x1024 .f32)
  (w : Vec Ideal S1024x3584 .bf16) (qg kg : Vec Ideal S1x128 .f32) (cs sn : Vec Ideal S256x128 .f32)

/-- The point's product at an entry. -/
theorem wide_at (r : Fin 256) (j : Fin 3584) : k0_pay32 i x g md w qg kg cs sn (ix2 r j) = Inproj.dot (hrow i x g md r) (fun k => w (ix2 k j)) := by
  have hi : (i 1).val < 33 := (i 1).isLt
  pointwise [k0_pay32, k0_pay26, k0_pay27, k0_pay28, k0_pay29, k0_pay30, k0_pay31, k0_pay11, k0_pay5, k0_pay6, k0_pay7, k0_pay8, k0_pay9, k0_pay10]
  simp only [Tile.row_choice _ hi]
  rfl

/-- What a point writes of the gate. -/
theorem z_at (r : Fin 256) (j : Fin 1024) : out0_8 i x g md w qg kg cs sn (ix3 0 r j) = Inproj.Odd.cut (hrow i x g md r) (fun k j => w (ix2 k j)) 0 (by norm_num) j := by
  unfold out0_8
  canon_tiles y h
  idx_vars y
  pointwise [k0_pay12]
  obtain rfl : y1 = r := Fin.ext h1.symm
  obtain rfl : y2 = j := Fin.ext h2.symm
  exact (wide_at i x g md w qg kg cs sn _ _).trans (congrArg (Inproj.dot _) (funext fun k => congrArg (fun z => w (ix2 k z)) (Fin.ext (by dsimp only; omega))))

/-- What a point writes of the recurrence's input. -/
theorem xr_at (r : Fin 256) (j : Fin 1024) : out0_9 i x g md w qg kg cs sn (ix3 0 r j) = Inproj.Odd.cut (hrow i x g md r) (fun k j => w (ix2 k j)) 1024 (by norm_num) j := by
  unfold out0_9
  canon_tiles y h
  idx_vars y
  pointwise [k0_pay13]
  obtain rfl : y1 = r := Fin.ext h1.symm
  obtain rfl : y2 = j := Fin.ext h2.symm
  exact (wide_at i x g md w qg kg cs sn _ _).trans (congrArg (Inproj.dot _) (funext fun k => congrArg (fun z => w (ix2 k z)) (Fin.ext rfl)))

/-- What a point writes of the values. -/
theorem v_at (r : Fin 256) (j : Fin 256) : out0_12 i x g md w qg kg cs sn (ix3 0 r j) = Inproj.Odd.cut (hrow i x g md r) (fun k j => w (ix2 k j)) 3328 (by norm_num) j := by
  unfold out0_12
  canon_tiles y h
  idx_vars y
  pointwise [k0_pay4]
  obtain rfl : y1 = r := Fin.ext h1.symm
  obtain rfl : y2 = j := Fin.ext h2.symm
  exact (wide_at i x g md w qg kg cs sn _ _).trans (congrArg (Inproj.dot _) (funext fun k => congrArg (fun z => w (ix2 k z)) (Fin.ext rfl)))

/-- The scale's value. -/
theorem named_scale : (Named.named κ "scale_log2e" 0x3E0293EE#32 : Ideal .f32) = (((Real.sqrt 128)⁻¹ * (Real.log 2)⁻¹ : ℝ) : EReal) := rfl

/-- A head from column `o` of the point's product, turned. -/
def turned (P : FVec Ideal S256x3584 .f32) (C S : FVec Ideal S256x128 .f32) (r : Fin 256) (o : Fin 3457) (d : Fin 128) : EReal :=
  Inproj.turn (fun d => C (ix2 r d)) (fun d => S (ix2 r d)) (fun d => P (ix2 r ⟨o.val + d.val, by omega⟩)) d

/-- What a point writes of the queries: every head's, from its columns. -/
theorem q_at (r : Fin 256) (h : Fin 8) (d : Fin 128) : out0_10 i x g md w qg kg cs sn (ix3 0 r ⟨h.val * 128 + d.val, by omega⟩)
    = Inproj.scaled (turned (k0_pay32 i x g md w qg kg cs sn) cs sn r ⟨2048 + h.val * 128, by omega⟩ d) := by
  rw [← Inproj.scaled_eq, ← named_scale]
  unfold out0_10
  canon_tiles y e
  all_goals idx_vars y
  all_goals obtain rfl : y1 = r := Fin.ext e1.symm
  all_goals obtain rfl : y2 = d := Fin.ext (by omega)
  · obtain rfl : h = 7 := Fin.ext (by show h.val = 7; omega)
    pointwise [k0_pay1, k0_pay25, k0_pay33, k0_pay34, k0_pay14, k0_pay15]
    rfl
  · obtain rfl : h = 6 := Fin.ext (by show h.val = 6; omega)
    pointwise [k0_pay24, k0_pay33, k0_pay34, k0_pay14, k0_pay15]
    rfl
  · obtain rfl : h = 5 := Fin.ext (by show h.val = 5; omega)
    pointwise [k0_pay23, k0_pay33, k0_pay34, k0_pay14, k0_pay15]
    rfl
  · obtain rfl : h = 4 := Fin.ext (by show h.val = 4; omega)
    pointwise [k0_pay22, k0_pay33, k0_pay34, k0_pay14, k0_pay15]
    rfl
  · obtain rfl : h = 3 := Fin.ext (by show h.val = 3; omega)
    pointwise [k0_pay21, k0_pay20, k0_pay33, k0_pay34, k0_pay14, k0_pay15]
    rfl
  · obtain rfl : h = 2 := Fin.ext (by show h.val = 2; omega)
    pointwise [k0_pay19, k0_pay33, k0_pay34, k0_pay14, k0_pay15]
    rfl
  · obtain rfl : h = 1 := Fin.ext (by show h.val = 1; omega)
    pointwise [k0_pay18, k0_pay33, k0_pay34, k0_pay14, k0_pay15]
    rfl
  · obtain rfl : h = 0 := Fin.ext (by show h.val = 0; omega)
    pointwise [k0_pay17, k0_pay16, k0_pay33, k0_pay34, k0_pay14, k0_pay15]
    rfl

/-- What a point writes of the keys: both heads', from their columns. -/
theorem k_at (r : Fin 256) (h : Fin 2) (d : Fin 128) : out0_11 i x g md w qg kg cs sn (ix3 0 r ⟨h.val * 128 + d.val, by omega⟩)
    = turned (k0_pay32 i x g md w qg kg cs sn) cs sn r ⟨3072 + h.val * 128, by omega⟩ d := by
  unfold out0_11
  canon_tiles y e
  all_goals idx_vars y
  all_goals obtain rfl : y1 = r := Fin.ext e1.symm
  all_goals obtain rfl : y2 = d := Fin.ext (by omega)
  · obtain rfl : h = 1 := Fin.ext (by show h.val = 1; omega)
    pointwise [k0_pay3, k0_pay33, k0_pay34, k0_pay14, k0_pay15]
    rfl
  · obtain rfl : h = 0 := Fin.ext (by show h.val = 0; omega)
    pointwise [k0_pay2, k0_pay33, k0_pay34, k0_pay14, k0_pay15]
    rfl

end Cert.Kernel5Ideal.Out

end
-- ==== Proof.OddBlocks.lean ====
/- The blocks a point of the odd layer's input projection reads, as parts of the arguments. -/
module

public import proofs.«01_k».proof.Proof.OddPoint
public import proofs.«01_k».proof.Proof.InprojBlocks

@[expose] public section

set_option maxRecDepth 16384

noncomputable section

namespace Cert.Kernel5Ideal.Out

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- Which block each window has at a point: the batch is `t / 33`, the tile `t % 33`. -/
theorem idx : ∀ t : Fin cfg0.N, win0_0.index t = ![t.val / 33, t.val % 33, 0] ∧ win0_1.index t = ![0, 0]
    ∧ win0_2.index t = ![t.val / 33, 0, 0, 0] ∧ win0_3.index t = ![0, 0] ∧ win0_6.index t = ![t.val % 33, 0] ∧ win0_7.index t = ![t.val % 33, 0]
    ∧ win0_8.index t = ![t.val / 33, t.val % 33, 0] ∧ win0_9.index t = ![t.val / 33, t.val % 33, 0] ∧ win0_10.index t = ![t.val / 33, t.val % 33, 0]
    ∧ win0_11.index t = ![t.val / 33, t.val % 33, 0] ∧ win0_12.index t = ![t.val / 33, t.val % 33, 0]
    ∧ (grid0.coords t 1).val = t.val % 33 := (by decide +kernel : ∀ t : Fin grid0.N, _)

/-- The tile's coordinate at a point. -/
theorem tile (t : Fin cfg0.N) : (grid0.coords t 1).val = t.val % 33 := (idx t).2.2.2.2.2.2.2.2.2.2.2

/-- The grid has 66 points. -/
theorem lt_N (t : Fin cfg0.N) : t.val < 66 := lt_of_lt_of_eq t.isLt N_0

/-- A point's batch. -/
def bat (t : Fin cfg0.N) : Fin 2 := ⟨t.val / 33, by have := lt_N t; omega⟩
/-- A point's row among all of its batch's. -/
def at' (t : Fin cfg0.N) (r : Fin 256) : Fin 8448 := ⟨t.val % 33 * 256 + r.val, by omega⟩

/-- The rows: the context's, then the latents'. -/
def argX : Fin 2 → Fin 8448 → Fin 1024 → EReal := fun b q j => m ((c : Thread nD τ).loc main_arg0) (ix3 b q j)
/-- The norm's gain. -/
def argG : Fin 1024 → EReal := fun k => m ((c : Thread nD τ).loc main_arg1) (ix1 k)
/-- The modulation. -/
def argM : Fin 2 → Fin 2 → Fin 6 → Fin 1024 → EReal := fun b s i j => m ((c : Thread nD τ).loc main_arg2) (ix4 b s i j)
/-- The weights. -/
def argW : Fin 1024 → Fin 3584 → EReal := fun k j => m ((c : Thread nD τ).loc main_arg3) (ix2 k j)
/-- The cosines. -/
def argCos : Fin 8192 → Fin 64 → EReal := fun q d => m ((c : Thread nD τ).loc main_arg4) (ix2 q d)
/-- The sines. -/
def argSin : Fin 8192 → Fin 64 → EReal := fun q d => m ((c : Thread nD τ).loc main_arg5) (ix2 q d)

/-- A point's rows: one tile of its batch's. -/
theorem x_at (t : Fin cfg0.N) (r : Fin 256) (j : Fin 1024) :
    (iblk m c 0 t : Vec Ideal S1x256x1024 .f32) (ix3 0 r j) = argX m c (bat t) (at' t r) j := by
  unfold argX bat at'
  blk_point [iblk, V, idx t]

/-- A point's norm gain: all of it. -/
theorem g_at (t : Fin cfg0.N) (k : Fin 1024) : (iblk m c 1 t : Vec Ideal S1x1024 .f32) (ix2 0 k) = argG m c k := by
  unfold argG
  blk_simp [iblk]
  entry_read
  pointwise
  blk_ext [idx t]

/-- A point's modulation: all of its batch. -/
theorem m_at (t : Fin cfg0.N) (s : Fin 2) (i : Fin 6) (j : Fin 1024) :
    (iblk m c 2 t : Vec Ideal S1x2x6x1024 .f32) (ix4 0 s i j) = argM m c (bat t) s i j := by
  unfold argM bat
  blk_point [iblk, V, idx t]

/-- A point's weights: all of them. -/
theorem w_at (t : Fin cfg0.N) (k : Fin 1024) (j : Fin 3584) : (iblk m c 3 t : Vec Ideal S1024x3584 .bf16) (ix2 k j) = argW m c k j := by
  unfold argW
  blk_simp [iblk]
  entry_read
  pointwise
  blk_ext [idx t]

/-- The cosines' table when the grid starts: the even layer's. -/
theorem V_cos : V m c main_v2 = Cert.Kernel3Ideal.Out.cosTab (m ((c : Thread nD τ).loc main_arg4)) := by
  unfold V
  after_results
  rfl

/-- The sines' table when the grid starts: the even layer's. -/
theorem V_sin : V m c main_v6 = Cert.Kernel3Ideal.Out.sinTab (m ((c : Thread nD τ).loc main_arg5)) := by
  unfold V
  after_results
  rfl

/-- A point's cosines. -/
theorem cs_at (t : Fin cfg0.N) (r : Fin 256) (d : Fin 128) : (iblk m c 6 t : Vec Ideal S256x128 .f32) (ix2 r d) = Inproj.cosT (argCos m c) (at' t r) d := by
  blk_simp [iblk]
  rw [V_cos]
  refine Eq.trans (congrArg (Cert.Kernel3Ideal.Out.cosTab _) (?_ : _ = ix2 (at' t r) d)) (Cert.Kernel3Ideal.Out.cosTab_at _ _ _)
  unfold at'
  blk_ext [idx t]

/-- A point's signed sines. -/
theorem sn_at (t : Fin cfg0.N) (r : Fin 256) (d : Fin 128) : (iblk m c 7 t : Vec Ideal S256x128 .f32) (ix2 r d) = Inproj.sinT (argSin m c) (at' t r) d := by
  blk_simp [iblk]
  rw [V_sin]
  refine Eq.trans (congrArg (Cert.Kernel3Ideal.Out.sinTab _) (?_ : _ = ix2 (at' t r) d)) (Cert.Kernel3Ideal.Out.sinTab_at _ _ _)
  unfold at'
  blk_ext [idx t]

/-- The modulated row of an entry. -/
def R (b : Fin 2) (q : Fin 8448) : Fin 1024 → EReal := Inproj.hid (argX m c) (argG m c) (argM m c) b q

/-- A point's modulated rows are the entries'. -/
theorem hrow_eq (t : Fin cfg0.N) (r : Fin 256) : hrow (grid0.coords t) (iblk m c 0 t) (iblk m c 1 t) (iblk m c 2 t) r = R m c (bat t) (at' t r) := by
  have hv : (at' t r).val = t.val % 33 * 256 + r.val := rfl
  unfold hrow R Inproj.hid
  simp only [tile t, x_at, g_at, m_at]
  by_cases h0 : t.val % 33 = 0
  · have hq : (at' t r).val < 256 := by omega
    simp only [if_pos h0, if_pos hq]
  · have hq : ¬ (at' t r).val < 256 := by omega
    simp only [if_neg h0, if_neg hq]

/-- A point's product is the entries'. -/
theorem prod_eq (t : Fin cfg0.N) (r : Fin 256) (o : ℕ) {n : ℕ} (ho : o + n ≤ 3584) (j : Fin n) :
    Inproj.Odd.cut (hrow (grid0.coords t) (iblk m c 0 t) (iblk m c 1 t) (iblk m c 2 t) r) (fun k j => (iblk m c 3 t : Vec Ideal S1024x3584 .bf16) (ix2 k j)) o ho j
      = Inproj.Odd.cut (R m c (bat t) (at' t r)) (argW m c) o ho j := by
  rw [hrow_eq]
  simp only [w_at]

end Cert.Kernel5Ideal.Out

end
-- ==== Proof.OddKernel.lean ====
/- The arrays the odd layer's input projection leaves. -/
module

public import proofs.«01_k».proof.Proof.OddBlocks

@[expose] public section

set_option maxRecDepth 16384

noncomputable section

namespace Cert.Kernel5Ideal.Out

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A function of batch, row and column at equal places. -/
theorem same {n : ℕ} (f : Fin 2 → Fin 8448 → Fin n → EReal) (b b' : Fin 2) (q q' : Fin 8448) (j j' : Fin n) (h0 : b.val = b'.val) (h1 : q.val = q'.val)
    (h2 : j.val = j'.val) : f b q j = f b' q' j' := by
  rw [Fin.ext h0, Fin.ext h1, Fin.ext h2]

/-- THE GATE is the first 1024 columns. -/
theorem final_z : (dats m 0 c).arrAt 8 cfg0.N = fun y => (fun b q j => Inproj.Odd.gate (R m c b q) (argW m c) j : Fin 2 → Fin 8448 → Fin 1024 → EReal) (y 0) (y 1) (y 2) := by
  refine (dats m 0 c).arrAt_eq_of_covers 8 _ (by decide +kernel) fun t hf y => ?_
  rw [after0_8]
  blk_simp
  idx_vars y
  obtain rfl : y0 = 0 := Subsingleton.elim _ _
  refine Eq.trans ?_ (same (fun b q j => Inproj.Odd.gate (R m c b q) (argW m c) j : Fin 2 → Fin 8448 → Fin 1024 → EReal) (bat t) _ (at' t y1) _ y2 _ ?_ ?_ ?_)
  · rw [z_at]
    exact prod_eq m c t y1 _ _ y2
  · unfold bat
    blk_simp [idx t]
    rfl
  · unfold at'
    blk_simp [idx t] <;> try omega
  · blk_simp [idx t] <;> try omega

/-- THE RECURRENCE'S INPUT is the next 1024 columns. -/
theorem final_xr : (dats m 0 c).arrAt 9 cfg0.N = fun y => (fun b q j => Inproj.Odd.mixed (R m c b q) (argW m c) j : Fin 2 → Fin 8448 → Fin 1024 → EReal) (y 0) (y 1) (y 2) := by
  refine (dats m 0 c).arrAt_eq_of_covers 9 _ (by decide +kernel) fun t hf y => ?_
  rw [after0_9]
  blk_simp
  idx_vars y
  obtain rfl : y0 = 0 := Subsingleton.elim _ _
  refine Eq.trans ?_ (same (fun b q j => Inproj.Odd.mixed (R m c b q) (argW m c) j : Fin 2 → Fin 8448 → Fin 1024 → EReal) (bat t) _ (at' t y1) _ y2 _ ?_ ?_ ?_)
  · rw [xr_at]
    exact prod_eq m c t y1 _ _ y2
  · unfold bat
    blk_simp [idx t]
    rfl
  · unfold at'
    blk_simp [idx t] <;> try omega
  · blk_simp [idx t] <;> try omega

/-- THE VALUES are the last 256 columns. -/
theorem final_v : (dats m 0 c).arrAt 12 cfg0.N = fun y => (fun b q j => Inproj.Odd.value (R m c b q) (argW m c) j : Fin 2 → Fin 8448 → Fin 256 → EReal) (y 0) (y 1) (y 2) := by
  refine (dats m 0 c).arrAt_eq_of_covers 12 _ (by decide +kernel) fun t hf y => ?_
  rw [after0_12]
  blk_simp
  idx_vars y
  obtain rfl : y0 = 0 := Subsingleton.elim _ _
  refine Eq.trans ?_ (same (fun b q j => Inproj.Odd.value (R m c b q) (argW m c) j : Fin 2 → Fin 8448 → Fin 256 → EReal) (bat t) _ (at' t y1) _ y2 _ ?_ ?_ ?_)
  · rw [v_at]
    exact prod_eq m c t y1 _ _ y2
  · unfold bat
    blk_simp [idx t]
    rfl
  · unfold at'
    blk_simp [idx t] <;> try omega
  · blk_simp [idx t] <;> try omega

/-- THE QUERIES are their heads, rotated and scaled. -/
theorem final_q : (dats m 0 c).arrAt 10 cfg0.N = fun y => (fun b q j => Inproj.scaled (Inproj.Odd.query (argCos m c) (argSin m c) q (R m c b q) (argW m c) j) : Fin 2 → Fin 8448 → Fin 1024 → EReal) (y 0) (y 1) (y 2) := by
  refine (dats m 0 c).arrAt_eq_of_covers 10 _ (by decide +kernel) fun t hf y => ?_
  rw [after0_10]
  blk_simp
  idx_vars y
  obtain rfl : y0 = 0 := Subsingleton.elim _ _
  refine Eq.trans ?_ (same (fun b q j => Inproj.scaled (Inproj.Odd.query (argCos m c) (argSin m c) q (R m c b q) (argW m c) j) : Fin 2 → Fin 8448 → Fin 1024 → EReal) (bat t) _ (at' t y1) _ y2 _ ?_ ?_ ?_)
  · have hy : y2 = ⟨(⟨y2.val / 128, by omega⟩ : Fin 8).val * 128 + (⟨y2.val % 128, by omega⟩ : Fin 128).val, by dsimp only; omega⟩ := Fin.ext (by dsimp only; omega)
    refine (congrArg (fun z => out0_10 _ _ _ _ _ _ _ _ _ (ix3 0 y1 z)) hy).trans ((q_at _ _ _ _ _ _ _ _ _ y1 _ _).trans (congrArg Inproj.scaled ?_))
    unfold Inproj.Odd.query turned
    rw [← Inproj.turn_eq]
    simp only [cs_at, sn_at, wide_at]
    exact congrArg (fun f => Inproj.turn _ _ f _) (funext fun d => prod_eq m c t y1 _ _ d)
  · unfold bat
    blk_simp [idx t]
    rfl
  · unfold at'
    blk_simp [idx t] <;> try omega
  · blk_simp [idx t] <;> try omega

/-- THE KEYS are their heads, rotated. -/
theorem final_k : (dats m 0 c).arrAt 11 cfg0.N = fun y => (fun b q j => Inproj.Odd.key (argCos m c) (argSin m c) q (R m c b q) (argW m c) j : Fin 2 → Fin 8448 → Fin 256 → EReal) (y 0) (y 1) (y 2) := by
  refine (dats m 0 c).arrAt_eq_of_covers 11 _ (by decide +kernel) fun t hf y => ?_
  rw [after0_11]
  blk_simp
  idx_vars y
  obtain rfl : y0 = 0 := Subsingleton.elim _ _
  refine Eq.trans ?_ (same (fun b q j => Inproj.Odd.key (argCos m c) (argSin m c) q (R m c b q) (argW m c) j : Fin 2 → Fin 8448 → Fin 256 → EReal) (bat t) _ (at' t y1) _ y2 _ ?_ ?_ ?_)
  · have hy : y2 = ⟨(⟨y2.val / 128, by omega⟩ : Fin 2).val * 128 + (⟨y2.val % 128, by omega⟩ : Fin 128).val, by dsimp only; omega⟩ := Fin.ext (by dsimp only; omega)
    refine (congrArg (fun z => out0_11 _ _ _ _ _ _ _ _ _ (ix3 0 y1 z)) hy).trans ((k_at _ _ _ _ _ _ _ _ _ y1 _ _).trans (?_))
    unfold Inproj.Odd.key turned
    rw [← Inproj.turn_eq]
    simp only [cs_at, sn_at, wide_at]
    exact congrArg (fun f => Inproj.turn _ _ f _) (funext fun d => prod_eq m c t y1 _ _ d)
  · unfold bat
    blk_simp [idx t]
    rfl
  · unfold at'
    blk_simp [idx t] <;> try omega
  · blk_simp [idx t] <;> try omega

end Cert.Kernel5Ideal.Out

end
-- ==== Proof.OddRef.lean ====
/- The odd layer's input projection as the reference computes it: its composed terms, read at an entry. -/
module

public import proofs.«01_k».proof.Proof.Gen.Reference5Ideal.Run
public import Idealize.ShloMosaic.Lib.Pointwise
public import proofs.«01_k».proof.Proof.OddMath

@[expose] public section

set_option maxRecDepth 16384

noncomputable section

namespace Cert.Reference5Ideal.Term

open Cert.Reference5Ideal Cert.Reference5Ideal.Gen Cert.Reference5Ideal.Value Idealize.ShloMosaic Idealize.ShloMosaic.TcCoe Idealize.SL.Sem

/-- The context's rows times the weights. -/
def ctx (X : FVec Ideal S2x8448x1024 .f32) (G : FVec Ideal S1024 .f32) (M : FVec Ideal S2x2x6x1024 .f32) (W : FVec Ideal S1024x3584 .f32) : FVec Ideal S2x256x3584 .f32 :=
  Host.dotGeneral dot_S2x256x1024_S1024x3584_S2x256x3584_2_0_01_1_n_n none (addf (mulf (mulf (mulf (extractStridedSlice S2x256x1024 ![0, 0, 0] X slices_S2x8448x1024_S2x256x1024_0_0_0) (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf (extractStridedSlice S2x256x1024 ![0, 0, 0] X slices_S2x8448x1024_S2x256x1024_0_0_0) (extractStridedSlice S2x256x1024 ![0, 0, 0] X slices_S2x8448x1024_S2x256x1024_0_0_0)) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 G))) (broadcastInDim S2x256x1024 ![0, 1, 2] bcast_S2x1x1024_S2x256x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1x1024 ![0, 0, 1, 0] M slices_S2x2x6x1024_S2x1x1x1024_0_0_1_0) shapeCasts_S2x1x1x1024_S2x1024))))) (broadcastInDim S2x256x1024 ![0, 1, 2] bcast_S2x1x1024_S2x256x1024_0_1_2 (broadcastInDim S2x1x1024 ![0, 2] bcast_S2x1024_S2x1x1024_0_2 (shapeCast _ (extractStridedSlice S2x1x1x1024 ![0, 0, 0, 0] M slices_S2x2x6x1024_S2x1x1x1024_0_0_0_0) shapeCasts_S2x1x1x1024_S2x1024)))) W

/-- The latents' rows times the weights. -/
def lat (X : FVec Ideal S2x8448x1024 .f32) (G : FVec Ideal S1024 .f32) (M : FVec Ideal S2x2x6x1024 .f32) (W : FVec Ideal S1024x3584 .f32) : FVec Ideal S2x8192x3584 .f32 :=
  Host.dotGeneral dot_S2x8192x1024_S1024x3584_S2x8192x3584_2_0_01_1_n_n none (addf (mulf (mulf (mulf (extractStridedSlice S2x8192x1024 ![0, 256, 0] X slices_S2x8448x1024_S2x8192x1024_0_256_0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (extractStridedSlice S2x8192x1024 ![0, 256, 0] X slices_S2x8448x1024_S2x8192x1024_0_256_0) (extractStridedSlice S2x8192x1024 ![0, 256, 0] X slices_S2x8448x1024_S2x8192x1024_0_256_0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1x1024 ![0, 1, 1, 0] M slices_S2x2x6x1024_S2x1x1x1024_0_1_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S2x1x1x1024 ![0, 1, 0, 0] M slices_S2x2x6x1024_S2x1x1x1024_0_1_0_0) shapeCasts_S2x1x1x1024_S2x1024)))) W

/-- The gate. -/
def gate (X : FVec Ideal S2x8448x1024 .f32) (G : FVec Ideal S1024 .f32) (M : FVec Ideal S2x2x6x1024 .f32) (W : FVec Ideal S1024x3584 .f32) : FVec Ideal S2x8448x1024 .f32 :=
  concatenate S2x8448x1024 1 [⟨S2x256x1024, (extractStridedSlice S2x256x1024 ![0, 0, 0] (ctx X G M W) slices_S2x256x3584_S2x256x1024_0_0_0)⟩, ⟨S2x8192x1024, (extractStridedSlice S2x8192x1024 ![0, 0, 0] (lat X G M W) slices_S2x8192x3584_S2x8192x1024_0_0_0)⟩] concatenates_S2x256x1024_S2x8192x1024_S2x8448x1024_d1

/-- The recurrence's input. -/
def mixed (X : FVec Ideal S2x8448x1024 .f32) (G : FVec Ideal S1024 .f32) (M : FVec Ideal S2x2x6x1024 .f32) (W : FVec Ideal S1024x3584 .f32) : FVec Ideal S2x8448x1024 .f32 :=
  concatenate S2x8448x1024 1 [⟨S2x256x1024, (extractStridedSlice S2x256x1024 ![0, 0, 1024] (ctx X G M W) slices_S2x256x3584_S2x256x1024_0_0_1024)⟩, ⟨S2x8192x1024, (extractStridedSlice S2x8192x1024 ![0, 0, 1024] (lat X G M W) slices_S2x8192x3584_S2x8192x1024_0_0_1024)⟩] concatenates_S2x256x1024_S2x8192x1024_S2x8448x1024_d1

/-- The values. -/
def value (X : FVec Ideal S2x8448x1024 .f32) (G : FVec Ideal S1024 .f32) (M : FVec Ideal S2x2x6x1024 .f32) (W : FVec Ideal S1024x3584 .f32) : FVec Ideal S2x8448x256 .bf16 :=
  concatenate S2x8448x256 1 [⟨S2x256x256, (truncf .bf16 (extractStridedSlice S2x256x256 ![0, 0, 3328] (ctx X G M W) slices_S2x256x3584_S2x256x256_0_0_3328) bitsLt_bf16_f32)⟩, ⟨S2x8192x256, (truncf .bf16 (extractStridedSlice S2x8192x256 ![0, 0, 3328] (lat X G M W) slices_S2x8192x3584_S2x8192x256_0_0_3328) bitsLt_bf16_f32)⟩] concatenates_S2x256x256_S2x8192x256_S2x8448x256_d1

/-- The latents' queries by heads, before the rotation. -/
def qlat (X : FVec Ideal S2x8448x1024 .f32) (G : FVec Ideal S1024 .f32) (M : FVec Ideal S2x2x6x1024 .f32) (W : FVec Ideal S1024x3584 .f32) : FVec Ideal S2x8192x8x128 .f32 := shapeCast _ (extractStridedSlice S2x8192x1024 ![0, 0, 2048] (lat X G M W) slices_S2x8192x3584_S2x8192x1024_0_0_2048) shapeCasts_S2x8192x1024_S2x8192x8x128

/-- The latents' keys by heads, before the rotation. -/
def klat (X : FVec Ideal S2x8448x1024 .f32) (G : FVec Ideal S1024 .f32) (M : FVec Ideal S2x2x6x1024 .f32) (W : FVec Ideal S1024x3584 .f32) : FVec Ideal S2x8192x2x128 .f32 := shapeCast _ (extractStridedSlice S2x8192x256 ![0, 0, 3072] (lat X G M W) slices_S2x8192x3584_S2x8192x256_0_0_3072) shapeCasts_S2x8192x256_S2x8192x2x128

/-- The queries. -/
def query (X : FVec Ideal S2x8448x1024 .f32) (G : FVec Ideal S1024 .f32) (M : FVec Ideal S2x2x6x1024 .f32) (W : FVec Ideal S1024x3584 .f32) (C S : FVec Ideal S8192x64 .f32) : FVec Ideal S2x8448x1024 .bf16 :=
  concatenate S2x8448x1024 1 [⟨S2x256x1024, (truncf .bf16 (shapeCast _ (Host.divf (Host.divf (shapeCast _ (extractStridedSlice S2x256x1024 ![0, 0, 2048] (ctx X G M W) slices_S2x256x3584_S2x256x1024_0_0_2048) shapeCasts_S2x256x1024_S2x256x8x128) (broadcastInDim S2x256x8x128 ![] bcast_S_S2x256x8x128 (Host.sqrt (constant S_ .f32 0x43000000#32)))) (broadcastInDim S2x256x8x128 ![] bcast_S_S2x256x8x128 (Host.log (constant S_ .f32 0x40000000#32)))) shapeCasts_S2x256x8x128_S2x256x1024) bitsLt_bf16_f32)⟩, ⟨S2x8192x1024, (truncf .bf16 (shapeCast _ (Host.divf (Host.divf (concatenate S2x8192x8x128 3 [⟨S2x8192x8x64, (subf (mulf (extractStridedSlice S2x8192x8x64 ![0, 0, 0, 0] (qlat X G M W) slices_S2x8192x8x128_S2x8192x8x64_0_0_0_0) (broadcastInDim S2x8192x8x64 ![0, 1, 2, 3] bcast_S1x8192x1x64_S2x8192x8x64_0_1_2_3 (broadcastInDim S1x8192x1x64 ![1, 3] bcast_S8192x64_S1x8192x1x64_1_3 C))) (mulf (extractStridedSlice S2x8192x8x64 ![0, 0, 0, 64] (qlat X G M W) slices_S2x8192x8x128_S2x8192x8x64_0_0_0_64) (broadcastInDim S2x8192x8x64 ![0, 1, 2, 3] bcast_S1x8192x1x64_S2x8192x8x64_0_1_2_3 (broadcastInDim S1x8192x1x64 ![1, 3] bcast_S8192x64_S1x8192x1x64_1_3 S))))⟩, ⟨S2x8192x8x64, (addf (mulf (extractStridedSlice S2x8192x8x64 ![0, 0, 0, 0] (qlat X G M W) slices_S2x8192x8x128_S2x8192x8x64_0_0_0_0) (broadcastInDim S2x8192x8x64 ![0, 1, 2, 3] bcast_S1x8192x1x64_S2x8192x8x64_0_1_2_3 (broadcastInDim S1x8192x1x64 ![1, 3] bcast_S8192x64_S1x8192x1x64_1_3 S))) (mulf (extractStridedSlice S2x8192x8x64 ![0, 0, 0, 64] (qlat X G M W) slices_S2x8192x8x128_S2x8192x8x64_0_0_0_64) (broadcastInDim S2x8192x8x64 ![0, 1, 2, 3] bcast_S1x8192x1x64_S2x8192x8x64_0_1_2_3 (broadcastInDim S1x8192x1x64 ![1, 3] bcast_S8192x64_S1x8192x1x64_1_3 C))))⟩] concatenates_S2x8192x8x64_S2x8192x8x64_S2x8192x8x128_d3) (broadcastInDim S2x8192x8x128 ![] bcast_S_S2x8192x8x128 (Host.sqrt (constant S_ .f32 0x43000000#32)))) (broadcastInDim S2x8192x8x128 ![] bcast_S_S2x8192x8x128 (Host.log (constant S_ .f32 0x40000000#32)))) shapeCasts_S2x8192x8x128_S2x8192x1024) bitsLt_bf16_f32)⟩] concatenates_S2x256x1024_S2x8192x1024_S2x8448x1024_d1

/-- The keys. -/
def key (X : FVec Ideal S2x8448x1024 .f32) (G : FVec Ideal S1024 .f32) (M : FVec Ideal S2x2x6x1024 .f32) (W : FVec Ideal S1024x3584 .f32) (C S : FVec Ideal S8192x64 .f32) : FVec Ideal S2x8448x256 .bf16 :=
  concatenate S2x8448x256 1 [⟨S2x256x256, (truncf .bf16 (shapeCast _ (shapeCast _ (extractStridedSlice S2x256x256 ![0, 0, 3072] (ctx X G M W) slices_S2x256x3584_S2x256x256_0_0_3072) shapeCasts_S2x256x256_S2x256x2x128) shapeCasts_S2x256x2x128_S2x256x256) bitsLt_bf16_f32)⟩, ⟨S2x8192x256, (truncf .bf16 (shapeCast _ (concatenate S2x8192x2x128 3 [⟨S2x8192x2x64, (subf (mulf (extractStridedSlice S2x8192x2x64 ![0, 0, 0, 0] (klat X G M W) slices_S2x8192x2x128_S2x8192x2x64_0_0_0_0) (broadcastInDim S2x8192x2x64 ![0, 1, 2, 3] bcast_S1x8192x1x64_S2x8192x2x64_0_1_2_3 (broadcastInDim S1x8192x1x64 ![1, 3] bcast_S8192x64_S1x8192x1x64_1_3 C))) (mulf (extractStridedSlice S2x8192x2x64 ![0, 0, 0, 64] (klat X G M W) slices_S2x8192x2x128_S2x8192x2x64_0_0_0_64) (broadcastInDim S2x8192x2x64 ![0, 1, 2, 3] bcast_S1x8192x1x64_S2x8192x2x64_0_1_2_3 (broadcastInDim S1x8192x1x64 ![1, 3] bcast_S8192x64_S1x8192x1x64_1_3 S))))⟩, ⟨S2x8192x2x64, (addf (mulf (extractStridedSlice S2x8192x2x64 ![0, 0, 0, 0] (klat X G M W) slices_S2x8192x2x128_S2x8192x2x64_0_0_0_0) (broadcastInDim S2x8192x2x64 ![0, 1, 2, 3] bcast_S1x8192x1x64_S2x8192x2x64_0_1_2_3 (broadcastInDim S1x8192x1x64 ![1, 3] bcast_S8192x64_S1x8192x1x64_1_3 S))) (mulf (extractStridedSlice S2x8192x2x64 ![0, 0, 0, 64] (klat X G M W) slices_S2x8192x2x128_S2x8192x2x64_0_0_0_64) (broadcastInDim S2x8192x2x64 ![0, 1, 2, 3] bcast_S1x8192x1x64_S2x8192x2x64_0_1_2_3 (broadcastInDim S1x8192x1x64 ![1, 3] bcast_S8192x64_S1x8192x1x64_1_3 C))))⟩] concatenates_S2x8192x2x64_S2x8192x2x64_S2x8192x2x128_d3) shapeCasts_S2x8192x2x128_S2x8192x256) bitsLt_bf16_f32)⟩] concatenates_S2x256x256_S2x8192x256_S2x8448x256_d1

variable (X : FVec Ideal S2x8448x1024 .f32) (G : FVec Ideal S1024 .f32) (M : FVec Ideal S2x2x6x1024 .f32) (W : FVec Ideal S1024x3584 .f32) (C S : FVec Ideal S8192x64 .f32)

/-- The modulated row of an entry. -/
def R (b : Fin 2) (q : Fin 8448) : Fin 1024 → EReal :=
  Inproj.hid (fun b q k => X (ix3 b q k)) (fun k => G (ix1 k)) (fun b s i k => M (ix4 b s i k)) b q

/-- A context row's product with the weights. -/
theorem ctx_at (b : Fin 2) (q : Fin 8448) (hq : q.val < 256) (j : Fin 3584) :
    ctx X G M W (ix3 b ⟨q.val, hq⟩ j) = Inproj.dot (R X G M b q) fun k => W (ix2 k j) := by
  unfold R Inproj.hid
  simp only [if_pos hq]
  pointwise [ctx]
  rfl

/-- A latent row's product with the weights. -/
theorem lat_at (b : Fin 2) (q : Fin 8448) (hq : ¬ q.val < 256) (j : Fin 3584) :
    lat X G M W (ix3 b ⟨q.val - 256, by omega⟩ j) = Inproj.dot (R X G M b q) fun k => W (ix2 k j) := by
  have e : ∀ h, (⟨256 + (q.val - 256), h⟩ : Fin 8448) = q := fun _ => Fin.ext (by dsimp only; omega)
  unfold R Inproj.hid
  simp only [if_neg hq]
  pointwise [lat]
  simp only [e]
  rfl

/-- The gate at an entry. -/
theorem gate_at (b : Fin 2) (q : Fin 8448) (j : Fin 1024) : gate X G M W (ix3 b q j) = Inproj.Odd.gate (R X G M b q) (fun k j => W (ix2 k j)) j := by
  pointwise [gate]
  by_cases hq : q.val < 256
  · rw [dif_pos hq]
    exact (ctx_at X G M W b q hq _).trans (congrArg (Inproj.dot _) (funext fun k => congrArg (fun z => W (ix2 k z)) (Fin.ext (by dsimp only; omega))))
  · rw [dif_neg hq]
    exact (lat_at X G M W b q hq _).trans (congrArg (Inproj.dot _) (funext fun k => congrArg (fun z => W (ix2 k z)) (Fin.ext (by dsimp only; omega))))

/-- The recurrence's input at an entry. -/
theorem mixed_at (b : Fin 2) (q : Fin 8448) (j : Fin 1024) : mixed X G M W (ix3 b q j) = Inproj.Odd.mixed (R X G M b q) (fun k j => W (ix2 k j)) j := by
  pointwise [mixed]
  by_cases hq : q.val < 256
  · rw [dif_pos hq]
    exact ctx_at X G M W b q hq _
  · rw [dif_neg hq]
    exact lat_at X G M W b q hq _

/-- A value. -/
theorem value_at (b : Fin 2) (q : Fin 8448) (j : Fin 256) : value X G M W (ix3 b q j) = Inproj.Odd.value (R X G M b q) (fun k j => W (ix2 k j)) j := by
  pointwise [value]
  by_cases hq : q.val < 256
  · rw [dif_pos hq]
    exact ctx_at X G M W b q hq _
  · rw [dif_neg hq]
    exact lat_at X G M W b q hq _

/-- A latent row's query head before the rotation. -/
theorem qlat_at (b : Fin 2) (q : Fin 8448) (hq : ¬ q.val < 256) (h : Fin 8) (d : Fin 128) :
    qlat X G M W (ix4 b ⟨q.val - 256, by omega⟩ h d) = Inproj.Odd.cut (R X G M b q) (fun k j => W (ix2 k j)) (2048 + h.val * 128) (by omega) d := by
  have e := fun j => lat_at X G M W b q hq j
  pointwise [qlat]
  simp only [e]
  exact congrArg (Inproj.dot _) (funext fun k => congrArg (fun z => W (ix2 k z)) (Fin.ext (by dsimp only; omega)))

/-- A query. -/
theorem query_at (b : Fin 2) (q : Fin 8448) (j : Fin 1024) : query X G M W C S (ix3 b q j) = Inproj.scaled (Inproj.Odd.query (fun q d => C (ix2 q d)) (fun q d => S (ix2 q d)) q (R X G M b q) (fun k j => W (ix2 k j)) j) := by
  have hj := j.isLt
  pointwise [query]
  unfold Inproj.Odd.query
  by_cases hq : q.val < 256
  · refine (dif_pos hq).trans (Eq.trans ?_ (congrArg Inproj.scaled (Inproj.rope_ctx _ _ _ _ _ hq)).symm)
    have e := fun j => ctx_at X G M W b q hq j
    have ej : ∀ h, (⟨2048 + j.val, h⟩ : Fin 3584) = ⟨2048 + j.val / 128 * 128 + j.val % 128, by omega⟩ := fun _ => Fin.ext (by dsimp only; omega)
    simp only [ej, e]
    rfl
  · refine (dif_neg hq).trans ?_
    have e := fun h d => qlat_at X G M W b q hq h d
    simp only [e]
    by_cases h : j.val % 128 < 64
    · refine (congrArg Inproj.scaled (dif_pos h)).trans (Eq.trans ?_ (congrArg Inproj.scaled (Inproj.rope_lo _ _ _ _ _ hq h)).symm)
      rfl
    · refine (congrArg Inproj.scaled (dif_neg h)).trans (Eq.trans ?_ (congrArg Inproj.scaled (Inproj.rope_hi _ _ _ _ _ hq h)).symm)
      have e2 : ∀ h, (⟨64 + (j.val % 128 - 64), h⟩ : Fin 128) = ⟨j.val % 128, by omega⟩ := fun _ => Fin.ext (by dsimp only; omega)
      simp only [e2]

/-- A latent row's key head before the rotation. -/
theorem klat_at (b : Fin 2) (q : Fin 8448) (hq : ¬ q.val < 256) (h : Fin 2) (d : Fin 128) :
    klat X G M W (ix4 b ⟨q.val - 256, by omega⟩ h d) = Inproj.Odd.cut (R X G M b q) (fun k j => W (ix2 k j)) (3072 + h.val * 128) (by omega) d := by
  have e := fun j => lat_at X G M W b q hq j
  pointwise [klat]
  simp only [e]
  exact congrArg (Inproj.dot _) (funext fun k => congrArg (fun z => W (ix2 k z)) (Fin.ext (by dsimp only; omega)))

/-- A key. -/
theorem key_at (b : Fin 2) (q : Fin 8448) (j : Fin 256) : key X G M W C S (ix3 b q j) = Inproj.Odd.key (fun q d => C (ix2 q d)) (fun q d => S (ix2 q d)) q (R X G M b q) (fun k j => W (ix2 k j)) j := by
  have hj := j.isLt
  pointwise [key]
  unfold Inproj.Odd.key
  by_cases hq : q.val < 256
  · refine (dif_pos hq).trans (Eq.trans ?_ (Inproj.rope_ctx _ _ _ _ _ hq).symm)
    have e := fun j => ctx_at X G M W b q hq j
    have ej : ∀ h, (⟨3072 + j.val, h⟩ : Fin 3584) = ⟨3072 + j.val / 128 * 128 + j.val % 128, by omega⟩ := fun _ => Fin.ext (by dsimp only; omega)
    simp only [ej, e]
    rfl
  · refine (dif_neg hq).trans ?_
    have e := fun h d => klat_at X G M W b q hq h d
    simp only [e]
    by_cases h : j.val % 128 < 64
    · refine (dif_pos h).trans (Eq.trans ?_ (Inproj.rope_lo _ _ _ _ _ hq h).symm)
      rfl
    · refine (dif_neg h).trans (Eq.trans ?_ (Inproj.rope_hi _ _ _ _ _ hq h).symm)
      have e2 : ∀ h, (⟨64 + (j.val % 128 - 64), h⟩ : Fin 128) = ⟨j.val % 128, by omega⟩ := fun _ => Fin.ext (by dsimp only; omega)
      simp only [e2]

end Cert.Reference5Ideal.Term

end
-- ==== Proof.OddEqual.lean ====
/- The odd layer's input projection: the reference's results are the kernel's. -/
module

public import proofs.«01_k».proof.Proof.OddKernel
public import proofs.«01_k».proof.Proof.OddRef

@[expose] public section

set_option maxRecDepth 16384

noncomputable section

namespace Cert.Inproj.Odd

open Idealize.ShloMosaic Idealize.ShloMosaic.TcCoe Idealize.SL.Sem

variable (m : (ℓ : Loc Cert.Kernel5Ideal.nD Cert.Kernel5Ideal.τ Cert.Kernel5Ideal.sig) → Buf (Elt Ideal) ℓ) (c : Dev Cert.Kernel5Ideal.nD)

/-- The gates are equal. -/
theorem z_eq : Cert.Reference5Ideal.Term.gate (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))
    = (Cert.Kernel5Ideal.Gen.dats m 0 c).arrAt 8 Cert.Kernel5Ideal.cfg0.N := by
  rw [Cert.Kernel5Ideal.Out.final_z m c]
  funext y
  idx_vars y
  exact Cert.Reference5Ideal.Term.gate_at _ _ _ _ y0 y1 y2

/-- The recurrence's inputs are equal. -/
theorem xr_eq : Cert.Reference5Ideal.Term.mixed (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))
    = (Cert.Kernel5Ideal.Gen.dats m 0 c).arrAt 9 Cert.Kernel5Ideal.cfg0.N := by
  rw [Cert.Kernel5Ideal.Out.final_xr m c]
  funext y
  idx_vars y
  exact Cert.Reference5Ideal.Term.mixed_at _ _ _ _ y0 y1 y2

/-- The queries are equal. -/
theorem q_eq : Cert.Reference5Ideal.Term.query (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))
    = (Cert.Kernel5Ideal.Gen.dats m 0 c).arrAt 10 Cert.Kernel5Ideal.cfg0.N := by
  rw [Cert.Kernel5Ideal.Out.final_q m c]
  funext y
  idx_vars y
  exact Cert.Reference5Ideal.Term.query_at _ _ _ _ _ _ y0 y1 y2

/-- The keys are equal. -/
theorem k_eq : Cert.Reference5Ideal.Term.key (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))
    = (Cert.Kernel5Ideal.Gen.dats m 0 c).arrAt 11 Cert.Kernel5Ideal.cfg0.N := by
  rw [Cert.Kernel5Ideal.Out.final_k m c]
  funext y
  idx_vars y
  exact Cert.Reference5Ideal.Term.key_at _ _ _ _ _ _ y0 y1 y2

/-- The values are equal. -/
theorem v_eq : Cert.Reference5Ideal.Term.value (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))
    = (Cert.Kernel5Ideal.Gen.dats m 0 c).arrAt 12 Cert.Kernel5Ideal.cfg0.N := by
  rw [Cert.Kernel5Ideal.Out.final_v m c]
  funext y
  idx_vars y
  exact Cert.Reference5Ideal.Term.value_at _ _ _ _ y0 y1 y2

end Cert.Inproj.Odd

end
-- ==== Proof.OutprojLast.lean ====
/- The odd layer's output projection, of the latents alone: its reference, what a point writes, and the array it leaves. -/
module

public import proofs.«01_k».proof.Proof.Gen.Reference4Ideal.Run
public import proofs.«01_k».proof.Proof.Gen.Kernel4Ideal.Value
public import Idealize.ShloMosaic.Lib.Pipeline.ValueKit
public import Idealize.ShloMosaic.Lib.Pointwise
public import proofs.«01_k».proof.Proof.Tile

@[expose] public section

set_option maxRecDepth 16384

noncomputable section

namespace Cert.Outproj

/-- The last layer's result at an entry: the latent's residual and, gated, the row's product with the weights. -/
def last (A B X : Fin 2 → Fin 8448 → Fin 1024 → EReal) (M : Fin 2 → Fin 2 → Fin 6 → Fin 1024 → EReal) (W : Fin 2048 → Fin 1024 → EReal)
    (b : Fin 2) (q : Fin 8192) (j : Fin 1024) : EReal :=
  X b ⟨256 + q.val, by omega⟩ j + M b 1 2 j
    * (∑ k : Fin 1024, A b ⟨256 + q.val, by omega⟩ k * W ⟨k.val, by omega⟩ j + ∑ k : Fin 1024, B b ⟨256 + q.val, by omega⟩ k * W ⟨1024 + k.val, by omega⟩ j)

end Cert.Outproj

namespace Cert.Reference4Ideal.Term

open Cert.Reference4Ideal Cert.Reference4Ideal.Gen Idealize.ShloMosaic Idealize.ShloMosaic.TcCoe Idealize.SL.Sem

/-- The reference's composed term. -/
def ref (A B X : FVec Ideal S2x8448x1024 .f32) (M : FVec Ideal S2x2x6x1024 .f32) (W : FVec Ideal S2048x1024 .f32) : FVec Ideal S2x8192x1024 .f32 :=
  addf (extractStridedSlice S2x8192x1024 ![0, 256, 0] X slices_S2x8448x1024_S2x8192x1024_0_256_0) (mulf (broadcastInDim S2x8192x1024 ![0, 1, 2] bcast_S2x1x1024_S2x8192x1024_0_1_2 (broadcastInDim S2x1x1024 ![0, 2] bcast_S2x1024_S2x1x1024_0_2 (shapeCast _ (extractStridedSlice S2x1x1x1024 ![0, 1, 2, 0] M slices_S2x2x6x1024_S2x1x1x1024_0_1_2_0) shapeCasts_S2x1x1x1024_S2x1024))) (Host.dotGeneral dot_S2x8192x2048_S2048x1024_S2x8192x1024_2_0_01_1_n_n none (concatenate S2x8192x2048 2 [⟨S2x8192x1024, (extractStridedSlice S2x8192x1024 ![0, 256, 0] A slices_S2x8448x1024_S2x8192x1024_0_256_0)⟩, ⟨S2x8192x1024, (extractStridedSlice S2x8192x1024 ![0, 256, 0] B slices_S2x8448x1024_S2x8192x1024_0_256_0)⟩] concatenates_S2x8192x1024_S2x8192x1024_S2x8192x2048_d2) W))

/-- The reference's result at an entry. -/
theorem ref_at (A B X : FVec Ideal S2x8448x1024 .f32) (M : FVec Ideal S2x2x6x1024 .f32) (W : FVec Ideal S2048x1024 .f32)
    (b : Fin 2) (q : Fin 8192) (j : Fin 1024) :
    ref A B X M W (ix3 b q j) = Outproj.last (fun b q k => A (ix3 b q k)) (fun b q k => B (ix3 b q k)) (fun b q k => X (ix3 b q k))
      (fun b s i k => M (ix4 b s i k)) (fun k j => W (ix2 k j)) b q j := by
  pointwise [ref]
  rfl

end Cert.Reference4Ideal.Term

namespace Cert.Kernel4Ideal.Out

open Cert.Kernel4Ideal Cert.Kernel4Ideal.Gen Idealize.ShloMosaic Idealize.ShloMosaic.TcCoe Idealize.SL.Sem
open Idealize.ShloMosaic.Pipeline (Dat)

/-- What a point writes, at an entry of its block, from the blocks it reads. -/
theorem out_at (i : grid0.Coords) (a b : Vec Ideal S1x256x1024 .bf16) (u : Vec Ideal S1x256x1024 .f32) (g : Vec Ideal S1x2x6x1024 .f32)
    (w : Vec Ideal S2048x1024 .bf16) (r : Fin 256) (j : Fin 1024) :
    out0_5 i a b u g w (ix3 0 r j) = u (ix3 0 r j) + g (ix4 0 1 2 j)
        * (∑ k : Fin 1024, a (ix3 0 r k) * w (ix2 ⟨k.val, by omega⟩ j) + ∑ k : Fin 1024, b (ix3 0 r k) * w (ix2 ⟨1024 + k.val, by omega⟩ j)) := by
  have hi : (i 1).val < 32 := (i 1).isLt
  unfold out0_5
  canon_tiles x h
  idx_vars x
  pointwise [k0_pay1, k0_pay2, k0_pay3]
  obtain rfl : x1 = r := Fin.ext h1.symm
  obtain rfl : x2 = j := Fin.ext h2.symm
  rw [Tile.past_select _ hi]

variable (m : (ℓ : Loc nD τ sig) → Buf (Elt Ideal) ℓ) (c : Dev nD)

/-- Which block each window has at a point: the batch is `t / 32`, the tile of latents `t % 32`, one later among all rows. -/
theorem idx : ∀ t : Fin cfg0.N, win0_0.index t = ![t.val / 32, t.val % 32 + 1, 0] ∧ win0_1.index t = ![t.val / 32, t.val % 32 + 1, 0]
    ∧ win0_2.index t = ![t.val / 32, t.val % 32 + 1, 0] ∧ win0_3.index t = ![t.val / 32, 0, 0, 0] ∧ win0_4.index t = ![0, 0]
    ∧ win0_5.index t = ![t.val / 32, t.val % 32, 0] := (by decide +kernel : ∀ t : Fin grid0.N, _)

/-- The grid has 64 points. -/
theorem lt_N (t : Fin cfg0.N) : t.val < 64 := lt_of_lt_of_eq t.isLt N_0

/-- The recurrence's output. -/
def argA : Fin 2 → Fin 8448 → Fin 1024 → EReal := fun b q j => m ((c : Thread nD τ).loc main_arg0) (ix3 b q j)
/-- The attention's output. -/
def argB : Fin 2 → Fin 8448 → Fin 1024 → EReal := fun b q j => m ((c : Thread nD τ).loc main_arg1) (ix3 b q j)
/-- The residual. -/
def argX : Fin 2 → Fin 8448 → Fin 1024 → EReal := fun b q j => m ((c : Thread nD τ).loc main_arg2) (ix3 b q j)
/-- The modulation. -/
def argM : Fin 2 → Fin 2 → Fin 6 → Fin 1024 → EReal := fun b s i j => m ((c : Thread nD τ).loc main_arg3) (ix4 b s i j)
/-- The weights. -/
def argW : Fin 2048 → Fin 1024 → EReal := fun k j => m ((c : Thread nD τ).loc main_arg4) (ix2 k j)

/-- A point's rows of the recurrence's output. -/
theorem a_at (t : Fin cfg0.N) (r : Fin 256) (j : Fin 1024) : (iblk m c 0 t : Vec Ideal S1x256x1024 .bf16) (ix3 0 r j)
    = argA m c ⟨t.val / 32, by have := lt_N t; omega⟩ ⟨(t.val % 32 + 1) * 256 + r.val, by omega⟩ j := by
  unfold argA
  blk_simp [iblk]
  entry_read
  pointwise
  blk_ext [idx t]

/-- A point's rows of the attention's output. -/
theorem b_at (t : Fin cfg0.N) (r : Fin 256) (j : Fin 1024) : (iblk m c 1 t : Vec Ideal S1x256x1024 .bf16) (ix3 0 r j)
    = argB m c ⟨t.val / 32, by have := lt_N t; omega⟩ ⟨(t.val % 32 + 1) * 256 + r.val, by omega⟩ j := by
  unfold argB
  blk_simp [iblk]
  entry_read
  pointwise
  blk_ext [idx t]

/-- A point's rows of the residual. -/
theorem x_at (t : Fin cfg0.N) (r : Fin 256) (j : Fin 1024) : (iblk m c 2 t : Vec Ideal S1x256x1024 .f32) (ix3 0 r j)
    = argX m c ⟨t.val / 32, by have := lt_N t; omega⟩ ⟨(t.val % 32 + 1) * 256 + r.val, by omega⟩ j := by
  unfold argX
  blk_point [iblk, V, idx t]

/-- A point's modulation: all of its batch. -/
theorem m_at (t : Fin cfg0.N) (s : Fin 2) (i : Fin 6) (j : Fin 1024) :
    (iblk m c 3 t : Vec Ideal S1x2x6x1024 .f32) (ix4 0 s i j) = argM m c ⟨t.val / 32, by have := lt_N t; omega⟩ s i j := by
  unfold argM
  blk_point [iblk, V, idx t]

/-- A point's weights: all of them. -/
theorem w_at (t : Fin cfg0.N) (k : Fin 2048) (j : Fin 1024) : (iblk m c 4 t : Vec Ideal S2048x1024 .bf16) (ix2 k j) = argW m c k j := by
  unfold argW
  blk_simp [iblk]
  entry_read
  pointwise
  blk_ext [idx t]

/-- THE OUTPUT ARRAY is the last layer's projection. -/
theorem final : (dats m 0 c).arrAt 5 cfg0.N = fun y => Outproj.last (argA m c) (argB m c) (argX m c) (argM m c) (argW m c) (y 0) (y 1) (y 2) := by
  refine (dats m 0 c).arrAt_eq_of_covers 5 _ (by decide +kernel) fun t hf y => ?_
  rw [after0_5]
  blk_simp
  idx_vars y
  obtain rfl : y0 = 0 := Subsingleton.elim _ _
  have ht := lt_N t
  rw [out_at]
  have e : ∀ (b : Fin 2) (q : Fin 8192) (j : Fin 1024) (b' : Fin 2) (q' : Fin 8192) (j' : Fin 1024), b.val = b'.val → q.val = q'.val → j.val = j'.val →
      Outproj.last (argA m c) (argB m c) (argX m c) (argM m c) (argW m c) b q j = Outproj.last (argA m c) (argB m c) (argX m c) (argM m c) (argW m c) b' q' j' := by
    intro b q j b' q' j' h0 h1 h2
    rw [Fin.ext h0, Fin.ext h1, Fin.ext h2]
  refine Eq.trans ?_ (e ⟨t.val / 32, by omega⟩ ⟨t.val % 32 * 256 + y1.val, by omega⟩ y2 _ _ _ ?_ ?_ ?_)
  · have hq : ∀ h, (⟨(t.val % 32 + 1) * 256 + y1.val, h⟩ : Fin 8448) = ⟨256 + (t.val % 32 * 256 + y1.val), by omega⟩ :=
      fun _ => Fin.ext (by dsimp only; omega)
    unfold Outproj.last
    simp only [a_at, b_at, x_at, m_at, w_at, hq]
  · blk_simp [idx t]
    rfl
  all_goals (blk_simp [idx t] <;> try omega)

end Cert.Kernel4Ideal.Out

end
-- ==== Proof.WinMath.lean ====
/- The mathematics of a masked softmax with a sink, over the extended reals: real scores where a key is read, −∞ where it
   is not, one real logit more in the sum, any values. -/
module

public import proofs.«01_k».proof.Proof.Softmax

@[expose] public section

noncomputable section

namespace Cert.Attn

open Idealize.ShloMosaic

/-- A masked score: the score where the key is read, −∞ where it is not. -/
def sc (p : Bool) (x : ℝ) : EReal := if p then (x : EReal) else ⊥

/-- The weight of a masked score. -/
def mw (p : Bool) (x : ℝ) : ℝ := if p then Real.exp x else 0

/-- A weight is not negative. -/
theorem mw_nonneg (p : Bool) (x : ℝ) : 0 ≤ mw p x := by
  unfold mw; split_ifs
  · exact (Real.exp_pos x).le
  · exact le_rfl

/-- A masked score is not +∞. -/
theorem sc_ne_top (p : Bool) (x : ℝ) : sc p x ≠ ⊤ := by
  unfold sc; split_ifs
  · exact EReal.coe_ne_top x
  · exact bot_ne_top

/-- The greater of a value below +∞ and a real is a real. -/
theorem max_real_right {a b : EReal} (ha : a ≠ ⊤) (hb : ∃ r : ℝ, b = r) : ∃ r : ℝ, max a b = r := by
  obtain ⟨r, rfl⟩ := hb
  have h1 : max a (r : EReal) ≠ ⊤ := (max_lt (lt_top_iff_ne_top.2 ha) (EReal.coe_lt_top r)).ne
  have h0 : max a (r : EReal) ≠ ⊥ := (lt_of_lt_of_le (EReal.bot_lt_coe r) (le_max_right a _)).ne'
  exact ⟨_, (EReal.coe_toReal h1 h0).symm⟩

/-- The greater of two values below +∞ is below +∞. -/
theorem max_below {a b : EReal} (ha : a ≠ ⊤) (hb : b ≠ ⊤) : max a b ≠ ⊤ :=
  (max_lt (lt_top_iff_ne_top.2 ha) (lt_top_iff_ne_top.2 hb)).ne

/-- The exponential of a masked score less a real shift: its weight times the shift's factor. -/
theorem exp_sc (p : Bool) (x M : ℝ) : Ideal.exp (sc p x - (M : EReal)) = ((Real.exp (-M) * mw p x : ℝ) : EReal) := by
  unfold sc mw
  split_ifs
  · rw [← EReal.coe_sub, Ideal.exp_coe, ← Real.exp_add, sub_eq_neg_add]
  · rw [EReal.bot_sub, mul_zero]; exact Ideal.exp_bot

/-- The same in base 2, of the score over the logarithm of 2. -/
theorem exp2_sc (p : Bool) (x m : ℝ) :
    Ideal.exp2 (sc p (x * (Real.log 2)⁻¹) - (m : EReal)) = ((Real.exp (-(m * Real.log 2)) * mw p x : ℝ) : EReal) := by
  have hlog : Real.log 2 ≠ 0 := (Real.log_pos (by norm_num)).ne'
  unfold sc mw
  split_ifs
  · rw [exp2_sub]
    refine congrArg _ ?_
    unfold wt
    show (2 : ℝ) ^ (x * (Real.log 2)⁻¹ - m) = _
    rw [Real.rpow_def_of_pos (by norm_num), ← Real.exp_add]
    congr 1
    field_simp
    ring
  · rw [EReal.bot_sub, mul_zero]; exact Ideal.exp2_bot

/-- ATTENTION WITH A SINK: the values `v` weighted with the softmax of the scores `x` of the keys read and the sink's `σ`. -/
def sinkAtt {n : ℕ} (p : Fin n → Bool) (x : Fin n → ℝ) (σ : ℝ) (v : Fin n → EReal) : EReal :=
  ∑ k, v k * ((mw (p k) (x k) / (∑ j, mw (p j) (x j) + Real.exp σ) : ℝ) : EReal)

/-- Weights and their sum times one positive factor: the quotient without it. -/
theorem div_scale (t w Z : ℝ) (ht : 0 < t) (hZ : 0 < Z) : Ideal.div ((t * w : ℝ) : EReal) ((t * Z : ℝ) : EReal) = ((w / Z : ℝ) : EReal) := by
  rw [Ideal.div_coe (mul_pos ht hZ).ne', ← EReal.coe_mul]
  refine congrArg _ ?_
  field_simp

/-- The softmax of the masked scores and the sink, under any shift, is the attention with a sink. -/
theorem sinkAtt_of_exp {n : ℕ} (p : Fin n → Bool) (x : Fin n → ℝ) (σ : ℝ) (v : Fin n → EReal) (M : ℝ) :
    ∑ k, v k * Ideal.div (Ideal.exp (sc (p k) (x k) - (M : EReal))) (∑ j, Ideal.exp (sc (p j) (x j) - (M : EReal)) + Ideal.exp ((σ : EReal) - (M : EReal)))
      = sinkAtt p x σ v := by
  have hσ : Ideal.exp ((σ : EReal) - (M : EReal)) = ((Real.exp (-M) * Real.exp σ : ℝ) : EReal) := exp_sc true σ M
  have hZ : 0 < ∑ j, mw (p j) (x j) + Real.exp σ := add_pos_of_nonneg_of_pos (Finset.sum_nonneg fun j _ => mw_nonneg _ _) (Real.exp_pos σ)
  simp only [exp_sc, hσ, coe_sum]
  rw [← EReal.coe_add, ← Finset.mul_sum, ← mul_add]
  exact Finset.sum_congr rfl fun k _ => congrArg _ (div_scale _ _ _ (Real.exp_pos _) hZ)

/-- A sum of values times scaled weights over the scaled sum, for two lists of keys: the values times the normalised weights. -/
theorem div_two {a b : ℕ} (t Z : ℝ) (ht : 0 < t) (hZ : 0 < Z) (f : Fin a → ℝ) (g : Fin b → ℝ) (u : Fin a → EReal) (v : Fin b → EReal) :
    Ideal.div (∑ k, ((t * f k : ℝ) : EReal) * u k + ∑ k, ((t * g k : ℝ) : EReal) * v k) ((t * Z : ℝ) : EReal)
      = ∑ k, u k * ((f k / Z : ℝ) : EReal) + ∑ k, v k * ((g k / Z : ℝ) : EReal) := by
  have hi : 0 ≤ (1 / (t * Z) : ℝ) := by positivity
  have e : ∀ (w : ℝ) (y : EReal), ((1 / (t * Z) : ℝ) : EReal) * (((t * w : ℝ) : EReal) * y) = y * ((w / Z : ℝ) : EReal) := by
    intro w y
    rw [← mul_assoc, ← EReal.coe_mul, mul_comm y]
    refine congrArg (fun z : ℝ => (z : EReal) * y) ?_
    field_simp
  rw [Ideal.div_coe (mul_pos ht hZ).ne', mul_comm, EReal.left_distrib_of_nonneg_of_ne_top (by exact_mod_cast hi) (EReal.coe_ne_top _),
    coe_mul_sum _ _ hi, coe_mul_sum _ _ hi]
  simp only [e]

/-- The window's keys starting at `s`, among all keys. -/
def bandKey (s : ℕ) (hs : s + 512 ≤ 8448) : Fin 512 ↪ Fin 8448 :=
  ⟨fun c => ⟨s + c.val, by omega⟩, fun a b h => Fin.ext (by have := congrArg Fin.val h; dsimp only at this; omega)⟩

/-- The context's keys among all keys. -/
def ctxKey : Fin 256 ↪ Fin 8448 :=
  ⟨fun c => ⟨c.val, by omega⟩, fun a b h => Fin.ext (by have := congrArg Fin.val h; dsimp only at this; omega)⟩

/-- A sum over all keys of which only the context's and 512 of the latents' count. -/
theorem sum_band {M : Type*} [AddCommMonoid M] (f : Fin 8448 → M) (s : ℕ) (h0 : 256 ≤ s) (hs : s + 512 ≤ 8448)
    (hf : ∀ k, 256 ≤ k.val → (k.val < s ∨ s + 512 ≤ k.val) → f k = 0) :
    ∑ k, f k = ∑ c, f (bandKey s hs c) + ∑ c, f (ctxKey c) := by
  rw [← Finset.sum_map _ (bandKey s hs) f, ← Finset.sum_map _ ctxKey f, ← Finset.sum_union]
  · refine (Finset.sum_subset (Finset.subset_univ _) fun k _ hk => ?_).symm
    rw [Finset.mem_union, not_or] at hk
    have h1 : ¬ k.val < 256 := fun h => hk.2 (Finset.mem_map.2 ⟨⟨k.val, h⟩, Finset.mem_univ _, rfl⟩)
    have h2 : ¬ (s ≤ k.val ∧ k.val < s + 512) := fun h =>
      hk.1 (Finset.mem_map.2 ⟨⟨k.val - s, by omega⟩, Finset.mem_univ _, Fin.ext (by show s + (k.val - s) = k.val; omega)⟩)
    exact hf k (by omega) (by omega)
  · refine Finset.disjoint_left.2 fun k h1 h2 => ?_
    obtain ⟨a, _, ha⟩ := Finset.mem_map.1 h1
    obtain ⟨b, _, hb⟩ := Finset.mem_map.1 h2
    have ea : s + a.val = k.val := congrArg Fin.val ha
    have eb : b.val = k.val := congrArg Fin.val hb
    omega

/-- Whether query `q` reads key `k`: the context's keys always, a latent's within 128 of a latent query. -/
def reads (q k : ℕ) : Bool := decide (k < 256) || decide (256 ≤ q ∧ q ≤ k + 128 ∧ k ≤ q + 128)

/-- THE WINDOW. The base-2 form over 512 keys of the window and the context's, with the sink, is the attention with a sink
    over all keys, when no key outside is read. -/
theorem sinkAtt_of_band (p : Fin 8448 → Bool) (x : Fin 8448 → ℝ) (σ : ℝ) (v : Fin 8448 → EReal) (m : ℝ) (s : ℕ) (h0 : 256 ≤ s) (hs : s + 512 ≤ 8448)
    (hp : ∀ k, 256 ≤ k.val → (k.val < s ∨ s + 512 ≤ k.val) → p k = false) :
    Ideal.div (∑ c, Ideal.exp2 (sc (p (bandKey s hs c)) (x (bandKey s hs c) * (Real.log 2)⁻¹) - (m : EReal)) * v (bandKey s hs c)
        + ∑ c, Ideal.exp2 (sc (p (ctxKey c)) (x (ctxKey c) * (Real.log 2)⁻¹) - (m : EReal)) * v (ctxKey c))
      (∑ c, Ideal.exp2 (sc (p (bandKey s hs c)) (x (bandKey s hs c) * (Real.log 2)⁻¹) - (m : EReal))
        + ∑ c, Ideal.exp2 (sc (p (ctxKey c)) (x (ctxKey c) * (Real.log 2)⁻¹) - (m : EReal))
        + Ideal.exp2 (((σ * (Real.log 2)⁻¹ : ℝ) : EReal) - (m : EReal)))
      = sinkAtt p x σ v := by
  have hσ : Ideal.exp2 (((σ * (Real.log 2)⁻¹ : ℝ) : EReal) - (m : EReal)) = ((Real.exp (-(m * Real.log 2)) * Real.exp σ : ℝ) : EReal) := exp2_sc true σ m
  have hz : ∀ k : Fin 8448, 256 ≤ k.val → (k.val < s ∨ s + 512 ≤ k.val) → mw (p k) (x k) = 0 := fun k a b => by
    rw [hp k a b]; rfl
  have hZ : 0 < ∑ j, mw (p j) (x j) + Real.exp σ := add_pos_of_nonneg_of_pos (Finset.sum_nonneg fun j _ => mw_nonneg _ _) (Real.exp_pos σ)
  simp only [exp2_sc, hσ, coe_sum]
  rw [← EReal.coe_add, ← EReal.coe_add, ← Finset.mul_sum, ← Finset.mul_sum, ← mul_add, ← mul_add,
    ← sum_band (fun k => mw (p k) (x k)) s h0 hs hz, div_two _ _ (Real.exp_pos _) hZ]
  unfold sinkAtt
  generalize ∑ j, mw (p j) (x j) + Real.exp σ = Z
  refine (sum_band (fun k => v k * ((mw (p k) (x k) / Z : ℝ) : EReal)) s h0 hs fun k a b => ?_).symm
  rw [hz k a b, zero_div, EReal.coe_zero, mul_zero]

end Cert.Attn

end
-- ==== Proof.WinWords.lean ====
/- The comparisons of positions that make the windowed attention's masks. -/
module

public import Idealize.ShloMosaic.Lib.Pointwise
public import proofs.«01_k».proof.Proof.WinMath

@[expose] public section

namespace Cert.Attn

open Idealize.ShloMosaic

/-- A difference of two small words, the first not below. -/
theorem sub_word (a b : ℕ) (h : b ≤ a) : BitVec.ofNat 32 a - BitVec.ofNat 32 b = BitVec.ofNat 32 (a - b) := by
  conv_lhs => rw [← Nat.sub_add_cancel h, BitVec.ofNat_add]
  exact BitVec.add_sub_cancel _ _

/-- A difference of words is the negative of the reversed one. -/
theorem sub_flip (x y : BitVec 32) : x - y = -(y - x) := by
  apply BitVec.eq_of_toNat_eq
  simp only [BitVec.toNat_sub, BitVec.toNat_neg]
  omega

/-- Two subtractions of words are one of the sum. -/
theorem sub_twice (x y z : BitVec 32) : x - y - z = x - (y + z) := by
  apply BitVec.eq_of_toNat_eq
  simp only [BitVec.toNat_sub, BitVec.toNat_add]
  omega

/-- A small word is not negative. -/
theorem small_msb (n : ℕ) (h : n < 2 ^ 20) : (BitVec.ofNat 32 n).msb = false := by
  rw [BitVec.msb_eq_false_iff_two_mul_lt, BitVec.toNat_ofNat]
  omega

/-- The absolute value of a small word is that word. -/
theorem abs_word (n : ℕ) (h : n < 2 ^ 20) : IntOp.absi (BitVec.ofNat 32 n) = BitVec.ofNat 32 n := by
  unfold IntOp.absi
  rw [small_msb n h]
  rfl

/-- The absolute value of a small word's negative is that word. -/
theorem abs_neg_word (n : ℕ) (h : n < 2 ^ 20) : IntOp.absi (-BitVec.ofNat 32 n) = BitVec.ofNat 32 n := by
  by_cases h0 : n = 0
  · subst h0; rfl
  · have hm : (-BitVec.ofNat 32 n).msb = true := by
      rw [BitVec.msb_eq_true_iff_two_mul_ge, BitVec.toNat_neg, BitVec.toNat_ofNat]
      omega
    unfold IntOp.absi
    rw [hm]
    exact BitVec.neg_neg

/-- Small words compare as their numbers. -/
theorem sle_word (a b : ℕ) (ha : a < 2 ^ 20) (hb : b < 2 ^ 20) : (BitVec.ofNat 32 a).sle (BitVec.ofNat 32 b) = decide (a ≤ b) := by
  rw [BitVec.sle_eq_decide, BitVec.toInt_eq_toNat_of_msb (small_msb a ha), BitVec.toInt_eq_toNat_of_msb (small_msb b hb), BitVec.toNat_ofNat, BitVec.toNat_ofNat]
  exact decide_eq_decide.mpr (by omega)

/-- Small words compare strictly as their numbers. -/
theorem slt_word (a b : ℕ) (ha : a < 2 ^ 20) (hb : b < 2 ^ 20) : (BitVec.ofNat 32 a).slt (BitVec.ofNat 32 b) = decide (a < b) := by
  rw [BitVec.slt_eq_decide, BitVec.toInt_eq_toNat_of_msb (small_msb a ha), BitVec.toInt_eq_toNat_of_msb (small_msb b hb), BitVec.toNat_ofNat, BitVec.toNat_ofNat]
  exact decide_eq_decide.mpr (by omega)

/-- Two positions at a distance of at most 128. -/
theorem near_word (a b : ℕ) (ha : a < 2 ^ 19) (hb : b < 2 ^ 19) :
    IntOp.cmpi .sle (IntOp.absi (IntOp.subi (BitVec.ofNat 32 a) (BitVec.ofNat 32 b))) 128#32 = BitVec.ofBool (decide (a ≤ b + 128 ∧ b ≤ a + 128)) := by
  have h : IntOp.absi (IntOp.subi (BitVec.ofNat 32 a) (BitVec.ofNat 32 b)) = BitVec.ofNat 32 (a - b + (b - a)) := by
    unfold IntOp.subi
    by_cases h : b ≤ a
    · rw [sub_word a b h, abs_word _ (by omega), show a - b + (b - a) = a - b by omega]
    · rw [sub_flip, sub_word b a (by omega), abs_neg_word _ (by omega), show a - b + (b - a) = b - a by omega]
  rw [h]
  unfold IntOp.cmpi
  refine congrArg BitVec.ofBool ?_
  show (BitVec.ofNat 32 (a - b + (b - a))).sle (BitVec.ofNat 32 128) = _
  rw [sle_word _ _ (by omega) (by norm_num)]
  exact decide_eq_decide.mpr (by omega)

/-- A choice by a word made of a truth value. -/
theorem select_ofBool {α : Type} (p : Bool) (a b : α) : Scalar.select (BitVec.ofBool p) a b = if p then a else b := by
  cases p <;> rfl

end Cert.Attn
-- ==== Proof.WinRef.lean ====
/- The windowed attention's reference, in named parts, and its parts read at an entry. -/
module

public import proofs.«01_k».proof.Proof.Gen.Reference6Ideal.Run
public import Idealize.ShloMosaic.Lib.Pointwise
public import proofs.«01_k».proof.Proof.WinWords

@[expose] public section

set_option maxRecDepth 16384

noncomputable section

namespace Cert.Reference6Ideal.Term

open Cert.Reference6Ideal Cert.Reference6Ideal.Gen Idealize.ShloMosaic Idealize.ShloMosaic.TcCoe Idealize.SL.Sem Cert.Attn

/-- The scores: every query against every key, over √128. -/
def score (Q : FVec Ideal S2x8448x1024 .f32) (K : FVec Ideal S2x8448x256 .f32) : FVec Ideal S2x2x4x8448x8448 .f32 :=
  Host.divf (transpose S2x2x4x8448x8448 [0, 1, 4, 3, 2] (Host.dotGeneral dot_S2x8448x2x128_S2x8448x2x4x128_S2x2x8448x8448x4_3_4_1_13_02_02 none (shapeCast S2x8448x2x128 K shapeCasts_S2x8448x256_S2x8448x2x128) (shapeCast S2x8448x2x4x128 Q shapeCasts_S2x8448x1024_S2x8448x2x4x128)) transposes_S2x2x8448x8448x4_S2x2x4x8448x8448_0_1_4_3_2) (broadcastInDim S2x2x4x8448x8448 ![] bcast_S_S2x2x4x8448x8448 (Host.sqrt (constant S_ .f32 0x43000000#32)))

/-- The keys of the context, for every query. -/
def isCtx : IVec S8448x8448 1 :=
  broadcastInDim S8448x8448 ![0, 1] bcast_S1x8448_S8448x8448_0_1 (cmpi .slt (broadcastInDim S1x8448 ![1] bcast_S8448_S1x8448_1 (iotaInDim S8448 32 0)) (broadcastInDim S1x8448 ![] bcast_S_S1x8448 (constantI S_ 32 256#32)))

/-- The queries of the latents, for every key. -/
def isLat : IVec S8448x8448 1 :=
  broadcastInDim S8448x8448 ![0, 1] bcast_S8448x1_S8448x8448_0_1 (cmpi .sge (broadcastInDim S8448x1 ![0] bcast_S8448_S8448x1_0 (iotaInDim S8448 32 0)) (broadcastInDim S8448x1 ![] bcast_S_S8448x1 (constantI S_ 32 256#32)))

/-- The keys at most 128 positions from the query. -/
def isNear : IVec S8448x8448 1 :=
  cmpi .sle (absi (subi (broadcastInDim S8448x8448 ![0, 1] bcast_S8448x1_S8448x8448_0_1 (broadcastInDim S8448x1 ![0] bcast_S8448_S8448x1_0 (iotaInDim S8448 32 0))) (broadcastInDim S8448x8448 ![0, 1] bcast_S1x8448_S8448x8448_0_1 (broadcastInDim S1x8448 ![1] bcast_S8448_S1x8448_1 (iotaInDim S8448 32 0))))) (broadcastInDim S8448x8448 ![] bcast_S_S8448x8448 (constantI S_ 32 128#32))

/-- Which keys each query reads. -/
def mask : IVec S8448x8448 1 := ori isCtx (andi isLat isNear)

/-- The masked scores with the sink as one column more. -/
def logits (s : FVec Ideal S2x2x4x8448x8448 .f32) (w : IVec S8448x8448 1) (T : FVec Ideal S8 .f32) : FVec Ideal S2x2x4x8448x8449 .f32 :=
  concatenate S2x2x4x8448x8449 4 [⟨S2x2x4x8448x8448, select (broadcastInDim S2x2x4x8448x8448 ![3, 4] bcast_S8448x8448_S2x2x4x8448x8448_3_4 w) s (broadcastInDim S2x2x4x8448x8448 ![] bcast_S_S2x2x4x8448x8448 (id (constant S_ .f32 0xFF800000#32)))⟩,
    ⟨S2x2x4x8448x1, broadcastInDim S2x2x4x8448x1 ![0, 1, 2, 3, 4] bcast_S1x2x4x1x1_S2x2x4x8448x1_0_1_2_3_4 (broadcastInDim S1x2x4x1x1 ![1, 2] bcast_S2x4_S1x2x4x1x1_1_2 (shapeCast S2x4 T shapeCasts_S8_S2x4))⟩] concatenates_S2x2x4x8448x8448_S2x2x4x8448x1_S2x2x4x8448x8449_d4

/-- The row maximum of the logits. -/
def top (s : FVec Ideal S2x2x4x8448x8449 .f32) : FVec Ideal S2x2x4x8448 .f32 :=
  maximumf (broadcastInDim S2x2x4x8448 ![] bcast_S_S2x2x4x8448 (constant S_ .f32 0xFF800000#32)) (Host.reduce FloatOps.maximumf s (constant S_ .f32 0xFF800000#32) reducesTo_S2x2x4x8448x8449_S2x2x4x8448_d4 h_S_)

/-- The exponentials of the logits less their row's shift `M`. -/
def exps (s : FVec Ideal S2x2x4x8448x8449 .f32) (M : FVec Ideal S2x2x4x8448 .f32) : FVec Ideal S2x2x4x8448x8449 .f32 :=
  Host.exp (subf s (broadcastInDim S2x2x4x8448x8449 ![0, 1, 2, 3, 4] bcast_S2x2x4x8448x1_S2x2x4x8448x8449_0_1_2_3_4 (broadcastInDim S2x2x4x8448x1 ![0, 1, 2, 3] bcast_S2x2x4x8448_S2x2x4x8448x1_0_1_2_3 M)))

/-- The output from the exponentials: each divided by its row's sum, the sink's column dropped, times the values. -/
def out (e : FVec Ideal S2x2x4x8448x8449 .f32) (V : FVec Ideal S2x8448x256 .f32) : FVec Ideal S2x8448x1024 .bf16 :=
  truncf .bf16 (shapeCast S2x8448x1024 (transpose S2x8448x2x4x128 [0, 4, 1, 3, 2] (Host.dotGeneral dot_S2x8448x2x128_S2x2x4x8448x8448_S2x2x128x4x8448_1_4_3_23_02_01 none (shapeCast S2x8448x2x128 V shapeCasts_S2x8448x256_S2x8448x2x128) (extractStridedSlice S2x2x4x8448x8448 ![0, 0, 0, 0, 0] (Host.divf e (broadcastInDim S2x2x4x8448x8449 ![0, 1, 2, 3, 4] bcast_S2x2x4x8448x1_S2x2x4x8448x8449_0_1_2_3_4 (broadcastInDim S2x2x4x8448x1 ![0, 1, 2, 3] bcast_S2x2x4x8448_S2x2x4x8448x1_0_1_2_3 (Host.reduceAdd e (constant S_ .f32 0x00000000#32) reducesTo_S2x2x4x8448x8449_S2x2x4x8448_d4 h_S_)))) slices_S2x2x4x8448x8449_S2x2x4x8448x8448_0_0_0_0_0)) transposes_S2x2x128x4x8448_S2x8448x2x4x128_0_4_1_3_2) shapeCasts_S2x8448x2x4x128_S2x8448x1024) bitsLt_bf16_f32

/-- The reference's result from its four arguments. -/
def ref (Q : FVec Ideal S2x8448x1024 .f32) (K V : FVec Ideal S2x8448x256 .f32) (T : FVec Ideal S8 .f32) : FVec Ideal S2x8448x1024 .bf16 :=
  out (exps (logits (score Q K) mask T) (top (logits (score Q K) mask T))) V

/-- The run's composed term is `ref` of the argument arrays. -/
theorem res_eq (m : (ℓ : Loc nD τ sig) → Buf (Elt Ideal) ℓ) (c : Dev nD) :
    Value.res_main_v46 m c = ref (m ((c.tc : Thread nD τ).loc main_arg0)) (m ((c.tc : Thread nD τ).loc main_arg1)) (m ((c.tc : Thread nD τ).loc main_arg2)) (m ((c.tc : Thread nD τ).loc main_arg3)) := by
  unfold Value.res_main_v46; rfl

/-- A score: the product of the query with the key, divided by the root of 128. -/
theorem score_at (Q : FVec Ideal S2x8448x1024 .f32) (K : FVec Ideal S2x8448x256 .f32) (b : Fin 2) (g : Fin 2) (r : Fin 4) (q : Fin 8448) (k : Fin 8448) :
    score Q K (ix5 b g r q k) = Ideal.div (∑ x : Fin 128, K (ix3 b k ⟨g.val * 128 + x.val, by omega⟩)
      * Q (ix3 b q ⟨g.val * 512 + r.val * 128 + x.val, by omega⟩)) (Ideal.sqrt (Ideal.ofBits .f32 0x43000000#32)) := by
  pointwise [score]

/-- A key is the context's when it is one of the first 256. -/
theorem isCtx_at (q k : Fin 8448) : isCtx (ix2 q k) = BitVec.ofBool (decide (k.val < 256)) := by
  rw [← slt_word k.val 256 (by omega) (by norm_num)]
  pointwise [isCtx]
  rfl

/-- A query is a latent's when it is not one of the first 256. -/
theorem isLat_at (q k : Fin 8448) : isLat (ix2 q k) = BitVec.ofBool (decide (256 ≤ q.val)) := by
  rw [← sle_word 256 q.val (by norm_num) (by omega)]
  pointwise [isLat]
  rfl

/-- A key is near when it is at most 128 away. -/
theorem isNear_at (q k : Fin 8448) : isNear (ix2 q k) = BitVec.ofBool (decide (q.val ≤ k.val + 128 ∧ k.val ≤ q.val + 128)) := by
  rw [← near_word q.val k.val (by omega) (by omega)]
  pointwise [isNear]

/-- The mask at an entry. -/
theorem mask_at (q k : Fin 8448) : mask (ix2 q k) = BitVec.ofBool (reads q.val k.val) := by
  have h : mask (ix2 q k) = isCtx (ix2 q k) ||| (isLat (ix2 q k) &&& isNear (ix2 q k)) := rfl
  rw [h, isCtx_at, isLat_at, isNear_at]
  unfold reads
  rw [Bool.decide_and (256 ≤ q.val)]
  have e : ∀ a b c : Bool, BitVec.ofBool a ||| (BitVec.ofBool b &&& BitVec.ofBool c) = BitVec.ofBool (a || (b && c)) := by decide
  exact e _ _ _

/-- A logit at a key: its score where the mask is set, −∞ elsewhere. -/
theorem logits_key (s : FVec Ideal S2x2x4x8448x8448 .f32) (w : IVec S8448x8448 1) (T : FVec Ideal S8 .f32) (b : Fin 2) (g : Fin 2) (r : Fin 4) (q : Fin 8448) (k : Fin 8449)
    (hk : k.val < 8448) : logits s w T (ix5 b g r q k) = Scalar.select (w (ix2 q ⟨k.val, hk⟩)) (s (ix5 b g r q ⟨k.val, hk⟩)) (Ideal.ofBits .f32 0xFF800000#32) := by
  pointwise [logits]
  rw [dif_pos hk]
  rfl

/-- The last logit: the head's sink. -/
theorem logits_sink (s : FVec Ideal S2x2x4x8448x8448 .f32) (w : IVec S8448x8448 1) (T : FVec Ideal S8 .f32) (b : Fin 2) (g : Fin 2) (r : Fin 4) (q : Fin 8448) (k : Fin 8449)
    (hk : ¬ k.val < 8448) : logits s w T (ix5 b g r q k) = T (ix1 ⟨g.val * 4 + r.val, by omega⟩) := by
  pointwise [logits]
  rw [dif_neg hk]

/-- A weight before it is normalised. -/
theorem exps_at (s : FVec Ideal S2x2x4x8448x8449 .f32) (M : FVec Ideal S2x2x4x8448 .f32) (b : Fin 2) (g : Fin 2) (r : Fin 4) (q : Fin 8448) (k : Fin 8449) :
    exps s M (ix5 b g r q k) = Ideal.exp (s (ix5 b g r q k) - M (ix4 b g r q)) := by
  pointwise [exps]

/-- The result at a column: the values of the column weighted by the normalised weights, the sink only in the sum. -/
theorem out_at (s : FVec Ideal S2x2x4x8448x8449 .f32) (V : FVec Ideal S2x8448x256 .f32) (b : Fin 2) (q : Fin 8448) (k : Fin 1024) :
    out s V (ix3 b q k) = ∑ x : Fin 8448, V (ix3 b x ⟨k.val / 512 * 128 + k.val % 128, by omega⟩) *
        Ideal.div (s (ix5 b ⟨k.val / 512, by omega⟩ ⟨k.val / 128 % 4, by omega⟩ q ⟨x.val, by omega⟩))
          (∑ y : Fin 8449, s (ix5 b ⟨k.val / 512, by omega⟩ ⟨k.val / 128 % 4, by omega⟩ q y)) := by
  pointwise [out]

end Cert.Reference6Ideal.Term

end
-- ==== Proof.WinGroup.lean ====
/- One group of four heads in the windowed attention's kernel: one softmax over the window's 512 keys, the context's 256 and
   the sink. -/
module

public import proofs.«01_k».proof.Proof.Gen.Kernel6Ideal.Frame
public import proofs.«01_k».proof.Proof.WinMath
public import proofs.«01_k».proof.Proof.Online

@[expose] public section

set_option maxRecDepth 16384

noncomputable section

namespace Cert.Kernel6Ideal.Step

open Cert.Kernel6Ideal Cert.Kernel6Ideal.Gen Idealize.ShloMosaic Idealize.ShloMosaic.TcCoe Idealize.SL.Sem Cert.Attn
open Cert.KernelIdeal.Step (sum_split)

/-- A group's output from the biases, its queries, its window's and the context's keys, the sinks and the two blocks of values. -/
def grp (b : Vec Ideal S1x1024x512 .f32) (q : Vec Ideal S1x256x512 .f32) (kl : Vec Ideal S1x512x128 .bf16) (kc : Vec Ideal S1x256x128 .bf16)
    (sink : Vec Ideal S1x1024x1 .f32) (vl : Vec Ideal S1x512x128 .bf16) (vc : Vec Ideal S1x256x128 .bf16) : FVec Ideal S1024x128 .f32 :=
  k0_pay26
    (k0_pay22 (k0_pay6 b q kl) (k0_pay7 b q kl) (k0_pay8 b q kl) (k0_pay9 b q kl) (k0_pay10 q kc) (k0_pay11 q kc) (k0_pay12 sink))
    (k0_pay24 (k0_pay6 b q kl) (k0_pay7 b q kl) (k0_pay8 b q kl) (k0_pay9 b q kl) (k0_pay10 q kc) (k0_pay11 q kc) (k0_pay12 sink) vl)
    (k0_pay25 (k0_pay6 b q kl) (k0_pay7 b q kl) (k0_pay8 b q kl) (k0_pay9 b q kl) (k0_pay10 q kc) (k0_pay11 q kc) (k0_pay12 sink) vc)

/-- The second group's output, as the second half of the body computes it. -/
def grpB (b : Vec Ideal S1x1024x512 .f32) (q : Vec Ideal S1x256x512 .f32) (kl : Vec Ideal S1x512x128 .bf16) (kc : Vec Ideal S1x256x128 .bf16)
    (sink : Vec Ideal S1x1024x1 .f32) (vl : Vec Ideal S1x512x128 .bf16) (vc : Vec Ideal S1x256x128 .bf16) : FVec Ideal S1024x128 .f32 :=
  k0_pay55 (k0_pay48 (k0_pay2 b) (k0_pay31 q) (k0_pay32 q kl) kc sink) (k0_pay49 (k0_pay2 b) (k0_pay31 q) (k0_pay32 q kl) kc sink)
    (k0_pay50 (k0_pay2 b) (k0_pay31 q) (k0_pay32 q kl) kc sink) (k0_pay51 (k0_pay2 b) (k0_pay31 q) (k0_pay32 q kl) kc sink)
    (k0_pay52 (k0_pay2 b) (k0_pay31 q) (k0_pay32 q kl) kc sink) (k0_pay53 (k0_pay2 b) (k0_pay31 q) (k0_pay32 q kl) kc sink)
    (k0_pay54 (k0_pay2 b) (k0_pay31 q) (k0_pay32 q kl) kc sink) vl vc

/-- The second group is computed like the first. -/
theorem grp_eq (b : Vec Ideal S1x1024x512 .f32) (q : Vec Ideal S1x256x512 .f32) (kl : Vec Ideal S1x512x128 .bf16) (kc : Vec Ideal S1x256x128 .bf16)
    (sink : Vec Ideal S1x1024x1 .f32) (vl : Vec Ideal S1x512x128 .bf16) (vc : Vec Ideal S1x256x128 .bf16) :
    grpB b q kl kc sink vl vc = grp b q kl kc sink vl vc := rfl

/-- A group's output at an entry. -/
theorem grp_read (b : Vec Ideal S1x1024x512 .f32) (q : Vec Ideal S1x256x512 .f32) (kl : Vec Ideal S1x512x128 .bf16) (kc : Vec Ideal S1x256x128 .bf16)
    (sink : Vec Ideal S1x1024x1 .f32) (vl : Vec Ideal S1x512x128 .bf16) (vc : Vec Ideal S1x256x128 .bf16) (r : Fin 1024) (d : Fin 128)
    (zl : Fin 512 → EReal) (zc : Fin 256 → EReal) (τ σ : ℝ) (hl : ∀ c, k0_pay4 b q kl (ix2 r c) = zl c) (hc : ∀ c, ∑ x, k0_pay3 q (ix2 r x) * kc (ix3 0 c x) = zc c)
    (hτ : sink (ix3 0 r 0) = (τ : EReal)) (hσ : (τ : EReal) * (Named.named κ "log2e" 0x3FB8AA3B#32 : Ideal .f32) = (σ : EReal)) (tl : ∀ c, zl c ≠ ⊤) (tc : ∀ c, ∃ y : ℝ, zc c = y) :
    ∃ m : ℝ, grp b q kl kc sink vl vc (ix2 r d)
      = Ideal.div (∑ c, Ideal.exp2 (zl c - (m : EReal)) * vl (ix3 0 c d) + ∑ c, Ideal.exp2 (zc c - (m : EReal)) * vc (ix3 0 c d))
          (∑ c, Ideal.exp2 (zl c - (m : EReal)) + ∑ c, Ideal.exp2 (zc c - (m : EReal)) + Ideal.exp2 ((σ : EReal) - (m : EReal))) := by
  have hn : Ideal.ofBits .f32 0xFF800000#32 = ⊥ := by simp [Ideal.ofBits, Ideal.ieee]
  have he : ∀ x : Ideal .f32, FloatOps.exp2 x = Ideal.exp2 x := fun _ => rfl
  obtain ⟨M, hM⟩ := fold_max_real (n := 128) (fun l => max (max (max (max (max (zl ⟨l.val, by omega⟩) (zl ⟨128 + l.val, by omega⟩)) (zl ⟨256 + l.val, by omega⟩))
    (zl ⟨384 + l.val, by omega⟩)) (zc ⟨l.val, by omega⟩)) (zc ⟨128 + l.val, by omega⟩))
    (fun l => max_real_right (max_below (max_below (max_below (max_below (tl _) (tl _)) (tl _)) (tl _))
      (by obtain ⟨y, hy⟩ := tc ⟨l.val, by omega⟩; rw [hy]; exact EReal.coe_ne_top y)) (tc _))
  obtain ⟨m, hm⟩ := max_real_right (EReal.coe_ne_top M) ⟨σ, rfl⟩
  refine ⟨m, ?_⟩
  unfold grp
  pointwise [k0_pay26, k0_pay22, k0_pay24, k0_pay25, k0_pay23, k0_pay16, k0_pay17, k0_pay18, k0_pay19, k0_pay20, k0_pay21, k0_pay15, k0_pay14, k0_pay13, k0_pay12, k0_pay6, k0_pay7, k0_pay8, k0_pay9, k0_pay10, k0_pay11, k0_pay5]
  simp only [hl, hc, hτ, hσ, hn, hM, hm, he]
  refine congrArg₂ Ideal.div (congrArg₂ (· + ·) (Finset.sum_congr rfl fun c _ => congrArg (· * _) ?_) (Finset.sum_congr rfl fun c _ => congrArg (· * _) ?_))
    (congrArg (· + _) ?_)
  · have key : ∀ e : Fin 512, e = c → Ideal.exp2 (zl e - (m : EReal)) = Ideal.exp2 (zl c - (m : EReal)) := fun e h => by rw [h]
    split_ifs <;> first
      | exact key _ (Fin.ext (by first | omega | (dsimp only; omega)))
      | omega
  · have key : ∀ e : Fin 256, e = c → Ideal.exp2 (zc e - (m : EReal)) = Ideal.exp2 (zc c - (m : EReal)) := fun e h => by rw [h]
    split_ifs <;> first
      | omega
      | exact key _ (Fin.ext (by first | omega | (dsimp only; omega)))
  · rw [← sum_split (a := 4) (b := 128) rfl, ← sum_split (a := 2) (b := 128) rfl, Fin.sum_univ_four, Fin.sum_univ_two]
    simp only [Finset.sum_add_distrib, Fin.val_zero, Fin.val_one, Fin.val_two, zero_mul, one_mul, zero_add, Nat.reduceMul]
    rw [add_assoc]
    rfl

end Cert.Kernel6Ideal.Step

end
-- ==== Proof.WinPoint.lean ====
/- A point's block in the windowed attention: the eight heads of two groups' outputs, from the loads of the staged blocks. -/
module

public import proofs.«01_k».proof.Proof.WinGroup
public import proofs.«01_k».proof.Proof.Point

@[expose] public section

set_option maxRecDepth 16384

noncomputable section

namespace Cert.Kernel6Ideal.Step

open Cert.Kernel6Ideal Cert.Kernel6Ideal.Gen Idealize.ShloMosaic Idealize.ShloMosaic.TcCoe Idealize.SL.Sem Cert.Attn
open Cert.KernelIdeal.Step (ld_unit left left_at right right_at ctx0 ctx0_at ctx1 ctx1_at heads heads_at)

/-- The row of the keys at which the window of tile `n` starts. -/
def start (n : ℕ) : ℕ := 256 + min 7680 ((n - 1) * 256 - 128)

/-- The window's first group's 512 keys (or values). -/
def band0 (i : grid0.Coords) (x : Vec Ideal S1x8448x256 .bf16) : Vec Ideal S1x512x128 .bf16 :=
  View.ld x (Rect.unit (s := S1x8448x256) (k0_off1 i) S1x512x128.size (k0_off1_inb i))

/-- The window's second group's 512 keys (or values). -/
def band1 (i : grid0.Coords) (x : Vec Ideal S1x8448x256 .bf16) : Vec Ideal S1x512x128 .bf16 :=
  View.ld x (Rect.unit (s := S1x8448x256) (k0_off2 i) S1x512x128.size (k0_off2_inb i))

/-- The first group's keys of the window, read at an entry. -/
theorem band0_at (i : grid0.Coords) (s : ℕ) (h : k0_off1 i = ![0, s, 0]) (x : Vec Ideal S1x8448x256 .bf16) (a : Fin 512) (b : Fin 128) (A : Fin 8448) (B : Fin 256)
    (hA : A.val = s + a.val) (hB : B.val = 0 + b.val) : band0 i x (ix3 0 a b) = x (ix3 0 A B) :=
  ld_unit x _ _ _ _ _ fun k => match k with
    | ⟨0, _⟩ => ((congrArg (· + 0) (congrFun h 0)).trans rfl).symm
    | ⟨1, _⟩ => hA.trans (congrArg (· + a.val) (congrFun h 1)).symm
    | ⟨2, _⟩ => hB.trans (congrArg (· + b.val) (congrFun h 2)).symm

/-- The second group's keys of the window, read at an entry. -/
theorem band1_at (i : grid0.Coords) (s : ℕ) (h : k0_off2 i = ![0, s, 128]) (x : Vec Ideal S1x8448x256 .bf16) (a : Fin 512) (b : Fin 128) (A : Fin 8448) (B : Fin 256)
    (hA : A.val = s + a.val) (hB : B.val = 128 + b.val) : band1 i x (ix3 0 a b) = x (ix3 0 A B) :=
  ld_unit x _ _ _ _ _ fun k => match k with
    | ⟨0, _⟩ => ((congrArg (· + 0) (congrFun h 0)).trans rfl).symm
    | ⟨1, _⟩ => hA.trans (congrArg (· + a.val) (congrFun h 1)).symm
    | ⟨2, _⟩ => hB.trans (congrArg (· + b.val) (congrFun h 2)).symm

/-- The first group's column of sinks. -/
def sink0 (x : Vec Ideal S2x1024x1 .f32) : Vec Ideal S1x1024x1 .f32 :=
  View.ld x (Rect.unit (s := S2x1024x1) ![0, 0, 0] S1x1024x1.size inb_S2x1024x1_S1x1024x1_0_0_0)

/-- It, read at an entry. -/
theorem sink0_at (x : Vec Ideal S2x1024x1 .f32) (r : Fin 1024) : sink0 x (ix3 0 r 0) = x (ix3 0 r 0) :=
  ld_unit x _ _ _ _ _ fun k => match k with
    | ⟨0, _⟩ => rfl
    | ⟨1, _⟩ => (Nat.zero_add _).symm
    | ⟨2, _⟩ => rfl

/-- The second group's column of sinks. -/
def sink1 (x : Vec Ideal S2x1024x1 .f32) : Vec Ideal S1x1024x1 .f32 :=
  View.ld x (Rect.unit (s := S2x1024x1) ![1, 0, 0] S1x1024x1.size inb_S2x1024x1_S1x1024x1_1_0_0)

/-- It, read at an entry. -/
theorem sink1_at (x : Vec Ideal S2x1024x1 .f32) (r : Fin 1024) : sink1 x (ix3 0 r 0) = x (ix3 1 r 0) :=
  ld_unit x _ _ _ _ _ fun k => match k with
    | ⟨0, _⟩ => rfl
    | ⟨1, _⟩ => (Nat.zero_add _).symm
    | ⟨2, _⟩ => rfl

/-- A window's scores: the scaled queries against its keys, plus the bias. -/
theorem score_at (b : Vec Ideal S1x1024x512 .f32) (q : Vec Ideal S1x256x512 .f32) (k : Vec Ideal S1x512x128 .bf16) (r : Fin 1024) (c : Fin 512) :
    k0_pay4 b q k (ix2 r c) = ∑ x : Fin 128, k0_pay3 q (ix2 r x) * k (ix3 0 c x) + b (ix3 0 r c) := by
  unfold k0_pay4
  generalize k0_pay3 q = Q
  pointwise [k0_pay2]

/-- The queries are stacked as in the dense attention. -/
theorem pay3_eq : k0_pay3 (F := Ideal) = Cert.KernelIdeal.Gen.k0_pay1 (F := Ideal) := rfl

variable (c : Dev nD) (i : grid0.Coords) (arg2 : Memref sig .tc .vmem S1x256x1024 .f32) (harg2 : arg2.IsWhole) (arg3 : Memref sig .tc .vmem S1x8448x256 .bf16) (harg3 : arg3.IsWhole) (arg4 : Memref sig .tc .vmem S1x8448x256 .bf16) (harg4 : arg4.IsWhole) (arg5 : Memref sig .tc .vmem S2x1024x1 .f32) (harg5 : arg5.IsWhole) (arg6 : Memref sig .tc .vmem S1x1024x512 .f32) (harg6 : arg6.IsWhole) (arg7 : Memref sig .tc .vmem S1x256x1024 .bf16) (harg7 : arg7.IsWhole)
  (x0 : Vec Ideal S1x256x1024 .f32) (x1 : Vec Ideal S1x8448x256 .bf16) (x2 : Vec Ideal S1x8448x256 .bf16) (x3 : Vec Ideal S2x1024x1 .f32) (x4 : Vec Ideal S1x1024x512 .f32)

/-- A point: both groups' heads side by side. -/
theorem out_A :
    out0_A_5 c i arg2 harg2 arg3 harg3 arg4 harg4 arg5 harg5 arg6 harg6 arg7 harg7 x0 x1 x2 x3 x4
      = heads (grp x4 (left x0) (band0 i x1) (ctx0 x1) (sink0 x3) (band0 i x2) (ctx0 x2))
          (grp x4 (right x0) (band1 i x1) (ctx1 x1) (sink1 x3) (band1 i x2) (ctx1 x2)) := by
  rw [← grp_eq x4 (right x0)]
  frame_out
  rfl

end Cert.Kernel6Ideal.Step

end
-- ==== Proof.WinEntry.lean ====
/- What a point's block of the windowed attention holds at each entry, of real queries, keys and sinks: the attention of that
   query's head over the keys it may read, with its sink. -/
module

public import proofs.«01_k».proof.Proof.WinPoint
public import proofs.«01_k».proof.Proof.Entry

@[expose] public section

set_option maxRecDepth 16384

noncomputable section

namespace Cert.Kernel6Ideal.Step

open Cert.Kernel6Ideal Cert.Kernel6Ideal.Gen Idealize.ShloMosaic Idealize.ShloMosaic.TcCoe Idealize.SL.Sem Cert.Attn
open Cert.KernelIdeal.Step (left left_at right right_at ctx0 ctx0_at ctx1 ctx1_at heads_at c0 stack_at score_real rowQ rowQ_eq left_real right_real)

/-- A score with its bias is the masked score. -/
theorem sc_add (p : Bool) (y : ℝ) : (y : EReal) + (if p then 0 else ⊥) = sc p y := by
  unfold sc
  split_ifs
  · exact add_zero _
  · exact EReal.add_bot _

/-- The sink times its named factor. -/
theorem sink_scale (τ : ℝ) : (τ : EReal) * (Named.named κ "log2e" 0x3FB8AA3B#32 : Ideal .f32) = ((τ * (Real.log 2)⁻¹ : ℝ) : EReal) :=
  (EReal.coe_mul τ (Real.log 2)⁻¹).symm

/-- A GROUP'S OUTPUT at an entry is the attention over the keys read, with the sink. -/
theorem grp_at (b : Vec Ideal S1x1024x512 .f32) (q : Vec Ideal S1x256x512 .f32) (kl : Vec Ideal S1x512x128 .bf16) (kc : Vec Ideal S1x256x128 .bf16)
    (sink : Vec Ideal S1x1024x1 .f32) (vl : Vec Ideal S1x512x128 .bf16) (vc : Vec Ideal S1x256x128 .bf16) (ρ : Fin 1024) (d : Fin 128)
    (s : ℕ) (h0 : 256 ≤ s) (hs : s + 512 ≤ 8448) (p : Fin 8448 → Bool) (hp : ∀ k, 256 ≤ k.val → (k.val < s ∨ s + 512 ≤ k.val) → p k = false)
    (hc : ∀ k, p (ctxKey k) = true) (Q : Fin 128 → ℝ) (K : Fin 8448 → Fin 128 → ℝ) (τ : ℝ) (v : Fin 8448 → EReal)
    (hb : ∀ c, b (ix3 0 ρ c) = if p (bandKey s hs c) then 0 else ⊥) (hq : ∀ x, k0_pay3 q (ix2 ρ x) = (Q x : EReal) * (c0 : EReal))
    (hkl : ∀ c x, kl (ix3 0 c x) = (K (bandKey s hs c) x : EReal)) (hkc : ∀ c x, kc (ix3 0 c x) = (K (ctxKey c) x : EReal))
    (hτ : sink (ix3 0 ρ 0) = (τ : EReal)) (hvl : ∀ c, vl (ix3 0 c d) = v (bandKey s hs c)) (hvc : ∀ c, vc (ix3 0 c d) = v (ctxKey c)) :
    grp b q kl kc sink vl vc (ix2 ρ d) = sinkAtt p (fun k => dot Q (K k)) τ v := by
  obtain ⟨m, hm⟩ := grp_read b q kl kc sink vl vc ρ d (fun c => sc (p (bandKey s hs c)) (dot Q (K (bandKey s hs c)) * (Real.log 2)⁻¹))
    (fun c => sc (p (ctxKey c)) (dot Q (K (ctxKey c)) * (Real.log 2)⁻¹)) τ (τ * (Real.log 2)⁻¹)
    (fun c => by rw [score_at, score_real _ _ Q (K (bandKey s hs c)) hq (hkl c), hb, sc_add])
    (fun c => by rw [score_real _ _ Q (K (ctxKey c)) hq (hkc c), hc]; rfl)
    hτ (sink_scale τ) (fun c => sc_ne_top _ _) (fun c => ⟨_, by rw [hc]; rfl⟩)
  rw [hm, ← sinkAtt_of_band p (fun k => dot Q (K k)) τ v m s h0 hs hp]
  simp only [hvl, hvc]

variable (c : Dev nD) (i : grid0.Coords) (arg2 : Memref sig .tc .vmem S1x256x1024 .f32) (harg2 : arg2.IsWhole) (arg3 : Memref sig .tc .vmem S1x8448x256 .bf16) (harg3 : arg3.IsWhole) (arg4 : Memref sig .tc .vmem S1x8448x256 .bf16) (harg4 : arg4.IsWhole) (arg5 : Memref sig .tc .vmem S2x1024x1 .f32) (harg5 : arg5.IsWhole) (arg6 : Memref sig .tc .vmem S1x1024x512 .f32) (harg6 : arg6.IsWhole) (arg7 : Memref sig .tc .vmem S1x256x1024 .bf16) (harg7 : arg7.IsWhole)
  (x0 : Vec Ideal S1x256x1024 .f32) (x1 : Vec Ideal S1x8448x256 .bf16) (x2 : Vec Ideal S1x8448x256 .bf16) (x3 : Vec Ideal S2x1024x1 .f32) (x4 : Vec Ideal S1x1024x512 .f32)

/-- A POINT at an entry. -/
theorem out_A_at (s : ℕ) (h0 : 256 ≤ s) (hs : s + 512 ≤ 8448) (o0 : k0_off1 i = ![0, s, 0]) (o1 : k0_off2 i = ![0, s, 128])
    (Q : Fin 256 → Fin 1024 → ℝ) (hQ : ∀ r j, x0 (ix3 0 r j) = (Q r j : EReal))
    (K : Fin 8448 → Fin 256 → ℝ) (hK : ∀ k x, x1 (ix3 0 k x) = (K k x : EReal))
    (T : Fin 8 → ℝ) (hT : ∀ (g : Fin 2) (ρ : Fin 1024), x3 (ix3 g ρ 0) = (T ⟨g.val * 4 + ρ.val / 256, by omega⟩ : EReal))
    (p : Fin 256 → Fin 8448 → Bool) (hp : ∀ r k, 256 ≤ k.val → (k.val < s ∨ s + 512 ≤ k.val) → p r k = false) (hc : ∀ r k, p r (ctxKey k) = true)
    (hb : ∀ (ρ : Fin 1024) (c : Fin 512), x4 (ix3 0 ρ c) = if p ⟨ρ.val % 256, by omega⟩ (bandKey s hs c) then 0 else ⊥)
    (r : Fin 256) (j : Fin 1024) :
    out0_A_5 c i arg2 harg2 arg3 harg3 arg4 harg4 arg5 harg5 arg6 harg6 arg7 harg7 x0 x1 x2 x3 x4 (ix3 0 r j)
      = sinkAtt (p r) (fun k => dot (headOf (Q r) j) (groupOf (K k) j)) (T ⟨j.val / 128, by omega⟩) (fun k => x2 (ix3 0 k (valCol j))) := by
  have er : (⟨(j.val / 128 % 4 * 256 + r.val) % 256, by omega⟩ : Fin 256) = r := Fin.ext (by dsimp only; omega)
  rw [out_A, heads_at]
  split_ifs with h
  · rw [grp_at _ _ _ _ _ _ _ _ _ s h0 hs (p r) (hp r) (hc r) (rowQ Q 0 (by omega) _) (fun k x => K k ⟨0 + x.val, by omega⟩) (T ⟨j.val / 128, by omega⟩)
      (fun k => x2 (ix3 0 k (valCol j))) (fun c => by rw [hb, er]) (fun x => left_real x0 Q hQ _ x)
      (fun k x => (band0_at i s o0 x1 k x (bandKey s hs k) ⟨0 + x.val, by omega⟩ rfl rfl).trans (hK _ _))
      (fun k x => by rw [ctx0_at, hK]; rfl)
      (by rw [sink0_at, hT]; exact congrArg (fun z => ((T z : ℝ) : EReal)) (Fin.ext (by dsimp only [Fin.val_zero]; omega)))
      (fun k => band0_at i s o0 x2 k _ (bandKey s hs k) (valCol j) rfl (by dsimp only [valCol]; omega))
      (fun k => by rw [ctx0_at]; exact congrArg (fun z => x2 (ix3 0 _ z)) (Fin.ext (by dsimp only [valCol]; omega))), rowQ_eq Q 0 _ r j (by omega)]
    refine congrArg (fun f => sinkAtt (p r) f _ _) (funext fun k => congrArg (dot _) (funext fun x => ?_))
    exact congrArg (K _) (Fin.ext (by dsimp only; omega))
  · rw [grp_at _ _ _ _ _ _ _ _ _ s h0 hs (p r) (hp r) (hc r) (rowQ Q 512 le_rfl _) (fun k x => K k ⟨128 + x.val, by omega⟩) (T ⟨j.val / 128, by omega⟩)
      (fun k => x2 (ix3 0 k (valCol j))) (fun c => by rw [hb, er]) (fun x => right_real x0 Q hQ _ x)
      (fun k x => (band1_at i s o1 x1 k x (bandKey s hs k) ⟨128 + x.val, by omega⟩ rfl rfl).trans (hK _ _))
      (fun k x => by rw [ctx1_at, hK]; rfl)
      (by rw [sink1_at, hT]; exact congrArg (fun z => ((T z : ℝ) : EReal)) (Fin.ext (by dsimp only [Fin.val_one]; omega)))
      (fun k => band1_at i s o1 x2 k _ (bandKey s hs k) (valCol j) rfl (by dsimp only [valCol]; omega))
      (fun k => by rw [ctx1_at]; exact congrArg (fun z => x2 (ix3 0 _ z)) (Fin.ext (by dsimp only [valCol]; omega))), rowQ_eq Q 512 _ r j (by omega)]
    refine congrArg (fun f => sinkAtt (p r) f _ _) (funext fun k => congrArg (dot _) (funext fun x => ?_))
    exact congrArg (K _) (Fin.ext (by dsimp only; omega))

end Cert.Kernel6Ideal.Step

end
-- ==== Proof.WinHost.lean ====
/- The windowed attention's table of biases, as the host computes it, read at an entry. -/
module

public import proofs.«01_k».proof.Proof.Gen.Kernel6Ideal.Value
public import proofs.«01_k».proof.Proof.WinWords

@[expose] public section

set_option maxRecDepth 16384

noncomputable section

namespace Cert.Kernel6Ideal.Step

open Cert.Kernel6Ideal Cert.Kernel6Ideal.Gen Idealize.ShloMosaic Idealize.ShloMosaic.TcCoe Idealize.SL.Sem Cert.Attn

/-- Which columns of a window each row's latent reads, the window's first column `off` before the row's own. -/
def band (off : BitVec 32) : Vec Ideal S256x512 .i1 :=
  cmpi .sle (absi (subi (broadcastInDim S256x512 ![0, 1] bcast_S1x512_S256x512_0_1 (subi (broadcastInDim S1x512 ![1] bcast_S512_S1x512_1 (iotaInDim S512 32 0)) (broadcastInDim S1x512 ![] bcast_S_S1x512 (constantI S_ 32 off))))
    (broadcastInDim S256x512 ![0, 1] bcast_S256x1_S256x512_0_1 (broadcastInDim S256x1 ![0] bcast_S256_S256x1_0 (iotaInDim S256 32 0))))) (broadcastInDim S256x512 ![] bcast_S_S256x512 (constantI S_ 32 128#32))

/-- The table of biases the host builds. -/
def bias : Vec Ideal S4x1024x512 .f32 :=
  shapeCast S4x1024x512 (broadcastInDim S1x4x4x256x1x512 ![0, 1, 2, 3, 4, 5] bcast_S1x4x1x256x1x512_S1x4x4x256x1x512_0_1_2_3_4_5
    (shapeCast S1x4x1x256x1x512 (select (concatenate S4x256x512 0
      [⟨S1x256x512, broadcastInDim S1x256x512 ![1, 2] bcast_S256x512_S1x256x512_1_2 (band 0#32)⟩,
       ⟨S1x256x512, broadcastInDim S1x256x512 ![1, 2] bcast_S256x512_S1x256x512_1_2 (band 128#32)⟩,
       ⟨S1x256x512, broadcastInDim S1x256x512 ![1, 2] bcast_S256x512_S1x256x512_1_2 (band 256#32)⟩,
       ⟨S1x256x512, broadcastInDim S1x256x512 ![1, 2] bcast_S256x512_S1x256x512_1_2 (broadcastInDim S256x512 ![] bcast_S_S256x512 (constantI S_ 1 0#1))⟩] concatenates_S1x256x512_S1x256x512_S1x256x512_S1x256x512_S4x256x512_d0)
      (broadcastInDim S4x256x512 ![] bcast_S_S4x256x512 (constant S_ .f32 0x00000000#32) : FVec Ideal S4x256x512 .f32) (broadcastInDim S4x256x512 ![] bcast_S_S4x256x512 (constant S_ .f32 0xFF800000#32) : FVec Ideal S4x256x512 .f32))
      shapeCasts_S4x256x512_S1x4x1x256x1x512)) shapeCasts_S1x4x4x256x1x512_S4x1024x512

/-- A window's pattern at an entry: a row's latent reads the columns at most 128 away. -/
theorem band_at (o : ℕ) (ho : o ≤ 256) (r : Fin 256) (x : Fin 512) :
    band (BitVec.ofNat 32 o) (ix2 r x) = BitVec.ofBool (decide (x.val ≤ o + r.val + 128 ∧ o + r.val ≤ x.val + 128)) := by
  rw [← near_word x.val (o + r.val) (by omega) (by omega)]
  have h : IntOp.subi (IntOp.subi (BitVec.ofNat 32 x.val) (BitVec.ofNat 32 o)) (BitVec.ofNat 32 r.val) = IntOp.subi (BitVec.ofNat 32 x.val) (BitVec.ofNat 32 (o + r.val)) := by
    unfold IntOp.subi
    rw [BitVec.ofNat_add, sub_twice]
  rw [← h]
  pointwise [band]

/-- The table at an entry: 0 where the row's latent reads the column, −∞ elsewhere. -/
theorem bias_at (w : Fin 4) (r : Fin 1024) (x : Fin 512) :
    bias (ix3 w r x) = if decide (w.val < 3 ∧ x.val ≤ w.val * 128 + r.val % 256 + 128 ∧ w.val * 128 + r.val % 256 ≤ x.val + 128) then (0 : EReal) else ⊥ := by
  have hn : Ideal.ofBits .f32 0xFF800000#32 = ⊥ := by simp [Ideal.ofBits, Ideal.ieee]
  have hb := fun o ho => band_at o ho ⟨r.val % 256, by omega⟩ x
  pointwise [bias]
  rw [hn]
  have key : ∀ (z : BitVec 1) (p q : Bool), z = BitVec.ofBool p → p = q → Scalar.select z (0 : EReal) ⊥ = if q then (0 : EReal) else ⊥ := fun z p q hz hp => by
    rw [hz, hp, select_ofBool]
  by_cases a : w.val < 1
  · rw [dif_pos a]
    exact key _ _ _ (hb 0 (by omega)) (decide_eq_decide.mpr (by dsimp only; omega))
  rw [dif_neg a]
  by_cases b : w.val - 1 < 1
  · rw [dif_pos b]
    exact key _ _ _ (hb 128 (by omega)) (decide_eq_decide.mpr (by dsimp only; omega))
  rw [dif_neg b]
  by_cases d : w.val - 1 - 1 < 1
  · rw [dif_pos d]
    exact key _ _ _ (hb 256 (by omega)) (decide_eq_decide.mpr (by dsimp only; omega))
  rw [dif_neg d]
  exact key _ false _ rfl (decide_eq_false (by omega)).symm

end Cert.Kernel6Ideal.Step

end
-- ==== Proof.WinStage.lean ====
/- What the region finds of the host's work: the column of sinks and the table of biases. -/
module

public import proofs.«01_k».proof.Proof.Gen.Kernel6Ideal.Value
public import proofs.«01_k».proof.Proof.WinHost

@[expose] public section

set_option maxRecDepth 16384

noncomputable section

namespace Cert.Kernel6Ideal.Step

open Cert.Kernel6Ideal Cert.Kernel6Ideal.Gen Idealize.ShloMosaic Idealize.ShloMosaic.TcCoe Idealize.SL.Sem Cert.Attn

variable (m : (ℓ : Loc nD τ sig) → Buf (Elt Ideal) ℓ) (c : Dev nD)

set_option maxHeartbeats 4000000 in
/-- The column of sinks when the region starts: each head's sink repeated for the rows of its tile. -/
theorem V5 : V m c main_v5 = shapeCast S2x1024x1 (shapeCast S2x1024 (broadcastInDim S2x4x256 ![0, 1] bcast_S2x4_S2x4x256_0_1 (shapeCast S2x4 (m ((c : Thread nD τ).loc main_arg3)) shapeCasts_S8_S2x4)) shapeCasts_S2x4x256_S2x1024) shapeCasts_S2x1024_S2x1024x1 := rfl

set_option maxHeartbeats 4000000 in
/-- The table of biases when the region starts. -/
theorem V43 : V m c main_v43 = bias := rfl

end Cert.Kernel6Ideal.Step

end
-- ==== Proof.WinArray.lean ====
/- What the windowed attention's output array holds: at each entry the attention of its query over the keys it may read, with
   its head's sink. -/
module

public import proofs.«01_k».proof.Proof.WinEntry
public import proofs.«01_k».proof.Proof.WinStage

@[expose] public section

set_option maxRecDepth 16384

noncomputable section

namespace Cert.Attn

/-- THE WINDOWED ATTENTION of the layer: batch `b`, query `q`, column `j`. -/
def attendWin (Q : Fin 2 → Fin 8448 → Fin 1024 → ℝ) (K : Fin 2 → Fin 8448 → Fin 256 → ℝ) (T : Fin 8 → ℝ) (V : Fin 2 → Fin 8448 → Fin 256 → EReal)
    (b : Fin 2) (q : Fin 8448) (j : Fin 1024) : EReal :=
  sinkAtt (fun k : Fin 8448 => reads q.val k.val) (fun k => dot (headOf (Q b q) j) (groupOf (K b k) j)) (T ⟨j.val / 128, by omega⟩) (fun k => V b k (valCol j))

end Cert.Attn

namespace Cert.Kernel6Ideal.Step

open Cert.Kernel6Ideal Cert.Kernel6Ideal.Gen Idealize.ShloMosaic Idealize.ShloMosaic.TcCoe Idealize.SL.Sem Cert.Attn
open Idealize.ShloMosaic.Pipeline (Dat)

variable (m : (ℓ : Loc nD τ sig) → Buf (Elt Ideal) ℓ) (c : Dev nD)

/-- Which of the four tables of biases tile `n` takes. -/
def variant (n : ℕ) : ℕ := if n = 0 then 3 else if n = 1 then 0 else if n = 32 then 2 else 1

/-- Which block each window has at a point: the batch is `t / 33`, the tile of queries `t % 33`. -/
theorem idx : ∀ t : Fin cfg0.N, win0_0.index t = ![t.val / 33, t.val % 33, 0] ∧ win0_1.index t = ![t.val / 33, 0, 0] ∧ win0_2.index t = ![t.val / 33, 0, 0]
    ∧ win0_3.index t = ![0, 0, 0] ∧ win0_4.index t = ![variant (t.val % 33), 0, 0] ∧ win0_5.index t = ![t.val / 33, t.val % 33, 0] :=
  (by decide +kernel : ∀ t : Fin grid0.N, _)

/-- Where a point's window of keys starts. -/
theorem offs : ∀ t : Fin cfg0.N, k0_off1 (grid0.coords t) = ![0, start (t.val % 33), 0] ∧ k0_off2 (grid0.coords t) = ![0, start (t.val % 33), 128] :=
  (by decide +kernel : ∀ t : Fin grid0.N, _)

/-- The queries the region stages. -/
def argQ : Fin 2 → Fin 8448 → Fin 1024 → EReal := fun b q j => m ((c : Thread nD τ).loc main_arg0) (ix3 b q j)
/-- The keys. -/
def argK : Fin 2 → Fin 8448 → Fin 256 → EReal := fun b q j => m ((c : Thread nD τ).loc main_arg1) (ix3 b q j)
/-- The values. -/
def argV : Fin 2 → Fin 8448 → Fin 256 → EReal := fun b q j => m ((c : Thread nD τ).loc main_arg2) (ix3 b q j)
/-- The sinks. -/
def argT : Fin 8 → EReal := fun h => m ((c : Thread nD τ).loc main_arg3) (ix1 h)

/-- The grid has 66 points. -/
theorem lt_N (t : Fin cfg0.N) : t.val < 66 := lt_of_lt_of_eq t.isLt N_0

/-- A point's query block: 256 rows of its batch. -/
theorem qblk_at (t : Fin cfg0.N) (r : Fin 256) (j : Fin 1024) :
    (iblk m c 0 t : Vec Ideal S1x256x1024 .f32) (ix3 0 r j) = argQ m c ⟨t.val / 33, by have := lt_N t; omega⟩ ⟨t.val % 33 * 256 + r.val, by omega⟩ j := by
  unfold argQ
  blk_point [iblk, V, idx t]

/-- A point's keys: all of its batch. -/
theorem kblk_at (t : Fin cfg0.N) (k : Fin 8448) (j : Fin 256) :
    (iblk m c 1 t : Vec Ideal S1x8448x256 .bf16) (ix3 0 k j) = argK m c ⟨t.val / 33, by have := lt_N t; omega⟩ k j := by
  unfold argK
  blk_simp [iblk]
  entry_read
  pointwise
  blk_ext [idx t]

/-- A point's values: all of its batch. -/
theorem vblk_at (t : Fin cfg0.N) (k : Fin 8448) (j : Fin 256) :
    (iblk m c 2 t : Vec Ideal S1x8448x256 .bf16) (ix3 0 k j) = argV m c ⟨t.val / 33, by have := lt_N t; omega⟩ k j := by
  unfold argV
  blk_simp [iblk]
  entry_read
  pointwise
  blk_ext [idx t]

/-- The column of sinks: a row's group and head name the sink. -/
theorem tblk_at (t : Fin cfg0.N) (g : Fin 2) (ρ : Fin 1024) :
    (iblk m c 3 t : Vec Ideal S2x1024x1 .f32) (ix3 g ρ 0) = argT m c ⟨g.val * 4 + ρ.val / 256, by omega⟩ := by
  unfold argT
  blk_simp [iblk]
  rw [V5]
  pointwise
  blk_ext [idx t]

/-- A point's biases: the table of its tile's kind. -/
theorem bblk_at (t : Fin cfg0.N) (ρ : Fin 1024) (x : Fin 512) :
    (iblk m c 4 t : Vec Ideal S1x1024x512 .f32) (ix3 0 ρ x) = bias (ix3 ⟨variant (t.val % 33), by unfold variant; split_ifs <;> omega⟩ ρ x) := by
  blk_simp [iblk]
  rw [V43]
  blk_ext [idx t]

/-- The table of a tile's kind masks what its latents do not read, in the window. -/
theorem reads_bias (n : ℕ) (hn : n < 33) (r x : ℕ) (hr : r < 256) (hx : x < 512) :
    decide (variant n < 3 ∧ x ≤ variant n * 128 + r + 128 ∧ variant n * 128 + r ≤ x + 128) = reads (n * 256 + r) (start n + x) := by
  unfold reads start variant
  rw [← Bool.decide_or]
  refine decide_eq_decide.mpr ?_
  split_ifs <;> omega

/-- No query of a tile reads a latent's key outside of its window. -/
theorem reads_out (n : ℕ) (hn : n < 33) (r k : ℕ) (hr : r < 256) (hk : k < 8448) (h : 256 ≤ k) (ho : k < start n ∨ start n + 512 ≤ k) :
    reads (n * 256 + r) k = false := by
  unfold start at ho
  unfold reads
  rw [← Bool.decide_or]
  exact decide_eq_false (by omega)

/-- A tile's window lies within the latents' keys. -/
theorem start_in (n : ℕ) : 256 ≤ start n ∧ start n + 512 ≤ 8448 := by
  unfold start
  omega

variable (Q : Fin 2 → Fin 8448 → Fin 1024 → ℝ) (K : Fin 2 → Fin 8448 → Fin 256 → ℝ) (T : Fin 8 → ℝ)
  (hQ : ∀ b q j, argQ m c b q j = (Q b q j : EReal)) (hK : ∀ b q j, argK m c b q j = (K b q j : EReal)) (hT : ∀ h, argT m c h = (T h : EReal))
include hQ hK hT

/-- What a point leaves in its block, at an entry. -/
theorem point (t : Fin cfg0.N) (r : Fin 256) (j : Fin 1024) :
    outsAt0 m c t (ix3 0 r j)
      = attendWin Q K T (argV m c) ⟨t.val / 33, by have := lt_N t; omega⟩ ⟨t.val % 33 * 256 + r.val, by omega⟩ j := by
  have hq := fun r j => (qblk_at m c t r j).trans (hQ _ _ _)
  have hk := fun k x => (kblk_at m c t k x).trans (hK _ _ _)
  have ht := fun g ρ => (tblk_at m c t g ρ).trans (hT _)
  obtain ⟨s0, s1⟩ := start_in (t.val % 33)
  unfold outsAt0
  rw [out_A_at (s := start (t.val % 33)) (h0 := s0) (hs := s1) (o0 := (offs t).1) (o1 := (offs t).2) (hQ := hq) (hK := hk) (hT := ht)
    (p := fun r k => reads (t.val % 33 * 256 + r.val) k.val) (hp := fun r k h ho => reads_out _ (by omega) _ _ r.isLt k.isLt h ho)
    (hc := fun r k => by unfold reads; rw [← Bool.decide_or]; exact decide_eq_true (.inl k.isLt))
    (hb := fun ρ x => by rw [bblk_at, bias_at, reads_bias _ (by omega) _ _ (by omega) x.isLt]; rfl)]
  unfold attendWin
  exact congrArg (sinkAtt _ _ _) (funext fun k => vblk_at m c t _ _)

/-- THE OUTPUT ARRAY is the windowed attention. -/
theorem final : (dats m 0 c).arrAt 5 cfg0.N = fun y => attendWin Q K T (argV m c) (y 0) (y 1) (y 2) := by
  refine (dats m 0 c).arrAt_eq_of_covers 5 _ (by decide +kernel) fun t hf y => ?_
  rw [after0_5]
  blk_simp
  idx_vars y
  obtain rfl : y0 = 0 := Subsingleton.elim _ _
  rw [point m c Q K T hQ hK hT]
  have ht := lt_N t
  have e : ∀ (b : Fin 2) (q : Fin 8448) (j : Fin 1024) (b' : Fin 2) (q' : Fin 8448) (j' : Fin 1024), b.val = b'.val → q.val = q'.val → j.val = j'.val →
      attendWin Q K T (argV m c) b q j = attendWin Q K T (argV m c) b' q' j' := by
    intro b q j b' q' j' h0 h1 h2
    rw [Fin.ext h0, Fin.ext h1, Fin.ext h2]
  apply e
  · blk_simp [idx t]
    rfl
  all_goals (blk_simp [idx t] <;> try omega)

end Cert.Kernel6Ideal.Step

end
-- ==== Proof.WinEqual.lean ====
/- The windowed attention's reference is the attention the kernel computes, where the queries, the keys and the sinks are
   real. -/
module

public import proofs.«01_k».proof.Proof.WinRef
public import proofs.«01_k».proof.Proof.WinArray
public import proofs.«01_k».proof.Proof.Equation

@[expose] public section

set_option maxRecDepth 16384

noncomputable section

namespace Cert.Attn

open Idealize.ShloMosaic

/-- The maximum of values below +∞, one of them real, is real. -/
theorem fold_max_below {n : ℕ} (f : Fin n → EReal) (hf : ∀ k, f k ≠ ⊤) (k0 : Fin n) (h0 : ∃ r : ℝ, f k0 = r) : ∃ r : ℝ, Finset.univ.fold max ⊥ f = r := by
  have hb : ∀ t : Finset (Fin n), t.fold max ⊥ f ≠ ⊤ := by
    intro t
    induction t using Finset.induction_on with
    | empty => simp
    | insert a s ha ih =>
      rw [Finset.fold_insert ha]
      exact max_below (hf a) ih
  rw [← Finset.insert_erase (Finset.mem_univ k0), Finset.fold_insert (Finset.notMem_erase _ _), max_comm]
  exact max_real_right (hb _) h0

end Cert.Attn

namespace Cert.Reference6Ideal.Term

open Cert.Reference6Ideal Cert.Reference6Ideal.Gen Idealize.ShloMosaic Idealize.ShloMosaic.TcCoe Idealize.SL.Sem Cert.Attn

/-- A maximum along the last of five axes, from −∞, is a real when every entry is below +∞ and one of each row is real. -/
theorem hostMax_below {n0 n1 n2 n3 n4 : ℕ} {t u : Shape} (h : (⟨5, ![n0, n1, n2, n3, n4]⟩ : Shape).ReducesTo [4] t) (hu : 0 < u.numel)
    (x : FVec Ideal ⟨5, ![n0, n1, n2, n3, n4]⟩ .f32) (c : FVec Ideal u .f32) (hc : c (Shape.Idx.first hu) = (⊥ : EReal))
    (hx : ∀ i, x i ≠ (⊤ : EReal)) (k0 : Fin n4) (h0 : ∀ b g r q, ∃ y : ℝ, x (ix5 b g r q k0) = (y : EReal))
    (b : FVec Ideal t .f32) (hb : ∀ j, b j = (⊥ : EReal)) (j : t.Idx) :
    ∃ r : ℝ, maximumf b (Host.reduce FloatOps.maximumf x c h hu) j = (r : EReal) := by
  obtain ⟨r, hr⟩ : ∃ r : ℝ, Host.reduce FloatOps.maximumf x c h hu j = (r : EReal) := by
    rw [Host.reduce_eq_fold, h.fold_fiber_r5_a4, hc]
    exact Cert.Attn.fold_max_below _ (fun k => hx _) k0 (h0 _ _ _ _)
  refine ⟨r, ?_⟩
  show max (b j) (Host.reduce FloatOps.maximumf x c h hu j) = _
  rw [hr, hb, max_eq_right bot_le]

/-- The maximum of logits below +∞, the last of each row real, is real. -/
theorem top_real (s : FVec Ideal S2x2x4x8448x8449 .f32) (hs : ∀ i, s i ≠ (⊤ : EReal))
    (h0 : ∀ (b : Fin 2) (g : Fin 2) (r : Fin 4) (q : Fin 8448), ∃ x : ℝ, s (ix5 b g r q (Fin.last 8448)) = (x : EReal)) (j : S2x2x4x8448.Idx) :
    ∃ x : ℝ, top s j = (x : EReal) := by
  unfold top
  exact hostMax_below _ _ s _ Cert.ReferenceIdeal.Term.ofBits_negInf hs (Fin.last 8448) h0 _ (fun _ => Cert.ReferenceIdeal.Term.ofBits_negInf) j

variable (X : FVec Ideal S2x8448x1024 .f32) (Y Z : FVec Ideal S2x8448x256 .f32) (W : FVec Ideal S8 .f32)
  (Q : Fin 2 → Fin 8448 → Fin 1024 → ℝ) (K : Fin 2 → Fin 8448 → Fin 256 → ℝ) (T : Fin 8 → ℝ)
  (hQ : ∀ b q j, X (ix3 b q j) = (Q b q j : EReal)) (hK : ∀ b q j, Y (ix3 b q j) = (K b q j : EReal)) (hT : ∀ h, W (ix1 h) = (T h : EReal))

include hQ hK in
/-- A score at the head of column `j`. -/
theorem score_real (b : Fin 2) (g : Fin 2) (r : Fin 4) (q k : Fin 8448) (j : Fin 1024) (hg : g.val = j.val / 512) (hr : r.val = j.val / 128 % 4) :
    score X Y (ix5 b g r q k) = (dot (headOf (Q b q) j) (groupOf (K b k) j) : EReal) := by
  rw [score_at]
  refine Cert.ReferenceIdeal.Term.div_dot _ _ _ _ (fun x => ?_) (fun x => ?_)
  · rw [hQ]; exact congrArg (fun z => ((Q b _ z : ℝ) : EReal)) (Fin.ext (by dsimp only; omega))
  · rw [hK]; exact congrArg (fun z => ((K b k z : ℝ) : EReal)) (Fin.ext (by dsimp only; omega))

include hQ hK in
/-- A logit at a key: the masked score. -/
theorem logit_key (b : Fin 2) (g : Fin 2) (r : Fin 4) (q : Fin 8448) (k : Fin 8449) (hk : k.val < 8448) (j : Fin 1024) (hg : g.val = j.val / 512) (hr : r.val = j.val / 128 % 4) :
    logits (score X Y) mask W (ix5 b g r q k) = sc (reads q.val k.val) (dot (headOf (Q b q) j) (groupOf (K b ⟨k.val, hk⟩) j)) := by
  have hn : Ideal.ofBits .f32 0xFF800000#32 = ⊥ := by simp [Ideal.ofBits, Ideal.ieee]
  rw [logits_key _ _ _ _ _ _ _ _ hk, mask_at, select_ofBool, hn, score_real X Y Q K hQ hK b g r q ⟨k.val, hk⟩ j hg hr]
  rfl

include hQ hK hT in
/-- Every logit is below +∞. -/
theorem logit_below (i : S2x2x4x8448x8449.Idx) : logits (score X Y) mask W i ≠ (⊤ : EReal) := by
  idx_vars i
  by_cases hk : i4.val < 8448
  · rw [logit_key X Y W Q K hQ hK i0 i1 i2 i3 i4 hk ⟨i1.val * 512 + i2.val * 128, by omega⟩ (by dsimp only; omega) (by dsimp only; omega)]
    exact sc_ne_top _ _
  · rw [logits_sink _ _ _ _ _ _ _ _ hk, hT]
    exact EReal.coe_ne_top _

include hQ hK hT in
/-- THE REFERENCE is the windowed attention. -/
theorem ref_attend (b : Fin 2) (q : Fin 8448) (j : Fin 1024) : ref X Y Z W (ix3 b q j) = attendWin Q K T (fun b k d => Z (ix3 b k d)) b q j := by
  have hj := j.isLt
  obtain ⟨M, hM⟩ := top_real (logits (score X Y) mask W) (logit_below X Y W Q K T hQ hK hT)
    (fun b g r q => ⟨_, by rw [logits_sink _ _ _ _ _ _ _ _ (lt_irrefl 8448), hT]⟩) (ix4 b ⟨j.val / 512, by omega⟩ ⟨j.val / 128 % 4, by omega⟩ q)
  unfold ref
  rw [out_at]
  have hs : ∀ k : Fin 8448, logits (score X Y) mask W (ix5 b ⟨j.val / 512, by omega⟩ ⟨j.val / 128 % 4, by omega⟩ q ⟨k.val, by omega⟩)
      = sc (reads q.val k.val) (dot (headOf (Q b q) j) (groupOf (K b k) j)) := fun k =>
    logit_key X Y W Q K hQ hK b ⟨j.val / 512, by omega⟩ ⟨j.val / 128 % 4, by omega⟩ q ⟨k.val, by omega⟩ k.isLt j rfl rfl
  have hl : logits (score X Y) mask W (ix5 b ⟨j.val / 512, by omega⟩ ⟨j.val / 128 % 4, by omega⟩ q (Fin.last 8448)) = (T ⟨j.val / 128, by omega⟩ : EReal) := by
    rw [logits_sink _ _ _ _ _ _ _ _ (lt_irrefl 8448), hT]
    exact congrArg (fun z => ((T z : ℝ) : EReal)) (Fin.ext (by dsimp only; omega))
  have hsum : ∀ f : Fin 8449 → EReal, ∑ y, f y = ∑ y : Fin 8448, f ⟨y.val, by omega⟩ + f (Fin.last 8448) := fun f => Fin.sum_univ_castSucc f
  rw [hsum]
  simp only [exps_at, hM, hs, hl]
  unfold attendWin
  rw [← sinkAtt_of_exp _ _ _ _ M]
  exact Finset.sum_congr rfl fun k _ => rfl

end Cert.Reference6Ideal.Term

end
-- ==== Proof.WinPrecond.lean ====
/- What the windowed attention's precondition says: every query, every key and every sink is a real number. -/
module

public import proofs.«01_k».proof.Proof.Precond

@[expose] public section

set_option maxRecDepth 16384

noncomputable section

namespace Cert.Pre_finite6

open Cert.Pre_finite6 Idealize.ShloMosaic Idealize.ShloMosaic.TcCoe

/-- Where the precondition holds the queries, the keys and the sinks are real. -/
theorem finite [Facts] (Q : FVec Ideal S2x8448x1024 .f32) (K V : FVec Ideal S2x8448x256 .f32) (T : FVec Ideal S8 .f32) (h : fn (F := Ideal) Q K V T = fun _ => 1#1) :
    (∀ i, ∃ r : ℝ, Q i = (r : EReal)) ∧ (∀ i, ∃ r : ℝ, K i = (r : EReal)) ∧ (∀ i, ∃ r : ℝ, T i = (r : EReal)) := by
  have h0 := congrFun h (Shape.Idx.first Facts.h_S_)
  unfold fn at h0
  dsimp only at h0
  have split : ∀ a b : BitVec 1, a &&& b = 1#1 → a = 1#1 ∧ b = 1#1 := by decide
  obtain ⟨hqk, ht⟩ := split _ _ h0
  obtain ⟨hq, hk⟩ := split _ _ hqk
  haveI : Subsingleton S_.Idx := ⟨fun a b => funext fun k => k.elim0⟩
  exact ⟨fun i => Cert.Pre_finite.real_of_lt Q _ i Cert.Pre_finite.ofBits_inf (Host.reduce_andi_all _ _ _ _ _ hq i),
    fun i => Cert.Pre_finite.real_of_lt K _ i Cert.Pre_finite.ofBits_inf (Host.reduce_andi_all _ _ _ _ _ hk i),
    fun i => Cert.Pre_finite.real_of_lt T _ i Cert.Pre_finite.ofBits_inf (Host.reduce_andi_all _ _ _ _ _ ht i)⟩

end Cert.Pre_finite6

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite
public import proofs.«01_k».proof.Proof.Array
public import proofs.«01_k».proof.Proof.Precond
public import proofs.«01_k».proof.Proof.Equation
public import proofs.«01_k».proof.Proof.OutprojKernel
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.InprojEqual
public import proofs.«01_k».proof.Proof.OddEqual
public import proofs.«01_k».proof.Proof.OutprojLast
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.WinEqual
public import proofs.«01_k».proof.Proof.WinPrecond
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference ends with its arguments unchanged and its counters at zero, from any memory. -/
theorem reference_frame : quiescent_ReferenceIdeal := by
  intro m g _
  exact θ_run_mono (Cert.ReferenceIdeal.Value.run m g) fun r h => ⟨fun c => (h c).2, sem_eq_zero_of_no_sems (by decide) r.2⟩

/-- The reference's result is the kernel's: both are the attention, where the queries and the keys are real. -/
theorem result_eq (m : (ℓ : Loc Cert.KernelIdeal.nD Cert.KernelIdeal.τ Cert.KernelIdeal.sig) → Buf (Elt Ideal) ℓ)
    (hpre : Pre_KernelIdeal_finite m) (c : Dev Cert.KernelIdeal.nD) :
    Cert.ReferenceIdeal.Term.ref (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      = (Cert.KernelIdeal.Gen.dats m 0 c).arrAt 3 Cert.KernelIdeal.cfg0.N := by
  obtain ⟨hq, hk⟩ := Cert.Pre_finite.finite _ _ _ (hpre c)
  choose Q hQ using hq
  choose K hK using hk
  rw [Cert.KernelIdeal.Step.final m c (fun b q j => Q (ix3 b q j)) (fun b q j => K (ix3 b q j)) (fun b q j => hQ _) (fun b q j => hK _)]
  funext y
  idx_vars y
  exact Cert.ReferenceIdeal.Term.ref_attend _ _ _ (fun b q j => Q (ix3 b q j)) (fun b q j => K (ix3 b q j)) (fun b q j => hQ _) (fun b q j => hK _) y0 y1 y2

/-- The kernel and the reference end with equal results. -/
theorem equal : algebraic_KernelIdeal_ReferenceIdeal_pre_finite := by
  pair_intro
  · run_from Cert.KernelIdeal.Value.run_blocks m g
  · run_from Cert.ReferenceIdeal.Value.run m' g'
    rw [Cert.ReferenceIdeal.Term.res_eq, (hagree c).1, (hagree c).2.1, (hagree c).2.2]
    exact result_eq m hpre c

/-- The output projection's reference ends with its arguments unchanged and its counters at zero, from any memory. -/
theorem reference2_frame : quiescent_Reference2Ideal := by
  intro m g _
  exact θ_run_mono (Cert.Reference2Ideal.Value.run m g) fun r h => ⟨fun c => (h c).2, sem_eq_zero_of_no_sems (by decide) r.2⟩

/-- The output projection's reference and kernel have one result. -/
theorem result2_eq (m : (ℓ : Loc Cert.Kernel2Ideal.nD Cert.Kernel2Ideal.τ Cert.Kernel2Ideal.sig) → Buf (Elt Ideal) ℓ) (c : Dev Cert.Kernel2Ideal.nD) :
    Cert.Reference2Ideal.Term.ref (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      = (Cert.Kernel2Ideal.Gen.dats m 0 c).arrAt 6 Cert.Kernel2Ideal.cfg0.N := by
  rw [Cert.Kernel2Ideal.Out.final m c]
  funext y
  idx_vars y
  exact Cert.Reference2Ideal.Term.ref_at _ _ _ _ _ _ y0 y1 y2

/-- The output projection's kernel and reference end with equal results. -/
theorem equal2 : algebraic_Kernel2Ideal_Reference2Ideal := by
  pair_intro
  · run_from Cert.Kernel2Ideal.Value.run_blocks m g
  · run_from Cert.Reference2Ideal.Value.run m' g'
    refine Eq.trans ?_ (result2_eq m c)
    obtain ⟨e0, e1, e2, e3, e4, e5⟩ := hagree c
    rw [← e0, ← e1, ← e2, ← e3, ← e4, ← e5]
    rfl

/-- The even layer's input projection: its reference ends with its arguments unchanged and its counters at zero, from any memory. -/
theorem reference3_frame : quiescent_Reference3Ideal := by
  intro m g _
  exact θ_run_mono (Cert.Reference3Ideal.Value.run m g) fun r h => ⟨fun c => (h c).2.2.2.2.2.2, sem_eq_zero_of_no_sems (by decide) r.2⟩

/-- The even layer's input projection: the kernel and the reference end with equal results, all six. -/
theorem equal3 : algebraic_Kernel3Ideal_Reference3Ideal := by
  pair_intro
  · run_from Cert.Kernel3Ideal.Value.run_blocks m g
  · run_from Cert.Reference3Ideal.Value.run m' g'
    · exact (Cert.Reference3Ideal.Value.val4_main_v178 _).symm.trans (Cert.Inproj.z_eq m m' c (hagree c))
    · exact (Cert.Reference3Ideal.Value.val4_main_v179 _).symm.trans (Cert.Inproj.xbc_eq m m' c (hagree c))
    · exact (Cert.Reference3Ideal.Value.val4_main_v180 _).symm.trans (Cert.Inproj.dt_eq m m' c (hagree c))
    · exact (Cert.Reference3Ideal.Value.val4_main_v181 _).symm.trans (Cert.Inproj.q_eq m m' c (hagree c))
    · exact (Cert.Reference3Ideal.Value.val4_main_v182 _).symm.trans (Cert.Inproj.k_eq m m' c (hagree c))
    · exact (Cert.Reference3Ideal.Value.val4_main_v183 _).symm.trans (Cert.Inproj.v_eq m m' c (hagree c))

/-- The odd layer's output projection: its reference ends with its arguments unchanged and its counters at zero, from any memory. -/
theorem reference4_frame : quiescent_Reference4Ideal := by
  intro m g _
  exact θ_run_mono (Cert.Reference4Ideal.Value.run m g) fun r h => ⟨fun c => (h c).2, sem_eq_zero_of_no_sems (by decide) r.2⟩

/-- The odd layer's output projection: its reference and kernel have one result. -/
theorem result4_eq (m : (ℓ : Loc Cert.Kernel4Ideal.nD Cert.Kernel4Ideal.τ Cert.Kernel4Ideal.sig) → Buf (Elt Ideal) ℓ) (c : Dev Cert.Kernel4Ideal.nD) :
    Cert.Reference4Ideal.Term.ref (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      = (Cert.Kernel4Ideal.Gen.dats m 0 c).arrAt 5 Cert.Kernel4Ideal.cfg0.N := by
  rw [Cert.Kernel4Ideal.Out.final m c]
  funext y
  idx_vars y
  exact Cert.Reference4Ideal.Term.ref_at _ _ _ _ _ y0 y1 y2

/-- The odd layer's output projection: the kernel and the reference end with equal results. -/
theorem equal4 : algebraic_Kernel4Ideal_Reference4Ideal := by
  pair_intro
  · run_from Cert.Kernel4Ideal.Value.run_blocks m g
  · run_from Cert.Reference4Ideal.Value.run m' g'
    refine Eq.trans ?_ (result4_eq m c)
    obtain ⟨e0, e1, e2, e3, e4⟩ := hagree c
    rw [← e0, ← e1, ← e2, ← e3, ← e4]
    rfl

/-- The odd layer's input projection: its reference ends with its arguments unchanged and its counters at zero, from any memory. -/
theorem reference5_frame : quiescent_Reference5Ideal := by
  intro m g _
  exact θ_run_mono (Cert.Reference5Ideal.Value.run m g) fun r h => ⟨fun c => (h c).2.2.2.2.2, sem_eq_zero_of_no_sems (by decide) r.2⟩

/-- The odd layer's input projection: the kernel and the reference end with equal results, all five. -/
theorem equal5 : algebraic_Kernel5Ideal_Reference5Ideal := by
  pair_intro
  · run_from Cert.Kernel5Ideal.Value.run_blocks m g
  · run_from Cert.Reference5Ideal.Value.run m' g'
    all_goals obtain ⟨e0, e1, e2, e3, e4, e5⟩ := hagree c
    · refine Eq.trans ?_ (Cert.Inproj.Odd.z_eq m c)
      rw [← e0, ← e1, ← e2, ← e3]
      rfl
    · refine Eq.trans ?_ (Cert.Inproj.Odd.xr_eq m c)
      rw [← e0, ← e1, ← e2, ← e3]
      rfl
    · refine Eq.trans ?_ (Cert.Inproj.Odd.q_eq m c)
      rw [← e0, ← e1, ← e2, ← e3, ← e4, ← e5]
      rfl
    · refine Eq.trans ?_ (Cert.Inproj.Odd.k_eq m c)
      rw [← e0, ← e1, ← e2, ← e3, ← e4, ← e5]
      rfl
    · refine Eq.trans ?_ (Cert.Inproj.Odd.v_eq m c)
      rw [← e0, ← e1, ← e2, ← e3]
      rfl

/-- The windowed attention: its reference ends with its arguments unchanged and its counters at zero, from any memory. -/
theorem reference6_frame : quiescent_Reference6Ideal := by
  intro m g _
  exact θ_run_mono (Cert.Reference6Ideal.Value.run m g) fun r h => ⟨fun c => (h c).2, sem_eq_zero_of_no_sems (by decide) r.2⟩

/-- The windowed attention: the reference's result is the kernel's, where the queries, the keys and the sinks are real. -/
theorem result6_eq (m : (ℓ : Loc Cert.Kernel6Ideal.nD Cert.Kernel6Ideal.τ Cert.Kernel6Ideal.sig) → Buf (Elt Ideal) ℓ)
    (hpre : Pre_Kernel6Ideal_finite6 m) (c : Dev Cert.Kernel6Ideal.nD) :
    Cert.Reference6Ideal.Term.ref (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      = (Cert.Kernel6Ideal.Gen.dats m 0 c).arrAt 5 Cert.Kernel6Ideal.cfg0.N := by
  obtain ⟨hq, hk, ht⟩ := Cert.Pre_finite6.finite _ _ _ _ (hpre c)
  choose Q hQ using hq
  choose K hK using hk
  choose T hT using ht
  rw [Cert.Kernel6Ideal.Step.final m c (fun b q j => Q (ix3 b q j)) (fun b q j => K (ix3 b q j)) (fun h => T (ix1 h)) (fun b q j => hQ _) (fun b q j => hK _) (fun h => hT _)]
  funext y
  idx_vars y
  exact Cert.Reference6Ideal.Term.ref_attend _ _ _ _ (fun b q j => Q (ix3 b q j)) (fun b q j => K (ix3 b q j)) (fun h => T (ix1 h)) (fun b q j => hQ _) (fun b q j => hK _)
    (fun h => hT _) y0 y1 y2

set_option maxRecDepth 16384 in
/-- The windowed attention: the kernel and the reference end with equal results. -/
theorem equal6 : algebraic_Kernel6Ideal_Reference6Ideal_pre_finite6 := by
  pair_intro
  · run_from Cert.Kernel6Ideal.Value.run_blocks m g
  · run_from Cert.Reference6Ideal.Value.run m' g'
    rw [Cert.Reference6Ideal.Term.res_eq, (hagree c).1, (hagree c).2.1, (hagree c).2.2.1, (hagree c).2.2.2]
    exact result6_eq m hpre c

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_finite6.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, fun m g _ => Cert.Kernel6Ideal.Gen.frame m g,
  reference6_frame, fun m g _ => reference6_frame m g trivial,
  IdealRules.named_const.statement _ _ _ _ _ rfl, equal, trivial, equal2,
  IdealRules.named_const.statement _ _ _ _ _ rfl, equal3, trivial, equal4,
  IdealRules.named_const.statement _ _ _ _ _ rfl, equal5,
  ⟨IdealRules.named_const.statement _ _ _ _ _ rfl, IdealRules.named_const.statement _ _ _ _ _ rfl⟩, equal6⟩

end Cert.Proof

end
